-- ==== Defs.lean ====
def Pre_Kernel [hPre_maps_in_range : Cert.Pre_maps_in_range.Facts] (m : (ℓ : Loc Cert.Kernel.nD Cert.Kernel.τ Cert.Kernel.sig) → Buf (Elt Bits) ℓ) : Prop :=
  ∀ c : Dev Cert.Kernel.nD,
    (Cert.Pre_maps_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_Reference [hPre_maps_in_range : Cert.Pre_maps_in_range.Facts] (m : (ℓ : Loc Cert.Reference.nD Cert.Reference.τ Cert.Reference.sig) → Buf (Elt Bits) ℓ) : Prop :=
  ∀ c : Dev Cert.Reference.nD,
    (Cert.Pre_maps_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def Pre_Ece (m : (ℓ : Loc Cert.Ece.nD Cert.Ece.τ Cert.Ece.sig) → Buf (Elt Bits) ℓ) : Prop :=
  True

def Pre_EceIdeal (m : (ℓ : Loc Cert.EceIdeal.nD Cert.EceIdeal.τ Cert.EceIdeal.sig) → Buf (Elt Ideal) ℓ) : Prop :=
  True

def Pre_EceIdeal_edges_ascend [hPre_edges_ascend : Cert.Pre_edges_ascend.Facts] (m : (ℓ : Loc Cert.EceIdeal.nD Cert.EceIdeal.τ Cert.EceIdeal.sig) → Buf (Elt Ideal) ℓ) : Prop :=
  ∀ c : Dev Cert.EceIdeal.nD,
    (Cert.Pre_edges_ascend.fn (F := Ideal) (m ((c.tc : Thread Cert.EceIdeal.nD Cert.EceIdeal.τ).loc Cert.EceIdeal.main_arg0)) (m ((c.tc : Thread Cert.EceIdeal.nD Cert.EceIdeal.τ).loc Cert.EceIdeal.main_arg1)) (m ((c.tc : Thread Cert.EceIdeal.nD Cert.EceIdeal.τ).loc Cert.EceIdeal.main_arg2))) = (fun _ => 1#1)

def Pre_EceReferenceIdeal (m : (ℓ : Loc Cert.EceReferenceIdeal.nD Cert.EceReferenceIdeal.τ Cert.EceReferenceIdeal.sig) → Buf (Elt Ideal) ℓ) : Prop :=
  True

def Pre_EceReferenceIdeal_edges_ascend [hPre_edges_ascend : Cert.Pre_edges_ascend.Facts] (m : (ℓ : Loc Cert.EceReferenceIdeal.nD Cert.EceReferenceIdeal.τ Cert.EceReferenceIdeal.sig) → Buf (Elt Ideal) ℓ) : Prop :=
  ∀ c : Dev Cert.EceReferenceIdeal.nD,
    (Cert.Pre_edges_ascend.fn (F := Ideal) (m ((c.tc : Thread Cert.EceReferenceIdeal.nD Cert.EceReferenceIdeal.τ).loc Cert.EceReferenceIdeal.main_arg0)) (m ((c.tc : Thread Cert.EceReferenceIdeal.nD Cert.EceReferenceIdeal.τ).loc Cert.EceReferenceIdeal.main_arg1)) (m ((c.tc : Thread Cert.EceReferenceIdeal.nD Cert.EceReferenceIdeal.τ).loc Cert.EceReferenceIdeal.main_arg2))) = (fun _ => 1#1)

def Pre_Conf (m : (ℓ : Loc Cert.Conf.nD Cert.Conf.τ Cert.Conf.sig) → Buf (Elt Bits) ℓ) : Prop :=
  True

def Pre_ConfIdeal (m : (ℓ : Loc Cert.ConfIdeal.nD Cert.ConfIdeal.τ Cert.ConfIdeal.sig) → Buf (Elt Ideal) ℓ) : Prop :=
  True

def Pre_ConfIdeal_one_maximum [hPre_one_maximum : Cert.Pre_one_maximum.Facts] (m : (ℓ : Loc Cert.ConfIdeal.nD Cert.ConfIdeal.τ Cert.ConfIdeal.sig) → Buf (Elt Ideal) ℓ) : Prop :=
  ∀ c : Dev Cert.ConfIdeal.nD,
    (Cert.Pre_one_maximum.fn (F := Ideal) (m ((c.tc : Thread Cert.ConfIdeal.nD Cert.ConfIdeal.τ).loc Cert.ConfIdeal.main_arg0)) (m ((c.tc : Thread Cert.ConfIdeal.nD Cert.ConfIdeal.τ).loc Cert.ConfIdeal.main_arg1))) = (fun _ => 1#1)

def Pre_ConfReferenceIdeal (m : (ℓ : Loc Cert.ConfReferenceIdeal.nD Cert.ConfReferenceIdeal.τ Cert.ConfReferenceIdeal.sig) → Buf (Elt Ideal) ℓ) : Prop :=
  True

def Pre_ConfReferenceIdeal_one_maximum [hPre_one_maximum : Cert.Pre_one_maximum.Facts] (m : (ℓ : Loc Cert.ConfReferenceIdeal.nD Cert.ConfReferenceIdeal.τ Cert.ConfReferenceIdeal.sig) → Buf (Elt Ideal) ℓ) : Prop :=
  ∀ c : Dev Cert.ConfReferenceIdeal.nD,
    (Cert.Pre_one_maximum.fn (F := Ideal) (m ((c.tc : Thread Cert.ConfReferenceIdeal.nD Cert.ConfReferenceIdeal.τ).loc Cert.ConfReferenceIdeal.main_arg0)) (m ((c.tc : Thread Cert.ConfReferenceIdeal.nD Cert.ConfReferenceIdeal.τ).loc Cert.ConfReferenceIdeal.main_arg1))) = (fun _ => 1#1)

def quiescent_Kernel [hKernel : Cert.Kernel.Facts] [hPre_maps_in_range : Cert.Pre_maps_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Reference [hReference : Cert.Reference.Facts] [hPre_maps_in_range : Cert.Pre_maps_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Ece [hEce : Cert.Ece.Facts] : Prop :=
  ∀ (m : (ℓ : Loc Cert.Ece.nD Cert.Ece.τ Cert.Ece.sig) → Buf (Elt Bits) ℓ) (g : Dev Cert.Ece.nD → PrngReg), Pre_Ece m →
    θ_run (Cert.Ece.defs (F := Bits)) (onTc (τ := Cert.Ece.τ) (Cert.Ece.main (F := Bits))) ⟨m, fun _ => 0, g⟩ (fun r => (∀ c : Dev Cert.Ece.nD,
      r.2.mem ((c.tc : Thread Cert.Ece.nD Cert.Ece.τ).loc Cert.Ece.main_arg0) = m ((c.tc : Thread Cert.Ece.nD Cert.Ece.τ).loc Cert.Ece.main_arg0)
      ∧ r.2.mem ((c.tc : Thread Cert.Ece.nD Cert.Ece.τ).loc Cert.Ece.main_arg1) = m ((c.tc : Thread Cert.Ece.nD Cert.Ece.τ).loc Cert.Ece.main_arg1)
      ∧ r.2.mem ((c.tc : Thread Cert.Ece.nD Cert.Ece.τ).loc Cert.Ece.main_arg2) = m ((c.tc : Thread Cert.Ece.nD Cert.Ece.τ).loc Cert.Ece.main_arg2))
      ∧ r.2.sem = fun _ => 0)

def quiescent_EceIdeal [hEceIdeal : Cert.EceIdeal.Facts] : Prop :=
  ∀ (m : (ℓ : Loc Cert.EceIdeal.nD Cert.EceIdeal.τ Cert.EceIdeal.sig) → Buf (Elt Ideal) ℓ) (g : Dev Cert.EceIdeal.nD → PrngReg), Pre_EceIdeal m →
    θ_run (Cert.EceIdeal.defs (F := Ideal)) (onTc (τ := Cert.EceIdeal.τ) (Cert.EceIdeal.main (F := Ideal))) ⟨m, fun _ => 0, g⟩ (fun r => (∀ c : Dev Cert.EceIdeal.nD,
      r.2.mem ((c.tc : Thread Cert.EceIdeal.nD Cert.EceIdeal.τ).loc Cert.EceIdeal.main_arg0) = m ((c.tc : Thread Cert.EceIdeal.nD Cert.EceIdeal.τ).loc Cert.EceIdeal.main_arg0)
      ∧ r.2.mem ((c.tc : Thread Cert.EceIdeal.nD Cert.EceIdeal.τ).loc Cert.EceIdeal.main_arg1) = m ((c.tc : Thread Cert.EceIdeal.nD Cert.EceIdeal.τ).loc Cert.EceIdeal.main_arg1)
      ∧ r.2.mem ((c.tc : Thread Cert.EceIdeal.nD Cert.EceIdeal.τ).loc Cert.EceIdeal.main_arg2) = m ((c.tc : Thread Cert.EceIdeal.nD Cert.EceIdeal.τ).loc Cert.EceIdeal.main_arg2))
      ∧ r.2.sem = fun _ => 0)

def quiescent_EceIdeal_pre_edges_ascend [hEceIdeal : Cert.EceIdeal.Facts] [hPre_edges_ascend : Cert.Pre_edges_ascend.Facts] : Prop :=
  ∀ (m : (ℓ : Loc Cert.EceIdeal.nD Cert.EceIdeal.τ Cert.EceIdeal.sig) → Buf (Elt Ideal) ℓ) (g : Dev Cert.EceIdeal.nD → PrngReg), Pre_EceIdeal_edges_ascend m →
    θ_run (Cert.EceIdeal.defs (F := Ideal)) (onTc (τ := Cert.EceIdeal.τ) (Cert.EceIdeal.main (F := Ideal))) ⟨m, fun _ => 0, g⟩ (fun r => (∀ c : Dev Cert.EceIdeal.nD,
      r.2.mem ((c.tc : Thread Cert.EceIdeal.nD Cert.EceIdeal.τ).loc Cert.EceIdeal.main_arg0) = m ((c.tc : Thread Cert.EceIdeal.nD Cert.EceIdeal.τ).loc Cert.EceIdeal.main_arg0)
      ∧ r.2.mem ((c.tc : Thread Cert.EceIdeal.nD Cert.EceIdeal.τ).loc Cert.EceIdeal.main_arg1) = m ((c.tc : Thread Cert.EceIdeal.nD Cert.EceIdeal.τ).loc Cert.EceIdeal.main_arg1)
      ∧ r.2.mem ((c.tc : Thread Cert.EceIdeal.nD Cert.EceIdeal.τ).loc Cert.EceIdeal.main_arg2) = m ((c.tc : Thread Cert.EceIdeal.nD Cert.EceIdeal.τ).loc Cert.EceIdeal.main_arg2))
      ∧ r.2.sem = fun _ => 0)

def quiescent_EceReferenceIdeal [hEceReferenceIdeal : Cert.EceReferenceIdeal.Facts] : Prop :=
  ∀ (m : (ℓ : Loc Cert.EceReferenceIdeal.nD Cert.EceReferenceIdeal.τ Cert.EceReferenceIdeal.sig) → Buf (Elt Ideal) ℓ) (g : Dev Cert.EceReferenceIdeal.nD → PrngReg), Pre_EceReferenceIdeal m →
    θ_run (Cert.EceReferenceIdeal.defs (F := Ideal)) (onTc (τ := Cert.EceReferenceIdeal.τ) (Cert.EceReferenceIdeal.main (F := Ideal))) ⟨m, fun _ => 0, g⟩ (fun r => (∀ c : Dev Cert.EceReferenceIdeal.nD,
      r.2.mem ((c.tc : Thread Cert.EceReferenceIdeal.nD Cert.EceReferenceIdeal.τ).loc Cert.EceReferenceIdeal.main_arg0) = m ((c.tc : Thread Cert.EceReferenceIdeal.nD Cert.EceReferenceIdeal.τ).loc Cert.EceReferenceIdeal.main_arg0)
      ∧ r.2.mem ((c.tc : Thread Cert.EceReferenceIdeal.nD Cert.EceReferenceIdeal.τ).loc Cert.EceReferenceIdeal.main_arg1) = m ((c.tc : Thread Cert.EceReferenceIdeal.nD Cert.EceReferenceIdeal.τ).loc Cert.EceReferenceIdeal.main_arg1)
      ∧ r.2.mem ((c.tc : Thread Cert.EceReferenceIdeal.nD Cert.EceReferenceIdeal.τ).loc Cert.EceReferenceIdeal.main_arg2) = m ((c.tc : Thread Cert.EceReferenceIdeal.nD Cert.EceReferenceIdeal.τ).loc Cert.EceReferenceIdeal.main_arg2))
      ∧ r.2.sem = fun _ => 0)

def quiescent_EceReferenceIdeal_pre_edges_ascend [hEceReferenceIdeal : Cert.EceReferenceIdeal.Facts] [hPre_edges_ascend : Cert.Pre_edges_ascend.Facts] : Prop :=
  ∀ (m : (ℓ : Loc Cert.EceReferenceIdeal.nD Cert.EceReferenceIdeal.τ Cert.EceReferenceIdeal.sig) → Buf (Elt Ideal) ℓ) (g : Dev Cert.EceReferenceIdeal.nD → PrngReg), Pre_EceReferenceIdeal_edges_ascend m →
    θ_run (Cert.EceReferenceIdeal.defs (F := Ideal)) (onTc (τ := Cert.EceReferenceIdeal.τ) (Cert.EceReferenceIdeal.main (F := Ideal))) ⟨m, fun _ => 0, g⟩ (fun r => (∀ c : Dev Cert.EceReferenceIdeal.nD,
      r.2.mem ((c.tc : Thread Cert.EceReferenceIdeal.nD Cert.EceReferenceIdeal.τ).loc Cert.EceReferenceIdeal.main_arg0) = m ((c.tc : Thread Cert.EceReferenceIdeal.nD Cert.EceReferenceIdeal.τ).loc Cert.EceReferenceIdeal.main_arg0)
      ∧ r.2.mem ((c.tc : Thread Cert.EceReferenceIdeal.nD Cert.EceReferenceIdeal.τ).loc Cert.EceReferenceIdeal.main_arg1) = m ((c.tc : Thread Cert.EceReferenceIdeal.nD Cert.EceReferenceIdeal.τ).loc Cert.EceReferenceIdeal.main_arg1)
      ∧ r.2.mem ((c.tc : Thread Cert.EceReferenceIdeal.nD Cert.EceReferenceIdeal.τ).loc Cert.EceReferenceIdeal.main_arg2) = m ((c.tc : Thread Cert.EceReferenceIdeal.nD Cert.EceReferenceIdeal.τ).loc Cert.EceReferenceIdeal.main_arg2))
      ∧ r.2.sem = fun _ => 0)

def quiescent_Conf [hConf : Cert.Conf.Facts] : Prop :=
  ∀ (m : (ℓ : Loc Cert.Conf.nD Cert.Conf.τ Cert.Conf.sig) → Buf (Elt Bits) ℓ) (g : Dev Cert.Conf.nD → PrngReg), Pre_Conf m →
    θ_run (Cert.Conf.defs (F := Bits)) (onTc (τ := Cert.Conf.τ) (Cert.Conf.main (F := Bits))) ⟨m, fun _ => 0, g⟩ (fun r => (∀ c : Dev Cert.Conf.nD,
      r.2.mem ((c.tc : Thread Cert.Conf.nD Cert.Conf.τ).loc Cert.Conf.main_arg0) = m ((c.tc : Thread Cert.Conf.nD Cert.Conf.τ).loc Cert.Conf.main_arg0)
      ∧ r.2.mem ((c.tc : Thread Cert.Conf.nD Cert.Conf.τ).loc Cert.Conf.main_arg1) = m ((c.tc : Thread Cert.Conf.nD Cert.Conf.τ).loc Cert.Conf.main_arg1))
      ∧ r.2.sem = fun _ => 0)

def quiescent_ConfIdeal [hConfIdeal : Cert.ConfIdeal.Facts] : Prop :=
  ∀ (m : (ℓ : Loc Cert.ConfIdeal.nD Cert.ConfIdeal.τ Cert.ConfIdeal.sig) → Buf (Elt Ideal) ℓ) (g : Dev Cert.ConfIdeal.nD → PrngReg), Pre_ConfIdeal m →
    θ_run (Cert.ConfIdeal.defs (F := Ideal)) (onTc (τ := Cert.ConfIdeal.τ) (Cert.ConfIdeal.main (F := Ideal))) ⟨m, fun _ => 0, g⟩ (fun r => (∀ c : Dev Cert.ConfIdeal.nD,
      r.2.mem ((c.tc : Thread Cert.ConfIdeal.nD Cert.ConfIdeal.τ).loc Cert.ConfIdeal.main_arg0) = m ((c.tc : Thread Cert.ConfIdeal.nD Cert.ConfIdeal.τ).loc Cert.ConfIdeal.main_arg0)
      ∧ r.2.mem ((c.tc : Thread Cert.ConfIdeal.nD Cert.ConfIdeal.τ).loc Cert.ConfIdeal.main_arg1) = m ((c.tc : Thread Cert.ConfIdeal.nD Cert.ConfIdeal.τ).loc Cert.ConfIdeal.main_arg1))
      ∧ r.2.sem = fun _ => 0)

def quiescent_ConfIdeal_pre_one_maximum [hConfIdeal : Cert.ConfIdeal.Facts] [hPre_one_maximum : Cert.Pre_one_maximum.Facts] : Prop :=
  ∀ (m : (ℓ : Loc Cert.ConfIdeal.nD Cert.ConfIdeal.τ Cert.ConfIdeal.sig) → Buf (Elt Ideal) ℓ) (g : Dev Cert.ConfIdeal.nD → PrngReg), Pre_ConfIdeal_one_maximum m →
    θ_run (Cert.ConfIdeal.defs (F := Ideal)) (onTc (τ := Cert.ConfIdeal.τ) (Cert.ConfIdeal.main (F := Ideal))) ⟨m, fun _ => 0, g⟩ (fun r => (∀ c : Dev Cert.ConfIdeal.nD,
      r.2.mem ((c.tc : Thread Cert.ConfIdeal.nD Cert.ConfIdeal.τ).loc Cert.ConfIdeal.main_arg0) = m ((c.tc : Thread Cert.ConfIdeal.nD Cert.ConfIdeal.τ).loc Cert.ConfIdeal.main_arg0)
      ∧ r.2.mem ((c.tc : Thread Cert.ConfIdeal.nD Cert.ConfIdeal.τ).loc Cert.ConfIdeal.main_arg1) = m ((c.tc : Thread Cert.ConfIdeal.nD Cert.ConfIdeal.τ).loc Cert.ConfIdeal.main_arg1))
      ∧ r.2.sem = fun _ => 0)

def quiescent_ConfReferenceIdeal [hConfReferenceIdeal : Cert.ConfReferenceIdeal.Facts] : Prop :=
  ∀ (m : (ℓ : Loc Cert.ConfReferenceIdeal.nD Cert.ConfReferenceIdeal.τ Cert.ConfReferenceIdeal.sig) → Buf (Elt Ideal) ℓ) (g : Dev Cert.ConfReferenceIdeal.nD → PrngReg), Pre_ConfReferenceIdeal m →
    θ_run (Cert.ConfReferenceIdeal.defs (F := Ideal)) (onTc (τ := Cert.ConfReferenceIdeal.τ) (Cert.ConfReferenceIdeal.main (F := Ideal))) ⟨m, fun _ => 0, g⟩ (fun r => (∀ c : Dev Cert.ConfReferenceIdeal.nD,
      r.2.mem ((c.tc : Thread Cert.ConfReferenceIdeal.nD Cert.ConfReferenceIdeal.τ).loc Cert.ConfReferenceIdeal.main_arg0) = m ((c.tc : Thread Cert.ConfReferenceIdeal.nD Cert.ConfReferenceIdeal.τ).loc Cert.ConfReferenceIdeal.main_arg0)
      ∧ r.2.mem ((c.tc : Thread Cert.ConfReferenceIdeal.nD Cert.ConfReferenceIdeal.τ).loc Cert.ConfReferenceIdeal.main_arg1) = m ((c.tc : Thread Cert.ConfReferenceIdeal.nD Cert.ConfReferenceIdeal.τ).loc Cert.ConfReferenceIdeal.main_arg1))
      ∧ r.2.sem = fun _ => 0)

def quiescent_ConfReferenceIdeal_pre_one_maximum [hConfReferenceIdeal : Cert.ConfReferenceIdeal.Facts] [hPre_one_maximum : Cert.Pre_one_maximum.Facts] : Prop :=
  ∀ (m : (ℓ : Loc Cert.ConfReferenceIdeal.nD Cert.ConfReferenceIdeal.τ Cert.ConfReferenceIdeal.sig) → Buf (Elt Ideal) ℓ) (g : Dev Cert.ConfReferenceIdeal.nD → PrngReg), Pre_ConfReferenceIdeal_one_maximum m →
    θ_run (Cert.ConfReferenceIdeal.defs (F := Ideal)) (onTc (τ := Cert.ConfReferenceIdeal.τ) (Cert.ConfReferenceIdeal.main (F := Ideal))) ⟨m, fun _ => 0, g⟩ (fun r => (∀ c : Dev Cert.ConfReferenceIdeal.nD,
      r.2.mem ((c.tc : Thread Cert.ConfReferenceIdeal.nD Cert.ConfReferenceIdeal.τ).loc Cert.ConfReferenceIdeal.main_arg0) = m ((c.tc : Thread Cert.ConfReferenceIdeal.nD Cert.ConfReferenceIdeal.τ).loc Cert.ConfReferenceIdeal.main_arg0)
      ∧ r.2.mem ((c.tc : Thread Cert.ConfReferenceIdeal.nD Cert.ConfReferenceIdeal.τ).loc Cert.ConfReferenceIdeal.main_arg1) = m ((c.tc : Thread Cert.ConfReferenceIdeal.nD Cert.ConfReferenceIdeal.τ).loc Cert.ConfReferenceIdeal.main_arg1))
      ∧ r.2.sem = fun _ => 0)

def bitexact_Kernel_Reference [hKernel : Cert.Kernel.Facts] [hReference : Cert.Reference.Facts] [hPre_maps_in_range : Cert.Pre_maps_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v4)) (v1 : (c : Dev Cert.Kernel.nD) → Buf (Elt Bits) ((c.tc : Thread Cert.Kernel.nD Cert.Kernel.τ).loc Cert.Kernel.main_v7)) (v2 : (c : Dev Cert.Kernel.nD) → Buf (Elt Bits) ((c.tc : Thread Cert.Kernel.nD Cert.Kernel.τ).loc Cert.Kernel.main_v10)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v4) = v0 c
          ∧ r.2.mem ((c.tc : Thread Cert.Kernel.nD Cert.Kernel.τ).loc Cert.Kernel.main_v7) = v1 c
          ∧ r.2.mem ((c.tc : Thread Cert.Kernel.nD Cert.Kernel.τ).loc Cert.Kernel.main_v10) = v2 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v53) = v0 c
          ∧ r.2.mem ((c.tc : Thread Cert.Reference.nD Cert.Reference.τ).loc Cert.Reference.main_v61) = v1 c
          ∧ r.2.mem ((c.tc : Thread Cert.Reference.nD Cert.Reference.τ).loc Cert.Reference.main_v69) = v2 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def preserves_Ece_EceIdeal : Prop :=
  True

def algebraic_EceIdeal_EceReferenceIdeal_pre_edges_ascend [hEceIdeal : Cert.EceIdeal.Facts] [hEceReferenceIdeal : Cert.EceReferenceIdeal.Facts] [hPre_edges_ascend : Cert.Pre_edges_ascend.Facts] : Prop :=
  ∀ (m : (ℓ : Loc Cert.EceIdeal.nD Cert.EceIdeal.τ Cert.EceIdeal.sig) → Buf (Elt Ideal) ℓ) (g : Dev Cert.EceIdeal.nD → PrngReg)
    (m' : (ℓ : Loc Cert.EceReferenceIdeal.nD Cert.EceReferenceIdeal.τ Cert.EceReferenceIdeal.sig) → Buf (Elt Ideal) ℓ) (g' : Dev Cert.EceReferenceIdeal.nD → PrngReg), Pre_EceIdeal_edges_ascend m →
    (∀ c : Dev Cert.EceIdeal.nD,
      m' ((c.tc : Thread Cert.EceReferenceIdeal.nD Cert.EceReferenceIdeal.τ).loc Cert.EceReferenceIdeal.main_arg0) = m ((c.tc : Thread Cert.EceIdeal.nD Cert.EceIdeal.τ).loc Cert.EceIdeal.main_arg0)
      ∧ m' ((c.tc : Thread Cert.EceReferenceIdeal.nD Cert.EceReferenceIdeal.τ).loc Cert.EceReferenceIdeal.main_arg1) = m ((c.tc : Thread Cert.EceIdeal.nD Cert.EceIdeal.τ).loc Cert.EceIdeal.main_arg1)
      ∧ m' ((c.tc : Thread Cert.EceReferenceIdeal.nD Cert.EceReferenceIdeal.τ).loc Cert.EceReferenceIdeal.main_arg2) = m ((c.tc : Thread Cert.EceIdeal.nD Cert.EceIdeal.τ).loc Cert.EceIdeal.main_arg2)) →
    ∃ (v0 : (c : Dev Cert.EceIdeal.nD) → Buf (Elt Ideal) ((c.tc : Thread Cert.EceIdeal.nD Cert.EceIdeal.τ).loc Cert.EceIdeal.main_v1)),
      θ_run (Cert.EceIdeal.defs (F := Ideal)) (onTc (τ := Cert.EceIdeal.τ) (Cert.EceIdeal.main (F := Ideal))) ⟨m, fun _ => 0, g⟩ (fun r => ∀ c : Dev Cert.EceIdeal.nD,
          r.2.mem ((c.tc : Thread Cert.EceIdeal.nD Cert.EceIdeal.τ).loc Cert.EceIdeal.main_v1) = v0 c
          ∧ r.2.mem ((c.tc : Thread Cert.EceIdeal.nD Cert.EceIdeal.τ).loc Cert.EceIdeal.main_arg0) = m ((c.tc : Thread Cert.EceIdeal.nD Cert.EceIdeal.τ).loc Cert.EceIdeal.main_arg0)
          ∧ r.2.mem ((c.tc : Thread Cert.EceIdeal.nD Cert.EceIdeal.τ).loc Cert.EceIdeal.main_arg1) = m ((c.tc : Thread Cert.EceIdeal.nD Cert.EceIdeal.τ).loc Cert.EceIdeal.main_arg1)
          ∧ r.2.mem ((c.tc : Thread Cert.EceIdeal.nD Cert.EceIdeal.τ).loc Cert.EceIdeal.main_arg2) = m ((c.tc : Thread Cert.EceIdeal.nD Cert.EceIdeal.τ).loc Cert.EceIdeal.main_arg2))
      ∧ θ_run (Cert.EceReferenceIdeal.defs (F := Ideal)) (onTc (τ := Cert.EceReferenceIdeal.τ) (Cert.EceReferenceIdeal.main (F := Ideal))) ⟨m', fun _ => 0, g'⟩ (fun r => ∀ c : Dev Cert.EceReferenceIdeal.nD,
          r.2.mem ((c.tc : Thread Cert.EceReferenceIdeal.nD Cert.EceReferenceIdeal.τ).loc Cert.EceReferenceIdeal.main_v34) = v0 c
          ∧ r.2.mem ((c.tc : Thread Cert.EceReferenceIdeal.nD Cert.EceReferenceIdeal.τ).loc Cert.EceReferenceIdeal.main_arg0) = m' ((c.tc : Thread Cert.EceReferenceIdeal.nD Cert.EceReferenceIdeal.τ).loc Cert.EceReferenceIdeal.main_arg0)
          ∧ r.2.mem ((c.tc : Thread Cert.EceReferenceIdeal.nD Cert.EceReferenceIdeal.τ).loc Cert.EceReferenceIdeal.main_arg1) = m' ((c.tc : Thread Cert.EceReferenceIdeal.nD Cert.EceReferenceIdeal.τ).loc Cert.EceReferenceIdeal.main_arg1)
          ∧ r.2.mem ((c.tc : Thread Cert.EceReferenceIdeal.nD Cert.EceReferenceIdeal.τ).loc Cert.EceReferenceIdeal.main_arg2) = m' ((c.tc : Thread Cert.EceReferenceIdeal.nD Cert.EceReferenceIdeal.τ).loc Cert.EceReferenceIdeal.main_arg2))

def preserves_Conf_ConfIdeal : Prop :=
  True

def algebraic_ConfIdeal_ConfReferenceIdeal_pre_one_maximum [hConfIdeal : Cert.ConfIdeal.Facts] [hConfReferenceIdeal : Cert.ConfReferenceIdeal.Facts] [hPre_one_maximum : Cert.Pre_one_maximum.Facts] : Prop :=
  ∀ (m : (ℓ : Loc Cert.ConfIdeal.nD Cert.ConfIdeal.τ Cert.ConfIdeal.sig) → Buf (Elt Ideal) ℓ) (g : Dev Cert.ConfIdeal.nD → PrngReg)
    (m' : (ℓ : Loc Cert.ConfReferenceIdeal.nD Cert.ConfReferenceIdeal.τ Cert.ConfReferenceIdeal.sig) → Buf (Elt Ideal) ℓ) (g' : Dev Cert.ConfReferenceIdeal.nD → PrngReg), Pre_ConfIdeal_one_maximum m →
    (∀ c : Dev Cert.ConfIdeal.nD,
      m' ((c.tc : Thread Cert.ConfReferenceIdeal.nD Cert.ConfReferenceIdeal.τ).loc Cert.ConfReferenceIdeal.main_arg0) = m ((c.tc : Thread Cert.ConfIdeal.nD Cert.ConfIdeal.τ).loc Cert.ConfIdeal.main_arg0)
      ∧ m' ((c.tc : Thread Cert.ConfReferenceIdeal.nD Cert.ConfReferenceIdeal.τ).loc Cert.ConfReferenceIdeal.main_arg1) = m ((c.tc : Thread Cert.ConfIdeal.nD Cert.ConfIdeal.τ).loc Cert.ConfIdeal.main_arg1)) →
    ∃ (v0 : (c : Dev Cert.ConfIdeal.nD) → Buf (Elt Ideal) ((c.tc : Thread Cert.ConfIdeal.nD Cert.ConfIdeal.τ).loc Cert.ConfIdeal.main_v3_0)) (v1 : (c : Dev Cert.ConfIdeal.nD) → Buf (Elt Ideal) ((c.tc : Thread Cert.ConfIdeal.nD Cert.ConfIdeal.τ).loc Cert.ConfIdeal.main_v3_1)),
      θ_run (Cert.ConfIdeal.defs (F := Ideal)) (onTc (τ := Cert.ConfIdeal.τ) (Cert.ConfIdeal.main (F := Ideal))) ⟨m, fun _ => 0, g⟩ (fun r => ∀ c : Dev Cert.ConfIdeal.nD,
          r.2.mem ((c.tc : Thread Cert.ConfIdeal.nD Cert.ConfIdeal.τ).loc Cert.ConfIdeal.main_v3_0) = v0 c
          ∧ r.2.mem ((c.tc : Thread Cert.ConfIdeal.nD Cert.ConfIdeal.τ).loc Cert.ConfIdeal.main_v3_1) = v1 c
          ∧ r.2.mem ((c.tc : Thread Cert.ConfIdeal.nD Cert.ConfIdeal.τ).loc Cert.ConfIdeal.main_arg0) = m ((c.tc : Thread Cert.ConfIdeal.nD Cert.ConfIdeal.τ).loc Cert.ConfIdeal.main_arg0)
          ∧ r.2.mem ((c.tc : Thread Cert.ConfIdeal.nD Cert.ConfIdeal.τ).loc Cert.ConfIdeal.main_arg1) = m ((c.tc : Thread Cert.ConfIdeal.nD Cert.ConfIdeal.τ).loc Cert.ConfIdeal.main_arg1))
      ∧ θ_run (Cert.ConfReferenceIdeal.defs (F := Ideal)) (onTc (τ := Cert.ConfReferenceIdeal.τ) (Cert.ConfReferenceIdeal.main (F := Ideal))) ⟨m', fun _ => 0, g'⟩ (fun r => ∀ c : Dev Cert.ConfReferenceIdeal.nD,
          r.2.mem ((c.tc : Thread Cert.ConfReferenceIdeal.nD Cert.ConfReferenceIdeal.τ).loc Cert.ConfReferenceIdeal.main_v18) = v0 c
          ∧ r.2.mem ((c.tc : Thread Cert.ConfReferenceIdeal.nD Cert.ConfReferenceIdeal.τ).loc Cert.ConfReferenceIdeal.main_v19) = v1 c
          ∧ r.2.mem ((c.tc : Thread Cert.ConfReferenceIdeal.nD Cert.ConfReferenceIdeal.τ).loc Cert.ConfReferenceIdeal.main_arg0) = m' ((c.tc : Thread Cert.ConfReferenceIdeal.nD Cert.ConfReferenceIdeal.τ).loc Cert.ConfReferenceIdeal.main_arg0)
          ∧ r.2.mem ((c.tc : Thread Cert.ConfReferenceIdeal.nD Cert.ConfReferenceIdeal.τ).loc Cert.ConfReferenceIdeal.main_arg1) = m' ((c.tc : Thread Cert.ConfReferenceIdeal.nD Cert.ConfReferenceIdeal.τ).loc Cert.ConfReferenceIdeal.main_arg1))

def Claim : Prop :=
  ∃ (hKernel : Cert.Kernel.Facts) (hReference : Cert.Reference.Facts) (hEce : Cert.Ece.Facts) (hEceIdeal : Cert.EceIdeal.Facts) (hEceReferenceIdeal : Cert.EceReferenceIdeal.Facts) (hConf : Cert.Conf.Facts) (hConfIdeal : Cert.ConfIdeal.Facts) (hConfReferenceIdeal : Cert.ConfReferenceIdeal.Facts) (hPre_maps_in_range : Cert.Pre_maps_in_range.Facts) (hPre_edges_ascend : Cert.Pre_edges_ascend.Facts) (hPre_one_maximum : Cert.Pre_one_maximum.Facts),
    quiescent_Kernel (hKernel := hKernel) (hPre_maps_in_range := hPre_maps_in_range)
    ∧ quiescent_Reference (hReference := hReference) (hPre_maps_in_range := hPre_maps_in_range)
    ∧ quiescent_Ece (hEce := hEce)
    ∧ quiescent_EceIdeal (hEceIdeal := hEceIdeal)
    ∧ quiescent_EceIdeal_pre_edges_ascend (hEceIdeal := hEceIdeal) (hPre_edges_ascend := hPre_edges_ascend)
    ∧ quiescent_EceReferenceIdeal (hEceReferenceIdeal := hEceReferenceIdeal)
    ∧ quiescent_EceReferenceIdeal_pre_edges_ascend (hEceReferenceIdeal := hEceReferenceIdeal) (hPre_edges_ascend := hPre_edges_ascend)
    ∧ quiescent_Conf (hConf := hConf)
    ∧ quiescent_ConfIdeal (hConfIdeal := hConfIdeal)
    ∧ quiescent_ConfIdeal_pre_one_maximum (hConfIdeal := hConfIdeal) (hPre_one_maximum := hPre_one_maximum)
    ∧ quiescent_ConfReferenceIdeal (hConfReferenceIdeal := hConfReferenceIdeal)
    ∧ quiescent_ConfReferenceIdeal_pre_one_maximum (hConfReferenceIdeal := hConfReferenceIdeal) (hPre_one_maximum := hPre_one_maximum)
    ∧ bitexact_Kernel_Reference (hKernel := hKernel) (hReference := hReference) (hPre_maps_in_range := hPre_maps_in_range)
    ∧ preserves_Ece_EceIdeal
    ∧ algebraic_EceIdeal_EceReferenceIdeal_pre_edges_ascend (hEceIdeal := hEceIdeal) (hEceReferenceIdeal := hEceReferenceIdeal) (hPre_edges_ascend := hPre_edges_ascend)
    ∧ preserves_Conf_ConfIdeal
    ∧ algebraic_ConfIdeal_ConfReferenceIdeal_pre_one_maximum (hConfIdeal := hConfIdeal) (hConfReferenceIdeal := hConfReferenceIdeal) (hPre_one_maximum := hPre_one_maximum)
-- ==== Pre_edges_ascend.lean ====
abbrev S500000x1 : Shape := ⟨2, ![500000, 1]⟩
abbrev S16 : Shape := ⟨1, ![16]⟩
abbrev S_ : Shape := ⟨0, ![]⟩
abbrev S15 : Shape := ⟨1, ![15]⟩

class Facts : Prop where
  bcast_S_S500000x1 : S_.BroadcastsInDim S500000x1 (![] : Fin 0 → Fin S500000x1.rank)
  reducesTo_S500000x1_S_d0_1 : S500000x1.ReducesTo [0, 1] S_
  h_S_ : 0 < S_.numel
  slices_S16_S15_0 : S16.Slices ![0] S15
  slices_S16_S15_1 : S16.Slices ![1] S15
  reducesTo_S15_S_d0 : S15.ReducesTo [0] S_

variable [Facts]

def fn {F : FTy → Type} [FloatOps F] (main_arg0 : FVec F S500000x1 .f32) (main_arg1 : FVec F S500000x1 .f32) (main_arg2 : FVec F S16 .f32) : IVec S_ 1 :=
  let main_v0 : FVec F S500000x1 .f32 := Host.absf main_arg0
  let main_cst : FVec F S_ .f32 := constant S_ .f32 0x7F800000#32
  let main_v1 : FVec F S500000x1 .f32 := broadcastInDim S500000x1 ![] bcast_S_S500000x1 main_cst
  let main_v2 : IVec S500000x1 1 := cmpf .olt main_v0 main_v1
  let main_c : IVec S_ 1 := constantI S_ 1 1#1
  let main_v3 : IVec S_ 1 := (fun x v => Host.reduce IntOp.andi x v reducesTo_S500000x1_S_d0_1 h_S_) main_v2 main_c
  let main_v4 : FVec F S500000x1 .f32 := Host.absf main_arg1
  let main_cst_0 : FVec F S_ .f32 := constant S_ .f32 0x7F800000#32
  let main_v5 : FVec F S500000x1 .f32 := broadcastInDim S500000x1 ![] bcast_S_S500000x1 main_cst_0
  let main_v6 : IVec S500000x1 1 := cmpf .olt main_v4 main_v5
  let main_c_1 : IVec S_ 1 := constantI S_ 1 1#1
  let main_v7 : IVec S_ 1 := (fun x v => Host.reduce IntOp.andi x v reducesTo_S500000x1_S_d0_1 h_S_) main_v6 main_c_1
  let main_v8 : IVec S_ 1 := andi main_v3 main_v7
  let main_v9 : FVec F S15 .f32 := (extractStridedSlice S15 ![0] · slices_S16_S15_0) main_arg2
  let main_v10 : FVec F S15 .f32 := (extractStridedSlice S15 ![1] · slices_S16_S15_1) main_arg2
  let main_v11 : IVec S15 1 := cmpf .ole main_v9 main_v10
  let main_c_2 : IVec S_ 1 := constantI S_ 1 1#1
  let main_v12 : IVec S_ 1 := (fun x v => Host.reduce IntOp.andi x v reducesTo_S15_S_d0 h_S_) main_v11 main_c_2
  let main_v13 : IVec S_ 1 := andi main_v8 main_v12
  main_v13
-- ==== Pre_maps_in_range.lean ====
abbrev S500000 : Shape := ⟨1, ![500000]⟩
abbrev S1024 : Shape := ⟨1, ![1024]⟩
abbrev S32768 : Shape := ⟨1, ![32768]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S32768 : S_.BroadcastsInDim S32768 (![] : Fin 0 → Fin S32768.rank)
  reducesTo_S32768_S_d0 : S32768.ReducesTo [0] S_

variable [Facts]

def fn {F : FTy → Type} [FloatOps F] (main_arg0 : FVec F S500000 .f32) (main_arg1 : IVec S1024 32) (main_arg2 : IVec S32768 32) : IVec S_ 1 :=
  let main_c : IVec S_ 32 := constantI S_ 32 32#32
  let main_v0 : IVec S1024 32 := broadcastInDim S1024 ![] bcast_S_S1024 main_c
  let main_v1 : IVec S1024 1 := cmpi .slt main_arg1 main_v0
  let main_c_0 : IVec S_ 1 := constantI S_ 1 1#1
  let main_v2 : IVec S_ 1 := (fun x v => Host.reduce IntOp.andi x v reducesTo_S1024_S_d0 h_S_) main_v1 main_c_0
  let main_c_1 : IVec S_ 32 := constantI S_ 32 32#32
  let main_v3 : IVec S32768 32 := broadcastInDim S32768 ![] bcast_S_S32768 main_c_1
  let main_v4 : IVec S32768 1 := cmpi .slt main_arg2 main_v3
  let main_c_2 : IVec S_ 1 := constantI S_ 1 1#1
  let main_v5 : IVec S_ 1 := (fun x v => Host.reduce IntOp.andi x v reducesTo_S32768_S_d0 h_S_) main_v4 main_c_2
  let main_v6 : IVec S_ 1 := andi main_v2 main_v5
  main_v6
-- ==== Pre_one_maximum.lean ====
abbrev S500000x100 : Shape := ⟨2, ![500000, 100]⟩
abbrev S500000 : Shape := ⟨1, ![500000]⟩
abbrev S_ : Shape := ⟨0, ![]⟩
abbrev S500000x1 : Shape := ⟨2, ![500000, 1]⟩

class Facts : Prop where
  bcast_S_S500000x100 : S_.BroadcastsInDim S500000x100 (![] : Fin 0 → Fin S500000x100.rank)
  reducesTo_S500000x100_S_d0_1 : S500000x100.ReducesTo [0, 1] S_
  h_S_ : 0 < S_.numel
  reducesTo_S500000x100_S500000_d1 : S500000x100.ReducesTo [1] S500000
  bcast_S500000_S500000x1_0 : S500000.BroadcastsInDim S500000x1 (![0] : Fin 1 → Fin S500000x1.rank)
  bcast_S500000x1_S500000x100_0_1 : S500000x1.BroadcastsInDim S500000x100 (![0, 1] : Fin 2 → Fin S500000x100.rank)
  natLt_1_32 : 1 < 32
  bcast_S_S500000 : S_.BroadcastsInDim S500000 (![] : Fin 0 → Fin S500000.rank)
  reducesTo_S500000_S_d0 : S500000.ReducesTo [0] S_

variable [Facts]

def fn {F : FTy → Type} [FloatOps F] (main_arg0 : FVec F S500000x100 .f32) (main_arg1 : IVec S500000 32) : IVec S_ 1 :=
  let main_v0 : FVec F S500000x100 .f32 := Host.absf main_arg0
  let main_cst : FVec F S_ .f32 := constant S_ .f32 0x7F800000#32
  let main_v1 : FVec F S500000x100 .f32 := broadcastInDim S500000x100 ![] bcast_S_S500000x100 main_cst
  let main_v2 : IVec S500000x100 1 := cmpf .olt main_v0 main_v1
  let main_c : IVec S_ 1 := constantI S_ 1 1#1
  let main_v3 : IVec S_ 1 := (fun x v => Host.reduce IntOp.andi x v reducesTo_S500000x100_S_d0_1 h_S_) main_v2 main_c
  let main_cst_0 : FVec F S_ .f32 := constant S_ .f32 0xFF800000#32
  let main_v4 : FVec F S500000 .f32 := (fun x v => Host.reduce FloatOps.maximumf x v reducesTo_S500000x100_S500000_d1 h_S_) main_arg0 main_cst_0
  let main_v5 : FVec F S500000x1 .f32 := broadcastInDim S500000x1 ![0] bcast_S500000_S500000x1_0 main_v4
  let main_v6 : FVec F S500000x100 .f32 := broadcastInDim S500000x100 ![0, 1] bcast_S500000x1_S500000x100_0_1 main_v5
  let main_v7 : IVec S500000x100 1 := cmpf .oeq main_arg0 main_v6
  let main_v8 : IVec S500000x100 32 := (extui 32 · natLt_1_32) main_v7
  let main_c_1 : IVec S_ 32 := constantI S_ 32 0#32
  let main_v9 : IVec S500000 32 := (fun x v => Host.reduce IntOp.addi x v reducesTo_S500000x100_S500000_d1 h_S_) main_v8 main_c_1
  let main_c_2 : IVec S_ 32 := constantI S_ 32 1#32
  let main_v10 : IVec S500000 32 := broadcastInDim S500000 ![] bcast_S_S500000 main_c_2
  let main_v11 : IVec S500000 1 := cmpi .eq main_v9 main_v10
  let main_c_3 : IVec S_ 1 := constantI S_ 1 1#1
  let main_v12 : IVec S_ 1 := (fun x v => Host.reduce IntOp.andi x v reducesTo_S500000_S_d0 h_S_) main_v11 main_c_3
  let main_v13 : IVec S_ 1 := andi main_v3 main_v12
  main_v13
-- ==== Kernel.lean ====
abbrev S500000 : Shape := ⟨1, ![500000]⟩
abbrev S1024 : Shape := ⟨1, ![1024]⟩
abbrev S32768 : Shape := ⟨1, ![32768]⟩
abbrev S_ : Shape := ⟨0, ![]⟩
abbrev S224 : Shape := ⟨1, ![224]⟩
abbrev S500224 : Shape := ⟨1, ![500224]⟩
abbrev S15632 : Shape := ⟨1, ![15632]⟩
abbrev S16 : Shape := ⟨1, ![16]⟩
abbrev S32x1024 : Shape := ⟨2, ![32, 1024]⟩
abbrev S1048576 : Shape := ⟨1, ![1048576]⟩
abbrev S32x32768 : Shape := ⟨2, ![32, 32768]⟩
abbrev S65536 : Shape := ⟨1, ![65536]⟩
abbrev S2048 : Shape := ⟨1, ![2048]⟩
abbrev S32x2048 : Shape := ⟨2, ![32, 2048]⟩

abbrev nBuf : Table → Nat
  | .hbm => 18
  | .local .scVector .vmem => 9
  | _ => 0

abbrev bufTy : (tb : Table) → Fin (nBuf tb) → BufTy
  | .hbm, ⟨0, _⟩ => ⟨S500000, .f32⟩
  | .hbm, ⟨1, _⟩ => ⟨S1024, .i32⟩
  | .hbm, ⟨2, _⟩ => ⟨S32768, .i32⟩
  | .hbm, ⟨3, _⟩ => ⟨S_, .f32⟩
  | .hbm, ⟨4, _⟩ => ⟨S224, .f32⟩
  | .hbm, ⟨5, _⟩ => ⟨S500224, .f32⟩
  | .hbm, ⟨6, _⟩ => ⟨S32768, .i32⟩
  | .hbm, ⟨7, _⟩ => ⟨S32x1024, .i32⟩
  | .hbm, ⟨8, _⟩ => ⟨S_, .i32⟩
  | .hbm, ⟨9, _⟩ => ⟨S1024, .i32⟩
  | .hbm, ⟨10, _⟩ => ⟨S1048576, .i32⟩
  | .hbm, ⟨11, _⟩ => ⟨S32x32768, .i32⟩
  | .hbm, ⟨12, _⟩ => ⟨S_, .i32⟩
  | .hbm, ⟨13, _⟩ => ⟨S32768, .i32⟩
  | .hbm, ⟨14, _⟩ => ⟨S65536, .i32⟩
  | .hbm, ⟨15, _⟩ => ⟨S32x2048, .i32⟩
  | .hbm, ⟨16, _⟩ => ⟨S_, .i32⟩
  | .hbm, ⟨17, _⟩ => ⟨S2048, .i32⟩
  | .local .scVector .vmem, ⟨0, _⟩ => ⟨S15632, .f32⟩
  | .local .scVector .vmem, ⟨1, _⟩ => ⟨S1024, .i32⟩
  | .local .scVector .vmem, ⟨2, _⟩ => ⟨S15632, .f32⟩
  | .local .scVector .vmem, ⟨3, _⟩ => ⟨S1024, .i32⟩
  | .local .scVector .vmem, ⟨4, _⟩ => ⟨S32768, .i32⟩
  | .local .scVector .vmem, ⟨5, _⟩ => ⟨S15632, .f32⟩
  | .local .scVector .vmem, ⟨6, _⟩ => ⟨S1024, .i32⟩
  | .local .scVector .vmem, ⟨7, _⟩ => ⟨S32768, .i32⟩
  | .local .scVector .vmem, ⟨8, _⟩ => ⟨S2048, .i32⟩
  | _, _ => ⟨S500000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v1_scv : Ref sig .scVector := ⟨.hbm, 5, rfl⟩
abbrev main_v2_scv : Ref sig .scVector := ⟨.hbm, 6, rfl⟩
abbrev main_arg1_scv : Ref sig .scVector := ⟨.hbm, 1, rfl⟩
abbrev main_v5_scv : Ref sig .scVector := ⟨.hbm, 10, rfl⟩
abbrev main_arg2_scv : Ref sig .scVector := ⟨.hbm, 2, rfl⟩
abbrev main_v8_scv : Ref sig .scVector := ⟨.hbm, 14, rfl⟩
abbrev cc0_scratch0 : Ref sig .scVector := ⟨.vmem, 0, rfl⟩
abbrev cc0_scratch1 : Ref sig .scVector := ⟨.vmem, 1, rfl⟩
abbrev cc1_scratch0 : Ref sig .scVector := ⟨.vmem, 2, rfl⟩
abbrev cc1_scratch1 : Ref sig .scVector := ⟨.vmem, 3, rfl⟩
abbrev cc1_scratch2 : Ref sig .scVector := ⟨.vmem, 4, rfl⟩
abbrev cc2_scratch0 : Ref sig .scVector := ⟨.vmem, 5, rfl⟩
abbrev cc2_scratch1 : Ref sig .scVector := ⟨.vmem, 6, rfl⟩
abbrev cc2_scratch2 : Ref sig .scVector := ⟨.vmem, 7, rfl⟩
abbrev cc2_scratch3 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15632_i32 : BitVec 32 := 15632#32
  let v2 : BitVec 32 := Scalar.muli v1 c15632_i32
  ![v2.toNat]
@[reducible] def k0_t1_loop : Scf.Loop 32 :=
  let c0_i32_1 : BitVec 32 := 0#32
  let c64_i32 : BitVec 32 := 64#32
  let v4 : BitVec 32 := Scalar.addi c0_i32_1 c64_i32
  let c1_i32 : BitVec 32 := 1#32
  ⟨c0_i32_1, v4, c1_i32⟩
def k0_off2 (k0_t1 : Fin k0_t1_loop.trips) : Fin 1 → Nat :=
  let c0_i32_1 : BitVec 32 := 0#32
  let c1_i32 : BitVec 32 := 1#32
  let arg6 : BitVec 32 := Scf.iv c0_i32_1 c1_i32 k0_t1
  let c16_i32 : BitVec 32 := 16#32
  let v8 : BitVec 32 := Scalar.muli arg6 c16_i32
  let v9 : Index := Scalar.indexCast v8
  ![v9.toNat]
@[reducible] def k0_t2_loop : Scf.Loop 32 :=
  let c0_i32_5 : BitVec 32 := 0#32
  let c977_i32 : BitVec 32 := 977#32
  let v6 : BitVec 32 := Scalar.addi c0_i32_5 c977_i32
  let c1_i32_6 : BitVec 32 := 1#32
  ⟨c0_i32_5, v6, c1_i32_6⟩
def k0_off3 (k0_t2 : Fin k0_t2_loop.trips) : Fin 1 → Nat :=
  let c0_i32_5 : BitVec 32 := 0#32
  let c1_i32_6 : BitVec 32 := 1#32
  let arg6 : BitVec 32 := Scf.iv c0_i32_5 c1_i32_6 k0_t2
  let c16_i32 : BitVec 32 := 16#32
  let v8 : BitVec 32 := Scalar.muli arg6 c16_i32
  let v9 : Index := Scalar.indexCast v8
  ![v9.toNat]

def k0_chk1 (v22 : IVec S16 32) : Prop :=
  (∀ a x, ((![v22] : Fin 1 → IVec S16 32) a x).toNat < S1024.size a)
theorem k0_idx1_inb : ∀ (v22 : IVec S16 32) (k0_hw1 : k0_chk1 v22), ∀ a x, ((![v22] : Fin 1 → IVec S16 32) a x).toNat < S1024.size a := fun v22 k0_hw1 => k0_hw1
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v7 : BitVec 32 := Scalar.muli v1 c1024_i32
  ![v7.toNat]
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15632_i32 : BitVec 32 := 15632#32
  let v2 : BitVec 32 := Scalar.muli v1 c15632_i32
  ![v2.toNat]
@[reducible] def k1_t1_loop : Scf.Loop 32 :=
  let c0_i32_1 : BitVec 32 := 0#32
  let c2048_i32 : BitVec 32 := 2048#32
  let v4 : BitVec 32 := Scalar.addi c0_i32_1 c2048_i32
  let c1_i32 : BitVec 32 := 1#32
  ⟨c0_i32_1, v4, c1_i32⟩
def k1_off2 (k1_t1 : Fin k1_t1_loop.trips) : Fin 1 → Nat :=
  let c0_i32_1 : BitVec 32 := 0#32
  let c1_i32 : BitVec 32 := 1#32
  let arg8 : BitVec 32 := Scf.iv c0_i32_1 c1_i32 k1_t1
  let c16_i32 : BitVec 32 := 16#32
  let v8 : BitVec 32 := Scalar.muli arg8 c16_i32
  let v9 : Index := Scalar.indexCast v8
  ![v9.toNat]
@[reducible] def k1_t2_loop : Scf.Loop 32 :=
  let c0_i32_5 : BitVec 32 := 0#32
  let c977_i32 : BitVec 32 := 977#32
  let v6 : BitVec 32 := Scalar.addi c0_i32_5 c977_i32
  let c1_i32_6 : BitVec 32 := 1#32
  ⟨c0_i32_5, v6, c1_i32_6⟩
def k1_off3 (k1_t2 : Fin k1_t2_loop.trips) : Fin 1 → Nat :=
  let c0_i32_5 : BitVec 32 := 0#32
  let c1_i32_6 : BitVec 32 := 1#32
  let arg8 : BitVec 32 := Scf.iv c0_i32_5 c1_i32_6 k1_t2
  let c16_i32 : BitVec 32 := 16#32
  let v8 : BitVec 32 := Scalar.muli arg8 c16_i32
  let v9 : Index := Scalar.indexCast v8
  ![v9.toNat]

def k1_chk1 (v22 : IVec S16 32) : Prop :=
  (∀ a x, ((![v22] : Fin 1 → IVec S16 32) a x).toNat < S1024.size a)
theorem k1_idx1_inb : ∀ (v22 : IVec S16 32) (k1_hw1 : k1_chk1 v22), ∀ a x, ((![v22] : Fin 1 → IVec S16 32) a x).toNat < S1024.size a := fun v22 k1_hw1 => k1_hw1

def k1_chk2 (v35 : IVec S16 32) : Prop :=
  (∀ a x, ((![v35] : Fin 1 → IVec S16 32) a x).toNat < S32768.size a)
theorem k1_idx2_inb : ∀ (v35 : IVec S16 32) (k1_hw2 : k1_chk2 v35), ∀ a x, ((![v35] : Fin 1 → IVec S16 32) a x).toNat < S32768.size a := fun v35 k1_hw2 => k1_hw2
def k1_off4 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v7 : BitVec 32 := Scalar.muli v1 c32768_i32
  ![v7.toNat]
abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15632_i32 : BitVec 32 := 15632#32
  let v2 : BitVec 32 := Scalar.muli v1 c15632_i32
  ![v2.toNat]
@[reducible] def k2_t1_loop : Scf.Loop 32 :=
  let c0_i32_1 : BitVec 32 := 0#32
  let c128_i32 : BitVec 32 := 128#32
  let v4 : BitVec 32 := Scalar.addi c0_i32_1 c128_i32
  let c1_i32 : BitVec 32 := 1#32
  ⟨c0_i32_1, v4, c1_i32⟩
def k2_off2 (k2_t1 : Fin k2_t1_loop.trips) : Fin 1 → Nat :=
  let c0_i32_1 : BitVec 32 := 0#32
  let c1_i32 : BitVec 32 := 1#32
  let arg10 : BitVec 32 := Scf.iv c0_i32_1 c1_i32 k2_t1
  let c16_i32 : BitVec 32 := 16#32
  let v8 : BitVec 32 := Scalar.muli arg10 c16_i32
  let v9 : Index := Scalar.indexCast v8
  ![v9.toNat]
@[reducible] def k2_t2_loop : Scf.Loop 32 :=
  let c0_i32_5 : BitVec 32 := 0#32
  let c977_i32 : BitVec 32 := 977#32
  let v6 : BitVec 32 := Scalar.addi c0_i32_5 c977_i32
  let c1_i32_6 : BitVec 32 := 1#32
  ⟨c0_i32_5, v6, c1_i32_6⟩
def k2_off3 (k2_t2 : Fin k2_t2_loop.trips) : Fin 1 → Nat :=
  let c0_i32_5 : BitVec 32 := 0#32
  let c1_i32_6 : BitVec 32 := 1#32
  let arg10 : BitVec 32 := Scf.iv c0_i32_5 c1_i32_6 k2_t2
  let c16_i32 : BitVec 32 := 16#32
  let v8 : BitVec 32 := Scalar.muli arg10 c16_i32
  let v9 : Index := Scalar.indexCast v8
  ![v9.toNat]

def k2_chk1 (v22 : IVec S16 32) : Prop :=
  (∀ a x, ((![v22] : Fin 1 → IVec S16 32) a x).toNat < S1024.size a)
theorem k2_idx1_inb : ∀ (v22 : IVec S16 32) (k2_hw1 : k2_chk1 v22), ∀ a x, ((![v22] : Fin 1 → IVec S16 32) a x).toNat < S1024.size a := fun v22 k2_hw1 => k2_hw1

def k2_chk2 (v35 : IVec S16 32) : Prop :=
  (∀ a x, ((![v35] : Fin 1 → IVec S16 32) a x).toNat < S32768.size a)
theorem k2_idx2_inb : ∀ (v35 : IVec S16 32) (k2_hw2 : k2_chk2 v35), ∀ a x, ((![v35] : Fin 1 → IVec S16 32) a x).toNat < S32768.size a := fun v35 k2_hw2 => k2_hw2

def k2_chk3 (v46 : IVec S16 32) : Prop :=
  (∀ a x, ((![v46] : Fin 1 → IVec S16 32) a x).toNat < S2048.size a)
theorem k2_idx3_inb : ∀ (v46 : IVec S16 32) (k2_hw3 : k2_chk3 v46), ∀ a x, ((![v46] : Fin 1 → IVec S16 32) a x).toNat < S2048.size a := fun v46 k2_hw3 => k2_hw3
def k2_off4 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v7 : BitVec 32 := Scalar.muli v1 c2048_i32
  ![v7.toNat]
abbrev scKind : Fin 3 → Kind := fun | 0 => .scVector | 1 => .scVector | 2 => .scVector | ⟨_ + 3, h⟩ => absurd h (Nat.not_lt.2 (Nat.le_add_left _ _))
abbrev scNCore : Fin 3 → Nat := fun | 0 => 2 | 1 => 2 | 2 => 2 | ⟨_ + 3, h⟩ => absurd h (Nat.not_lt.2 (Nat.le_add_left _ _))
abbrev scNSub : Fin 3 → Nat := fun | 0 => 16 | 1 => 16 | 2 => 16 | ⟨_ + 3, h⟩ => absurd h (Nat.not_lt.2 (Nat.le_add_left _ _))
-- ==== Reference.lean ====
abbrev S500000 : Shape := ⟨1, ![500000]⟩
abbrev S1024 : Shape := ⟨1, ![1024]⟩
abbrev S32768 : Shape := ⟨1, ![32768]⟩
abbrev S_ : Shape := ⟨0, ![]⟩
abbrev S500000x1 : Shape := ⟨2, ![500000, 1]⟩
abbrev S1x1024 : Shape := ⟨2, ![1, 1024]⟩
abbrev S500000x1024 : Shape := ⟨2, ![500000, 1024]⟩
abbrev S1x32768 : Shape := ⟨2, ![1, 32768]⟩
abbrev S500000x32768 : Shape := ⟨2, ![500000, 32768]⟩
abbrev S2048 : Shape := ⟨1, ![2048]⟩
abbrev S1x2048 : Shape := ⟨2, ![1, 2048]⟩
abbrev S500000x2048 : Shape := ⟨2, ![500000, 2048]⟩

abbrev nBuf : Space → Nat
  | .hbm => 103
  | .vmem => 0
  | .smem => 0
  | _ => 0

abbrev bufTy : (tb : Table) → Fin (tcTables nBuf tb) → BufTy
  | .hbm, ⟨0, _⟩ => ⟨S500000, .f32⟩
  | .hbm, ⟨1, _⟩ => ⟨S1024, .i32⟩
  | .hbm, ⟨2, _⟩ => ⟨S32768, .i32⟩
  | .hbm, ⟨3, _⟩ => ⟨S500000, .i32⟩
  | .hbm, ⟨4, _⟩ => ⟨S_, .i32⟩
  | .hbm, ⟨5, _⟩ => ⟨S500000, .i32⟩
  | .hbm, ⟨6, _⟩ => ⟨S500000, .i32⟩
  | .hbm, ⟨7, _⟩ => ⟨S_, .i32⟩
  | .hbm, ⟨8, _⟩ => ⟨S500000, .i32⟩
  | .hbm, ⟨9, _⟩ => ⟨S500000, .i32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i1⟩
  | .hbm, ⟨16, _⟩ => ⟨S500000, .i1⟩
  | .hbm, ⟨17, _⟩ => ⟨S_, .i32⟩
  | .hbm, ⟨18, _⟩ => ⟨S_, .i32⟩
  | .hbm, ⟨19, _⟩ => ⟨S500000, .i32⟩
  | .hbm, ⟨20, _⟩ => ⟨S500000, .i32⟩
  | .hbm, ⟨21, _⟩ => ⟨S_, .i32⟩
  | .hbm, ⟨22, _⟩ => ⟨S500000, .i32⟩
  | .hbm, ⟨23, _⟩ => ⟨S500000, .i1⟩
  | .hbm, ⟨24, _⟩ => ⟨S_, .i32⟩
  | .hbm, ⟨25, _⟩ => ⟨S500000, .i32⟩
  | .hbm, ⟨26, _⟩ => ⟨S500000, .i32⟩
  | .hbm, ⟨27, _⟩ => ⟨S500000, .i32⟩
  | .hbm, ⟨28, _⟩ => ⟨S500000x1, .i32⟩
  | .hbm, ⟨29, _⟩ => ⟨S500000, .i32⟩
  | .hbm, ⟨30, _⟩ => ⟨S_, .i32⟩
  | .hbm, ⟨31, _⟩ => ⟨S500000, .i32⟩
  | .hbm, ⟨32, _⟩ => ⟨S500000, .i1⟩
  | .hbm, ⟨33, _⟩ => ⟨S500000, .i1⟩
  | .hbm, ⟨34, _⟩ => ⟨S_, .i32⟩
  | .hbm, ⟨35, _⟩ => ⟨S500000, .i32⟩
  | .hbm, ⟨36, _⟩ => ⟨S500000, .i32⟩
  | .hbm, ⟨37, _⟩ => ⟨S_, .i32⟩
  | .hbm, ⟨38, _⟩ => ⟨S500000, .i32⟩
  | .hbm, ⟨39, _⟩ => ⟨S500000, .i32⟩
  | .hbm, ⟨40, _⟩ => ⟨S_, .i32⟩
  | .hbm, ⟨41, _⟩ => ⟨S500000, .i32⟩
  | .hbm, ⟨42, _⟩ => ⟨S500000, .i32⟩
  | .hbm, ⟨43, _⟩ => ⟨S500000, .i32⟩
  | .hbm, ⟨44, _⟩ => ⟨S_, .i32⟩
  | .hbm, ⟨45, _⟩ => ⟨S_, .i32⟩
  | .hbm, ⟨46, _⟩ => ⟨S500000, .i32⟩
  | .hbm, ⟨47, _⟩ => ⟨S500000, .i32⟩
  | .hbm, ⟨48, _⟩ => ⟨S_, .i32⟩
  | .hbm, ⟨49, _⟩ => ⟨S_, .i32⟩
  | .hbm, ⟨50, _⟩ => ⟨S500000, .i32⟩
  | .hbm, ⟨51, _⟩ => ⟨S500000, .i32⟩
  | .hbm, ⟨52, _⟩ => ⟨S_, .i32⟩
  | .hbm, ⟨53, _⟩ => ⟨S500000, .i32⟩
  | .hbm, ⟨54, _⟩ => ⟨S500000, .i1⟩
  | .hbm, ⟨55, _⟩ => ⟨S_, .i32⟩
  | .hbm, ⟨56, _⟩ => ⟨S500000, .i32⟩
  | .hbm, ⟨57, _⟩ => ⟨S500000, .i32⟩
  | .hbm, ⟨58, _⟩ => ⟨S500000, .i32⟩
  | .hbm, ⟨59, _⟩ => ⟨S500000x1, .i32⟩
  | .hbm, ⟨60, _⟩ => ⟨S500000, .i32⟩
  | .hbm, ⟨61, _⟩ => ⟨S_, .i32⟩
  | .hbm, ⟨62, _⟩ => ⟨S500000, .i32⟩
  | .hbm, ⟨63, _⟩ => ⟨S500000, .i1⟩
  | .hbm, ⟨64, _⟩ => ⟨S500000, .i1⟩
  | .hbm, ⟨65, _⟩ => ⟨S_, .i32⟩
  | .hbm, ⟨66, _⟩ => ⟨S500000, .i32⟩
  | .hbm, ⟨67, _⟩ => ⟨S500000, .i32⟩
  | .hbm, ⟨68, _⟩ => ⟨S_, .i32⟩
  | .hbm, ⟨69, _⟩ => ⟨S500000, .i32⟩
  | .hbm, ⟨70, _⟩ => ⟨S500000, .i32⟩
  | .hbm, ⟨71, _⟩ => ⟨S500000, .i32⟩
  | .hbm, ⟨72, _⟩ => ⟨S_, .i32⟩
  | .hbm, ⟨73, _⟩ => ⟨S_, .i32⟩
  | .hbm, ⟨74, _⟩ => ⟨S500000, .i32⟩
  | .hbm, ⟨75, _⟩ => ⟨S500000, .i32⟩
  | .hbm, ⟨76, _⟩ => ⟨S500000x1, .i32⟩
  | .hbm, ⟨77, _⟩ => ⟨S1024, .i32⟩
  | .hbm, ⟨78, _⟩ => ⟨S1x1024, .i32⟩
  | .hbm, ⟨79, _⟩ => ⟨S500000x1024, .i32⟩
  | .hbm, ⟨80, _⟩ => ⟨S500000x1024, .i32⟩
  | .hbm, ⟨81, _⟩ => ⟨S500000x1024, .i1⟩
  | .hbm, ⟨82, _⟩ => ⟨S500000x1024, .i32⟩
  | .hbm, ⟨83, _⟩ => ⟨S_, .i32⟩
  | .hbm, ⟨84, _⟩ => ⟨S1024, .i32⟩
  | .hbm, ⟨85, _⟩ => ⟨S500000x1, .i32⟩
  | .hbm, ⟨86, _⟩ => ⟨S32768, .i32⟩
  | .hbm, ⟨87, _⟩ => ⟨S1x32768, .i32⟩
  | .hbm, ⟨88, _⟩ => ⟨S500000x32768, .i32⟩
  | .hbm, ⟨89, _⟩ => ⟨S500000x32768, .i32⟩
  | .hbm, ⟨90, _⟩ => ⟨S500000x32768, .i1⟩
  | .hbm, ⟨91, _⟩ => ⟨S500000x32768, .i32⟩
  | .hbm, ⟨92, _⟩ => ⟨S_, .i32⟩
  | .hbm, ⟨93, _⟩ => ⟨S32768, .i32⟩
  | .hbm, ⟨94, _⟩ => ⟨S500000x1, .i32⟩
  | .hbm, ⟨95, _⟩ => ⟨S2048, .i32⟩
  | .hbm, ⟨96, _⟩ => ⟨S1x2048, .i32⟩
  | .hbm, ⟨97, _⟩ => ⟨S500000x2048, .i32⟩
  | .hbm, ⟨98, _⟩ => ⟨S500000x2048, .i32⟩
  | .hbm, ⟨99, _⟩ => ⟨S500000x2048, .i1⟩
  | .hbm, ⟨100, _⟩ => ⟨S500000x2048, .i32⟩
  | .hbm, ⟨101, _⟩ => ⟨S_, .i32⟩
  | .hbm, ⟨102, _⟩ => ⟨S2048, .i32⟩
  | _, _ => ⟨S500000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_3 : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_c_4 : Ref sig .tc := ⟨.hbm, 21, rfl⟩
abbrev main_v11 : Ref sig .tc := ⟨.hbm, 22, rfl⟩
abbrev main_v12 : Ref sig .tc := ⟨.hbm, 23, rfl⟩
abbrev main_c_5 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_7 : Ref sig .tc := ⟨.hbm, 34, rfl⟩
abbrev main_v21 : Ref sig .tc := ⟨.hbm, 35, rfl⟩
abbrev main_v22 : Ref sig .tc := ⟨.hbm, 36, rfl⟩
abbrev main_c_8 : Ref sig .tc := ⟨.hbm, 37, rfl⟩
abbrev main_v23 : Ref sig .tc := ⟨.hbm, 38, rfl⟩
abbrev main_v24 : Ref sig .tc := ⟨.hbm, 39, rfl⟩
abbrev main_c_9 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_10 : Ref sig .tc := ⟨.hbm, 44, rfl⟩
abbrev main_call1_v0 : Ref sig .tc := ⟨.hbm, 45, rfl⟩
abbrev main_call1_v1 : Ref sig .tc := ⟨.hbm, 46, rfl⟩
abbrev main_v28 : Ref sig .tc := ⟨.hbm, 47, rfl⟩
abbrev main_c_11 : Ref sig .tc := ⟨.hbm, 48, rfl⟩
abbrev main_call2_v0 : Ref sig .tc := ⟨.hbm, 49, rfl⟩
abbrev main_call2_v1 : Ref sig .tc := ⟨.hbm, 50, rfl⟩
abbrev main_v29 : Ref sig .tc := ⟨.hbm, 51, rfl⟩
abbrev main_c_12 : Ref sig .tc := ⟨.hbm, 52, rfl⟩
abbrev main_v30 : Ref sig .tc := ⟨.hbm, 53, rfl⟩
abbrev main_v31 : Ref sig .tc := ⟨.hbm, 54, rfl⟩
abbrev main_c_13 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_14 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_15 : Ref sig .tc := ⟨.hbm, 65, rfl⟩
abbrev main_v40 : Ref sig .tc := ⟨.hbm, 66, rfl⟩
abbrev main_v41 : Ref sig .tc := ⟨.hbm, 67, rfl⟩
abbrev main_c_16 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_17 : Ref sig .tc := ⟨.hbm, 72, rfl⟩
abbrev main_call3_v0 : Ref sig .tc := ⟨.hbm, 73, rfl⟩
abbrev main_call3_v1 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c_18 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_19 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_20 : Ref sig .tc := ⟨.hbm, 101, rfl⟩
abbrev main_v69 : Ref sig .tc := ⟨.hbm, 102, rfl⟩

abbrev nD : Nat := 1
abbrev τ : Topo := Topo.v7x

variable {F : FTy → Type} [BitOps F]
-- ==== Ece.lean ====
abbrev S500000x1 : Shape := ⟨2, ![500000, 1]⟩
abbrev S16 : Shape := ⟨1, ![16]⟩
abbrev S1x16 : Shape := ⟨2, ![1, 16]⟩
abbrev S1x1 : Shape := ⟨2, ![1, 1]⟩
abbrev S4000x1 : Shape := ⟨2, ![4000, 1]⟩
abbrev S3x16 : Shape := ⟨2, ![3, 16]⟩
abbrev S4000x16 : Shape := ⟨2, ![4000, 16]⟩
abbrev S3x15 : Shape := ⟨2, ![3, 15]⟩
abbrev S1x15 : Shape := ⟨2, ![1, 15]⟩
abbrev S1x1x15 : Shape := ⟨3, ![1, 1, 15]⟩
abbrev S1 : Shape := ⟨1, ![1]⟩
abbrev S1x1x1 : Shape := ⟨3, ![1, 1, 1]⟩

abbrev nBuf : Space → Nat
  | .hbm => 5
  | .vmem => 7
  | .smem => 0
  | _ => 0

abbrev bufTy : (tb : Table) → Fin (tcTables nBuf tb) → BufTy
  | .hbm, ⟨0, _⟩ => ⟨S500000x1, .f32⟩
  | .hbm, ⟨1, _⟩ => ⟨S500000x1, .f32⟩
  | .hbm, ⟨2, _⟩ => ⟨S16, .f32⟩
  | .hbm, ⟨3, _⟩ => ⟨S1x16, .f32⟩
  | .hbm, ⟨4, _⟩ => ⟨S1x1, .f32⟩
  | .local _ .vmem, ⟨0, _⟩ => ⟨S4000x1, .f32⟩
  | .local _ .vmem, ⟨1, _⟩ => ⟨S4000x1, .f32⟩
  | .local _ .vmem, ⟨2, _⟩ => ⟨S4000x1, .f32⟩
  | .local _ .vmem, ⟨3, _⟩ => ⟨S4000x1, .f32⟩
  | .local _ .vmem, ⟨4, _⟩ => ⟨S1x16, .f32⟩
  | .local _ .vmem, ⟨5, _⟩ => ⟨S1x1, .f32⟩
  | .local _ .vmem, ⟨6, _⟩ => ⟨S3x16, .f32⟩
  | _, _ => ⟨S500000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![125], ![false]⟩

def k0_cond2 (i : grid0.Coords) : BitVec 1 :=
  let arg0 : BitVec 32 := BitVec.ofNat 32 (i 0).val
  let c124_i32 : BitVec 32 := 124#32
  let v31 : BitVec 1 := Scalar.cmpi .eq arg0 c124_i32
  let v32 : BitVec 32 := Scalar.extui v31
  let c0_i32_19 : BitVec 32 := 0#32
  let v33 : BitVec 1 := Scalar.cmpi .ne v32 c0_i32_19
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== EceReferenceIdeal.lean ====
abbrev S500000x1 : Shape := ⟨2, ![500000, 1]⟩
abbrev S16 : Shape := ⟨1, ![16]⟩
abbrev S15 : Shape := ⟨1, ![15]⟩
abbrev S1x15 : Shape := ⟨2, ![1, 15]⟩
abbrev S500000x15 : Shape := ⟨2, ![500000, 15]⟩
abbrev S_ : Shape := ⟨0, ![]⟩
abbrev S1x1 : Shape := ⟨2, ![1, 1]⟩

abbrev nBuf : Space → Nat
  | .hbm => 56
  | .vmem => 0
  | .smem => 0
  | _ => 0

abbrev bufTy : (tb : Table) → Fin (tcTables nBuf tb) → BufTy
  | .hbm, ⟨0, _⟩ => ⟨S500000x1, .f32⟩
  | .hbm, ⟨1, _⟩ => ⟨S500000x1, .f32⟩
  | .hbm, ⟨2, _⟩ => ⟨S16, .f32⟩
  | .hbm, ⟨3, _⟩ => ⟨S15, .f32⟩
  | .hbm, ⟨4, _⟩ => ⟨S15, .f32⟩
  | .hbm, ⟨5, _⟩ => ⟨S1x15, .f32⟩
  | .hbm, ⟨6, _⟩ => ⟨S500000x15, .f32⟩
  | .hbm, ⟨7, _⟩ => ⟨S500000x15, .f32⟩
  | .hbm, ⟨8, _⟩ => ⟨S500000x15, .i1⟩
  | .hbm, ⟨9, _⟩ => ⟨S1x15, .f32⟩
  | .hbm, ⟨10, _⟩ => ⟨S500000x15, .f32⟩
  | .hbm, ⟨11, _⟩ => ⟨S500000x15, .f32⟩
  | .hbm, ⟨12, _⟩ => ⟨S500000x15, .i1⟩
  | .hbm, ⟨13, _⟩ => ⟨S500000x15, .i1⟩
  | .hbm, ⟨14, _⟩ => ⟨S500000x15, .f32⟩
  | .hbm, ⟨15, _⟩ => ⟨S_, .f32⟩
  | .hbm, ⟨16, _⟩ => ⟨S15, .f32⟩
  | .hbm, ⟨17, _⟩ => ⟨S_, .f32⟩
  | .hbm, ⟨18, _⟩ => ⟨S15, .f32⟩
  | .hbm, ⟨19, _⟩ => ⟨S15, .f32⟩
  | .hbm, ⟨20, _⟩ => ⟨S_, .f32⟩
  | .hbm, ⟨21, _⟩ => ⟨S15, .f32⟩
  | .hbm, ⟨22, _⟩ => ⟨S_, .f32⟩
  | .hbm, ⟨23, _⟩ => ⟨S15, .f32⟩
  | .hbm, ⟨24, _⟩ => ⟨S15, .f32⟩
  | .hbm, ⟨25, _⟩ => ⟨S500000x15, .f32⟩
  | .hbm, ⟨26, _⟩ => ⟨S500000x15, .f32⟩
  | .hbm, ⟨27, _⟩ => ⟨S_, .f32⟩
  | .hbm, ⟨28, _⟩ => ⟨S15, .f32⟩
  | .hbm, ⟨29, _⟩ => ⟨S15, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S15, .f32⟩
  | .hbm, ⟨34, _⟩ => ⟨S15, .f32⟩
  | .hbm, ⟨35, _⟩ => ⟨S_, .f32⟩
  | .hbm, ⟨36, _⟩ => ⟨S15, .f32⟩
  | .hbm, ⟨37, _⟩ => ⟨S15, .f32⟩
  | .hbm, ⟨38, _⟩ => ⟨S500000x15, .f32⟩
  | .hbm, ⟨39, _⟩ => ⟨S500000x15, .f32⟩
  | .hbm, ⟨40, _⟩ => ⟨S_, .f32⟩
  | .hbm, ⟨41, _⟩ => ⟨S15, .f32⟩
  | .hbm, ⟨42, _⟩ => ⟨S15, .f32⟩
  | .hbm, ⟨43, _⟩ => ⟨S_, .f32⟩
  | .hbm, ⟨44, _⟩ => ⟨S15, .f32⟩
  | .hbm, ⟨45, _⟩ => ⟨S15, .i1⟩
  | .hbm, ⟨46, _⟩ => ⟨S15, .f32⟩
  | .hbm, ⟨47, _⟩ => ⟨S15, .f32⟩
  | .hbm, ⟨48, _⟩ => ⟨S15, .f32⟩
  | .hbm, ⟨49, _⟩ => ⟨S_, .f32⟩
  | .hbm, ⟨50, _⟩ => ⟨S_, .f32⟩
  | .hbm, ⟨51, _⟩ => ⟨S15, .f32⟩
  | .hbm, ⟨52, _⟩ => ⟨S15, .f32⟩
  | .hbm, ⟨53, _⟩ => ⟨S_, .f32⟩
  | .hbm, ⟨54, _⟩ => ⟨S_, .f32⟩
  | .hbm, ⟨55, _⟩ => ⟨S1x1, .f32⟩
  | _, _ => ⟨S500000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_cst_5 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_call1_v0 : Ref sig .tc := ⟨.hbm, 50, rfl⟩
abbrev main_call1_v1 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Conf.lean ====
abbrev S500000x100 : Shape := ⟨2, ![500000, 100]⟩
abbrev S500000 : Shape := ⟨1, ![500000]⟩
abbrev S125x4000x100 : Shape := ⟨3, ![125, 4000, 100]⟩
abbrev S125x100x4000 : Shape := ⟨3, ![125, 100, 4000]⟩
abbrev S125x1x4000 : Shape := ⟨3, ![125, 1, 4000]⟩
abbrev S1x100x4000 : Shape := ⟨3, ![1, 100, 4000]⟩
abbrev S1x1x4000 : Shape := ⟨3, ![1, 1, 4000]⟩
abbrev S100x4000 : Shape := ⟨2, ![100, 4000]⟩
abbrev S4000 : Shape := ⟨1, ![4000]⟩
abbrev S1x4000 : Shape := ⟨2, ![1, 4000]⟩

abbrev nBuf : Space → Nat
  | .hbm => 7
  | .vmem => 8
  | .smem => 0
  | _ => 0

abbrev bufTy : (tb : Table) → Fin (tcTables nBuf tb) → BufTy
  | .hbm, ⟨0, _⟩ => ⟨S500000x100, .f32⟩
  | .hbm, ⟨1, _⟩ => ⟨S500000, .i32⟩
  | .hbm, ⟨2, _⟩ => ⟨S125x4000x100, .f32⟩
  | .hbm, ⟨3, _⟩ => ⟨S125x100x4000, .f32⟩
  | .hbm, ⟨4, _⟩ => ⟨S125x1x4000, .i32⟩
  | .hbm, ⟨5, _⟩ => ⟨S125x1x4000, .f32⟩
  | .hbm, ⟨6, _⟩ => ⟨S125x1x4000, .f32⟩
  | .local _ .vmem, ⟨0, _⟩ => ⟨S1x100x4000, .f32⟩
  | .local _ .vmem, ⟨1, _⟩ => ⟨S1x100x4000, .f32⟩
  | .local _ .vmem, ⟨2, _⟩ => ⟨S1x1x4000, .i32⟩
  | .local _ .vmem, ⟨3, _⟩ => ⟨S1x1x4000, .i32⟩
  | .local _ .vmem, ⟨4, _⟩ => ⟨S1x1x4000, .f32⟩
  | .local _ .vmem, ⟨5, _⟩ => ⟨S1x1x4000, .f32⟩
  | .local _ .vmem, ⟨6, _⟩ => ⟨S1x1x4000, .f32⟩
  | .local _ .vmem, ⟨7, _⟩ => ⟨S1x1x4000, .f32⟩
  | _, _ => ⟨S500000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x100x4000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConfReferenceIdeal.lean ====
abbrev S500000x100 : Shape := ⟨2, ![500000, 100]⟩
abbrev S500000 : Shape := ⟨1, ![500000]⟩
abbrev S_ : Shape := ⟨0, ![]⟩
abbrev S500000x1 : Shape := ⟨2, ![500000, 1]⟩
abbrev S125x1x4000 : Shape := ⟨3, ![125, 1, 4000]⟩

abbrev nBuf : Space → Nat
  | .hbm => 34
  | .vmem => 0
  | .smem => 0
  | _ => 0

abbrev bufTy : (tb : Table) → Fin (tcTables nBuf tb) → BufTy
  | .hbm, ⟨0, _⟩ => ⟨S500000x100, .f32⟩
  | .hbm, ⟨1, _⟩ => ⟨S500000, .i32⟩
  | .hbm, ⟨2, _⟩ => ⟨S_, .f32⟩
  | .hbm, ⟨3, _⟩ => ⟨S500000, .f32⟩
  | .hbm, ⟨4, _⟩ => ⟨S_, .f32⟩
  | .hbm, ⟨5, _⟩ => ⟨S500000, .f32⟩
  | .hbm, ⟨6, _⟩ => ⟨S500000, .f32⟩
  | .hbm, ⟨7, _⟩ => ⟨S500000x1, .f32⟩
  | .hbm, ⟨8, _⟩ => ⟨S500000x100, .f32⟩
  | .hbm, ⟨9, _⟩ => ⟨S500000x100, .f32⟩
  | .hbm, ⟨10, _⟩ => ⟨S500000x100, .f32⟩
  | .hbm, ⟨11, _⟩ => ⟨S_, .f32⟩
  | .hbm, ⟨12, _⟩ => ⟨S500000, .f32⟩
  | .hbm, ⟨13, _⟩ => ⟨S500000x1, .f32⟩
  | .hbm, ⟨14, _⟩ => ⟨S500000x100, .f32⟩
  | .hbm, ⟨15, _⟩ => ⟨S500000x100, .f32⟩
  | .hbm, ⟨16, _⟩ => ⟨S_, .f32⟩
  | .hbm, ⟨17, _⟩ => ⟨S500000, .f32⟩
  | .hbm, ⟨18, _⟩ => ⟨S500000x100, .i32⟩
  | .hbm, ⟨19, _⟩ => ⟨S_, .f32⟩
  | .hbm, ⟨20, _⟩ => ⟨S_, .i32⟩
  | .hbm, ⟨21, _⟩ => ⟨S500000, .f32⟩
  | .hbm, ⟨22, _⟩ => ⟨S500000, .i32⟩
  | .hbm, ⟨23, _⟩ => ⟨S500000, .i1⟩
  | .hbm, ⟨24, _⟩ => ⟨S500000, .f32⟩
  | .hbm, ⟨25, _⟩ => ⟨S_, .f32⟩
  | .hbm, ⟨26, _⟩ => ⟨S500000, .f32⟩
  | .hbm, ⟨27, _⟩ => ⟨S500000, .i1⟩
  | .hbm, ⟨28, _⟩ => ⟨S_, .f32⟩
  | .hbm, ⟨29, _⟩ => ⟨S_, .f32⟩
  | .hbm, ⟨30, _⟩ => ⟨S500000, .f32⟩
  | .hbm, ⟨31, _⟩ => ⟨S500000, .f32⟩
  | .hbm, ⟨32, _⟩ => ⟨S125x1x4000, .f32⟩
  | .hbm, ⟨33, _⟩ => ⟨S125x1x4000, .f32⟩
  | _, _ => ⟨S500000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_call0_v0 : Ref sig .tc := ⟨.hbm, 18, rfl⟩
abbrev main_call0_cst : Ref sig .tc := ⟨.hbm, 19, rfl⟩
abbrev main_call0_c : Ref sig .tc := ⟨.hbm, 20, rfl⟩
abbrev main_call0_v1_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Proof.Count.lean ====
/-
  Histograms as counts. A tile adds ones at the bins its words select; the facts here say that sixteen masked adds of ones
  raise each bin by the number of lanes that select it, that trips of sixteen add up to a count over the tile's words, and
  that the counts of consecutive stretches add up to the count over their union.
-/
module

public import Idealize.ShloMosaic.PureOps
public import Idealize.ShloMosaic.Lib.SortFacts
public import Mathlib.Order.Interval.Finset.Nat
public import Mathlib.Data.Nat.Count

@[expose] public section

namespace Cert.Proof

open Idealize.ShloMosaic

/-- How many of the `n` words after position `lo` select bin `j`. -/
def tally (sel : BitVec 32 → Option ℕ) (w : ℕ → BitVec 32) (lo n j : ℕ) : ℕ :=
  Nat.count (fun t => sel (w (lo + t)) = some j) n

theorem tally_zero (sel : BitVec 32 → Option ℕ) (w : ℕ → BitVec 32) (lo j : ℕ) : tally sel w lo 0 j = 0 := rfl

/-- Counting over a longer stretch: the first part's count and the rest's. -/
theorem tally_add (sel : BitVec 32 → Option ℕ) (w : ℕ → BitVec 32) (lo a b j : ℕ) :
    tally sel w lo (a + b) j = tally sel w lo a j + tally sel w (lo + a) b j := by
  unfold tally
  rw [Nat.count_add]
  simp only [Nat.add_assoc]

/-- The counts of `m` stretches of length `n` add up to the count over their union. -/
theorem sum_tally (sel : BitVec 32 → Option ℕ) (w : ℕ → BitVec 32) (n j : ℕ) (m : ℕ) :
    ∑ k ∈ Finset.range m, tally sel w (n * k) n j = tally sel w 0 (n * m) j := by
  induction m with
  | zero => simp [tally_zero]
  | succ m ih => rw [Finset.sum_range_succ, ih, Nat.mul_succ, tally_add, Nat.zero_add]

theorem countP_finRange (p : ℕ → Bool) (n : ℕ) : (List.finRange n).countP (fun k => p k.val) = Nat.count (fun t => p t = true) n := by
  induction n with
  | zero => rfl
  | succ n ih =>
    rw [List.finRange_succ_last, List.countP_append, Nat.count_succ, List.countP_map]
    simp only [Function.comp_def, Fin.val_castSucc, List.countP_cons, List.countP_nil, Fin.val_last]
    rw [ih]
    by_cases h : p n = true <;> simp [h]

/-- Masked adds of ones over a list of lanes, bin by bin: what was there plus the number of lanes that name the bin. -/
theorem foldl_add_ones {s : Shape} {ι : Type} (mk : ι → Prop) [DecidablePred mk] (at' : ι → s.Idx) (l : List ι) (f : s.Idx → BitVec 32) (j : s.Idx) :
    (l.foldl (fun (g : s.Idx → BitVec 32) k => if mk k then (fun j => if (∀ a, (j a).val = (at' k a).val) then g (at' k) + 1#32 else g j) else g) f) j
      = f j + BitVec.ofNat 32 (l.countP fun k => decide (mk k ∧ at' k = j)) := by
  induction l generalizing f with
  | nil => simp
  | cons k l ih =>
    rw [List.foldl_cons, ih, List.countP_cons]
    by_cases hm : mk k
    · rw [if_pos hm]
      by_cases hj : at' k = j
      · subst hj
        simp only [hm, and_self, implies_true, if_true, decide_true]
        rw [BitVec.add_assoc, Nat.add_comm, BitVec.ofNat_add]
      · have hne : ¬ ∀ a, (j a).val = (at' k a).val := fun h => hj (funext fun a => Fin.ext (h a).symm)
        simp only [hne, hj, and_false, if_false, decide_false, Bool.false_eq_true, Nat.add_zero]
    · simp only [hm, if_false, false_and, decide_false, Bool.false_eq_true, Nat.add_zero]

/-- The lane of a rank-one vector of 16, and the bin of a rank-one table, by number. -/
abbrev lane (k : Fin 16) : (⟨1, ![16]⟩ : Shape).Idx := Shape.Idx.ofFin k

theorem ofLane_eq (k : Fin 16) : (Shape.ofLane (d := ![16]) k) = lane k := by
  funext a; apply Fin.ext; obtain rfl : a = 0 := Subsingleton.elim _ _; rfl

/-- A masked scatter-add of ones into a table of counts, at the lanes' selections: each count goes up by the number of
    lanes that select its bin. -/
theorem storeIdx_tally {F : FTy → Type} [FloatOps F] {n : ℕ} (f : Vec F ⟨1, ![n]⟩ .i32) (idxs : Fin 1 → IVec ⟨1, ![16]⟩ 32) (v : Vec F ⟨1, ![16]⟩ .i32)
    (mask : IVec ⟨1, ![16]⟩ 1) (h : ∀ a x, (idxs a x).toNat < (⟨1, ![n]⟩ : Shape).size a) (hv : ∀ x, v x = (1#32 : BitVec 32))
    (sel : BitVec 32 → Option ℕ) (w : ℕ → BitVec 32) (lo t : ℕ)
    (hsel : ∀ (k : Fin 16) (j : ℕ), (mask (lane k) = 1#1 ∧ (idxs 0 (lane k)).toNat = j) ↔ sel (w (lo + t + k.val)) = some j)
    (hf : ∀ j : (⟨1, ![n]⟩ : Shape).Idx, (f j : BitVec 32) = BitVec.ofNat 32 (tally sel w lo t (j 0).val)) (j : (⟨1, ![n]⟩ : Shape).Idx) :
    (storeIdx (s := ⟨1, ![n]⟩) (e := .i32) f idxs v mask true h j : BitVec 32) = BitVec.ofNat 32 (tally sel w lo (t + 16) (j 0).val) := by
  unfold storeIdx
  simp only [if_true, Elt.idxAdd_i32, hv]
  refine (foldl_add_ones (s := ⟨1, ![n]⟩) (fun k : Fin 16 => mask (Shape.ofLane (d := ![16]) k) = 1) (fun k => idxAt (s := ⟨1, ![n]⟩) idxs h (Shape.ofLane (d := ![16]) k))
    (List.finRange 16) f j).trans ?_
  rw [hf j, tally_add, BitVec.ofNat_add]
  congr 2
  rw [show tally sel w (lo + t) 16 (j 0).val = Nat.count (fun u => (decide (sel (w (lo + t + u)) = some (j 0).val)) = true) 16 by
    unfold tally; simp only [decide_eq_true_eq]]
  rw [← countP_finRange (fun u => decide (sel (w (lo + t + u)) = some (j 0).val))]
  refine List.countP_congr fun k _ => ?_
  simp only [decide_eq_true_eq]
  rw [← hsel k, ofLane_eq]
  refine and_congr Iff.rfl ⟨fun e => ?_, fun e => ?_⟩
  · rw [← e]; rfl
  · funext a; obtain rfl : a = 0 := Subsingleton.elim _ _
    exact Fin.ext e

attribute [irreducible] tally

end Cert.Proof
-- ==== Proof.Setup.lean ====
/-
  The launch's set-up: the program as the launch theorem sees it, the resource algebra (the handshakes' rounds beside the
  transfers' counters), and the names of a vector subcore's coordinates.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Count
public import proofs.«01_k».proof.Proof.Gen.Kernel
public import proofs.«01_k».proof.Proof.Gen.Kernel.Skeleton

@[expose] public section

noncomputable section

namespace Cert.Proof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program's arrays as the calls name them -/

/-- The padded confidences. -/
abbrev xS : Ref sig .scVector := main_v1_scv
/-- The first call's output; -/
abbrev o1S : Ref sig .scVector := main_v2_scv
/-- the second call's map from buckets, and its output; -/
abbrev m2S : Ref sig .scVector := main_arg1_scv
abbrev o2S : Ref sig .scVector := main_v5_scv
/-- the third call's map from buckets, its map from the second histogram's bins, and its output. -/
abbrev m3S : Ref sig .scVector := main_arg1_scv
abbrev n3S : Ref sig .scVector := main_arg2_scv
abbrev o3S : Ref sig .scVector := main_v8_scv

/-- The same arrays as the host names them. -/
abbrev xT : Ref sig .tc := main_v1
abbrev o1T : Ref sig .tc := main_v2
abbrev m2T : Ref sig .tc := main_arg1
abbrev o2T : Ref sig .tc := main_v5
abbrev m3T : Ref sig .tc := main_arg1
abbrev n3T : Ref sig .tc := main_arg2
abbrev o3T : Ref sig .tc := main_v8

/-- The number of SparseCore calls. -/
abbrev NC : ℕ := 3

abbrev ΛP : Labels := Pipeline.Sig Λ₀ (Fin 0) fun p => (pcfgs (F := F) p).Adm
abbrev K : SparseCore.Cfg τ sig (ΛP (F := F)) NC := sc (F := F)
abbrev D [BitOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

/-- The handshakes' rounds library, the left factor; the transfers' counters are found in the right. -/
abbrev EH : Emb UH (MT nD τ sig (HIx NC) (Elt F) ℕ UU ℕ) := embL

/-- What a task leaves besides its results: its own waits recorded, none of them of the launch's. -/
theorem obl_post {thr : Thread nD τ} {A B C : sProp (MT nD τ sig (HIx NC) (Elt F) ℕ UU ℕ)} {O : CellTallies nD τ sig (HIx NC)} {W : Waits sig (HIx NC)} {q : Fin NC} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A semaphore of a vector subcore's own scope is among its cells; -/
theorem own_sem (d : Dev nD) (c : Fin τ.nSC) (j : Fin τ.nSub) (s : DmaSem sig) (hs : (SemLoc.dma s : SemLoc sig).isScoped .scVector = true) :
    ((V d c j, SemLoc.dma s) : GSem nD τ sig) ∈ ownCells (V d c j) :=
  mem_ownCells.mpr ⟨rfl, hs⟩

/-- still there when another is taken out; -/
theorem erase_sem {t : Thread nD τ} {s s' : DmaSem sig} {S : Finset (GSem nD τ sig)} (h : (SemLoc.dma s : SemLoc sig) ≠ SemLoc.dma s') (hs : (t, SemLoc.dma s) ∈ S) :
    ((t, SemLoc.dma s) : GSem nD τ sig) ∈ S.erase (t, SemLoc.dma s') :=
  Finset.mem_erase.mpr ⟨fun e => h (Prod.mk.inj e).2, hs⟩

/-- and so a buffer of its own. -/
theorem erase_ref {c : Fin τ.nSC} {j : Fin τ.nSub} {r r' : Ref sig .scVector} {S : Finset (DevRef τ sig)} (h : r ≠ r') (hr : (Proc.scVector c j).devRef r ∈ S) :
    (Proc.scVector c j).devRef r ∈ S.erase ((Proc.scVector c j).devRef r') :=
  Finset.mem_erase.mpr ⟨fun e => h (Proc.devRef_injective _ e), hr⟩

theorem own_ref (c : Fin τ.nSC) (j : Fin τ.nSub) (r : Ref sig .scVector) (h : ((Proc.scVector c j).devRef r).owner = .proc (Proc.scVector c j)) :
    (Proc.scVector c j).devRef r ∈ ownRefs (τ := τ) (.scVector c j) :=
  SparseCore.Cfg.mem_ownRefs_of_owner (p := Proc.scVector c j) (b := (Proc.scVector c j).devRef r) h

/-- A wait of the task's own recorded beside those there are. -/
theorem waits_cons {a : SemLoc sig × HIx NC} {W W' : Waits sig (HIx NC)} (h : ∀ p ∈ W', p ∈ W ∨ p.2 = none) (ha : a.2 = none := by rfl) :
    ∀ p ∈ insert a W', p ∈ W ∨ p.2 = none := by
  intro p hp
  rcases Finset.mem_insert.mp hp with rfl | hp
  · exact .inr ha
  · exact h p hp

/-- The word at position `t` of the padded array, zero past its end. -/
def wordAt [BitOps F] (f : S500224.Idx → F .f32) (t : ℕ) : BitVec 32 :=
  if h : t < 500224 then BitOps.toBits (f (Shape.Idx.ofFin ⟨t, h⟩)) else 0#32

/-- What a call leaves in its output of `32 · nb` words: tile `k`'s histogram of its own 15632 words in part `k`. -/
def hists [BitOps F] (sel : BitVec 32 → Option ℕ) (nb : ℕ) (f : S500224.Idx → F .f32) (p : ℕ) : BitVec 32 :=
  BitVec.ofNat 32 (tally sel (wordAt f) (15632 * (p / nb)) 15632 (p % nb))

/-- A word is the one the array holds at its place. -/
theorem wordAt_of_val [BitOps F] (f : S500224.Idx → F .f32) (i : S500224.Idx) {t : ℕ} (h : (i 0).val = t) : BitOps.toBits (f i) = wordAt f t := by
  subst h
  unfold wordAt
  rw [dif_pos (show (i 0).val < 500224 from (i 0).isLt)]
  congr 2
  funext a
  obtain rfl : a = 0 := Subsingleton.elim _ _
  rfl

/-- What a histogram's part holds, at a place given by its part and its bin. -/
theorem hists_eq [BitOps F] (sel : BitVec 32 → Option ℕ) {nb : ℕ} (f : S500224.Idx → F .f32) {p k j : ℕ} (hp : p = nb * k + j) (hj : j < nb) :
    hists sel nb f p = BitVec.ofNat 32 (tally sel (wordAt f) (15632 * k) 15632 j) := by
  unfold hists
  rw [hp, Nat.mul_add_div (by omega), Nat.div_eq_of_lt hj, Nat.mul_add_mod, Nat.mod_eq_of_lt hj, Nat.add_zero]

/-- Contents that read the same through a view agree on its elements. -/
theorem eq_on_of_read {Val : EltTy → Type} {κ : Kind} {sp : Space} {s : Shape} {e : EltTy} (v : View sig κ sp s e) {f g : v.ty.Contents Val}
    (h : ∀ x, v.read Val f x = v.read Val g x) : ∀ i ∈ v.set, f i = g i := by
  intro i hi
  obtain ⟨x, -, rfl⟩ := Finset.mem_map.mp hi
  exact (cast_inj _).mp (h x)

/-- A payload written through the whole of a view is what the view then reads. -/
theorem read_writes_whole {Val : EltTy → Type} {κ : Kind} {sp : Space} {s : Shape} {e : EltTy} (v : View sig κ sp s e) (f : v.ty.Contents Val) (w : s.Idx → Val e) (x : s.Idx) :
    v.read Val (v.writes Val f [⟨Rect.whole s, w⟩]) x = w x :=
  View.read_writes_cons_hit_of_coords v f (Rect.whole s) w [] x x (fun a => by show _ = 0 + 1 * (x a).val; omega)

/-- Sixteen more zeros: a stretch of zeros grown by a store of sixteen zeros at its end. -/
theorem zero_step {Val : EltTy → Type} {κ : Kind} {sp : Space} {N : ℕ} (v : View sig κ sp ⟨1, ![N]⟩ .i32) (z : Val .i32) (h : v.ty.Contents Val) {off : Fin 1 → ℕ}
    (inb : ∀ a, off a + (![16] : Fin 1 → ℕ) a ≤ (⟨1, ![N]⟩ : Shape).size a) {k : ℕ} (hoff : off = ![16 * k]) (w : S16.Idx → Val .i32) (hw : ∀ x, w x = z)
    (hh : ∀ j : (⟨1, ![N]⟩ : Shape).Idx, (j 0).val < 16 * k → v.read Val h j = z) (j : (⟨1, ![N]⟩ : Shape).Idx) (hj : (j 0).val < 16 * (k + 1)) :
    v.read Val (v.writes Val h [⟨Rect.unit (s := ⟨1, ![N]⟩) off ![16] inb, w⟩]) j = z := by
  subst hoff
  by_cases hk : (j 0).val < 16 * k
  · rw [View.read_writes_cons_miss_of_axis v h _ _ j 0 (16 * k) 16 rfl rfl rfl (.inl hk)]
    exact hh j hk
  · refine (View.read_writes_cons_hit_of_coords v h (Rect.unit (s := ⟨1, ![N]⟩) ![16 * k] ![16] inb) w [] (fun a => ⟨(j 0).val - 16 * k, by
      obtain rfl : a = 0 := Subsingleton.elim _ _
      show _ < 16; omega⟩) j (fun a => by
        obtain rfl : a = 0 := Subsingleton.elim _ _
        show (j 0).val = 16 * k + 1 * ((j 0).val - 16 * k); omega)).trans ?_
    exact hw _

/-- A word between two bounds, read as a signed number, is one below the upper bound read as an unsigned number. -/
theorem in_range_iff (x : BitVec 32) (n : ℕ) (hn : n < 2147483648) :
    ((IntOp.cmpi .sge x 0#32) &&& (IntOp.cmpi .slt x (BitVec.ofNat 32 n)) = 1#1) ↔ x.toNat < n := by
  have hx := x.isLt
  have h1 : ((IntOp.cmpi .sge x 0#32) &&& (IntOp.cmpi .slt x (BitVec.ofNat 32 n)) = 1#1) ↔ ((0#32 : BitVec 32).sle x = true ∧ x.slt (BitVec.ofNat 32 n) = true) := by
    show (BitVec.ofBool ((0#32 : BitVec 32).sle x) &&& BitVec.ofBool (x.slt (BitVec.ofNat 32 n)) = 1#1) ↔ _
    cases (0#32 : BitVec 32).sle x <;> cases x.slt (BitVec.ofNat 32 n) <;> decide
  rw [h1, BitVec.sle_iff_toInt_le, BitVec.slt_iff_toInt_lt, BitVec.toInt_eq_toNat_cond, BitVec.toInt_eq_toNat_cond, BitVec.toInt_eq_toNat_cond, BitVec.toNat_ofNat, BitVec.toNat_ofNat, Nat.mod_eq_of_lt (by omega : n < 2 ^ 32), Nat.zero_mod]
  split <;> split <;> simp <;> omega

attribute [irreducible] hists wordAt

end Cert.Proof

end
-- ==== Proof.Select.lean ====
/-
  Which bin of each of the three histograms a word selects. The first goes by the word's bucket; the second only counts the
  buckets that a map gives a number, and takes the next ten bits; the third only counts the second's bins that a further
  map gives a number, and takes the last six.
-/
module

public import proofs.«01_k».proof.Proof.Count

@[expose] public section

namespace Cert.Proof

open Idealize.ShloMosaic

/-- The bucket of a word: the top sixteen bits of its distance from the lowest value counted. -/
def bk (w : BitVec 32) : BitVec 32 := (w - 998244352#32).sshiftRight 16

/-- The bin of the first histogram a word selects: its bucket, when that is below 1024. -/
def sel1 (w : BitVec 32) : Option ℕ := if (bk w).toNat < 1024 then some (bk w).toNat else none

/-- A table's entry by number. -/
def entry {n : ℕ} (g : (⟨1, ![n]⟩ : Shape).Idx → BitVec 32) (t : ℕ) : BitVec 32 := if h : t < n then g (Shape.Idx.ofFin ⟨t, h⟩) else 0#32

/-- A word is not negative as a signed number. -/
def nonneg (w : BitVec 32) : Prop := (0#32 : BitVec 32).sle w = true

instance (w : BitVec 32) : Decidable (nonneg w) := inferInstanceAs (Decidable (_ = _))

/-- The second histogram's bin for a word whose bucket has number `c`. -/
def idx2 (c w : BitVec 32) : BitVec 32 := c * 1024#32 + (w.sshiftRight 6 &&& 1023#32)

/-- The third histogram's bin for a word whose bin in the second has number `c`. -/
def idx3 (c w : BitVec 32) : BitVec 32 := c * 64#32 + (w &&& 63#32)

section
variable {n n' : ℕ} (g : (⟨1, ![n]⟩ : Shape).Idx → BitVec 32) (g' : (⟨1, ![n']⟩ : Shape).Idx → BitVec 32)

/-- The second histogram counts a word: its bucket is below 1024 and has a number; -/
def ok2 (w : BitVec 32) : Prop := (bk w).toNat < 1024 ∧ nonneg (entry g (bk w).toNat)
/-- its bin. -/
abbrev bin2 (w : BitVec 32) : BitVec 32 := idx2 (entry g (bk w).toNat) w
/-- The third histogram counts a word: the second does, and the bin there has a number; -/
def ok3 (w : BitVec 32) : Prop := ok2 g w ∧ nonneg (entry g' (bin2 g w).toNat)
/-- its bin. -/
abbrev bin3 (w : BitVec 32) : BitVec 32 := idx3 (entry g' (bin2 g w).toNat) w

instance (w : BitVec 32) : Decidable (ok2 g w) := inferInstanceAs (Decidable (_ ∧ _))
instance (w : BitVec 32) : Decidable (ok3 g g' w) := inferInstanceAs (Decidable (_ ∧ _))

def sel2 (w : BitVec 32) : Option ℕ := if ok2 g w then some (bin2 g w).toNat else none
def sel3 (w : BitVec 32) : Option ℕ := if ok3 g g' w then some (bin3 g g' w).toNat else none
end

/-- Numbers of a table: its entries that are not negative are below 32. -/
def Numbers {n : ℕ} (g : (⟨1, ![n]⟩ : Shape).Idx → BitVec 32) : Prop := ∀ j, nonneg (g j) → (g j).toNat < 32

theorem Numbers.entry {n : ℕ} {g : (⟨1, ![n]⟩ : Shape).Idx → BitVec 32} (hg : Numbers g) (t : ℕ) (h : nonneg (entry g t)) : (Cert.Proof.entry g t).toNat < 32 := by
  unfold Cert.Proof.entry at h ⊢
  split
  · rename_i ht; rw [dif_pos ht] at h; exact hg _ h
  · decide

theorem idx2_lt {c w : BitVec 32} (h : c.toNat < 32) : (idx2 c w).toNat = c.toNat * 1024 + (w.sshiftRight 6 &&& 1023#32).toNat ∧ (w.sshiftRight 6 &&& 1023#32).toNat < 1024 := by
  have h1 : (w.sshiftRight 6 &&& 1023#32).toNat ≤ 1023 := by rw [BitVec.toNat_and]; exact Nat.and_le_right
  unfold idx2
  rw [BitVec.toNat_add, BitVec.toNat_mul, show (1024#32 : BitVec 32).toNat = 1024 from rfl]
  omega

theorem idx3_lt {c w : BitVec 32} (h : c.toNat < 32) : (idx3 c w).toNat = c.toNat * 64 + (w &&& 63#32).toNat ∧ (w &&& 63#32).toNat < 64 := by
  have h1 : (w &&& 63#32).toNat ≤ 63 := by rw [BitVec.toNat_and]; exact Nat.and_le_right
  unfold idx3
  rw [BitVec.toNat_add, BitVec.toNat_mul, show (64#32 : BitVec 32).toNat = 64 from rfl]
  omega

/-- Two conditions as bits, both set. -/
theorem and_bit (a b : BitVec 1) : (a &&& b = 1#1) ↔ (a = 1#1 ∧ b = 1#1) := by revert a b; decide

/-- The bit of a word's being at least zero. -/
theorem sge_zero_iff (w : BitVec 32) : IntOp.cmpi .sge w 0#32 = 1#1 ↔ nonneg w := by
  show BitVec.ofBool ((0#32 : BitVec 32).sle w) = 1#1 ↔ (0#32 : BitVec 32).sle w = true
  cases (0#32 : BitVec 32).sle w <;> decide

end Cert.Proof
-- ==== Proof.Hist1.lean ====
/-
  The first SparseCore call's task: one tile fetches its 15632 words, zeroes its histogram, adds a one at the bucket of
  every word in range, sixteen words a trip, and writes the histogram to its part of the output. `Hist1.body` says the part
  holds the tile's counts.
-/
module

public import proofs.«01_k».proof.Proof.Setup
public import proofs.«01_k».proof.Proof.Select

@[expose] public section

noncomputable section

namespace Cert.Proof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx NC) (Elt F) ℕ UU ℕ

namespace Hist1

variable [BitOps F]

theorem pay3_apply (v : Vec F S16 .f32) (x : S16.Idx) : k0_pay3 v x = bk (BitOps.toBits (v x)) := by
  unfold k0_pay3 bk
  rfl

theorem pay4_iff (v : Vec F S16 .f32) (x : S16.Idx) : k0_pay4 v x = 1#1 ↔ (bk (BitOps.toBits (v x))).toNat < 1024 := by
  rw [← in_range_iff _ 1024 (by decide), ← pay3_apply]; rfl

theorem pay5_apply (v : Vec F S16 .f32) (x : S16.Idx) : k0_pay5 v x = if (bk (BitOps.toBits (v x))).toNat < 1024 then bk (BitOps.toBits (v x)) else 0#32 := by
  rw [← pay3_apply]
  by_cases h : (k0_pay3 v x).toNat < 1024
  · rw [if_pos h]
    have := (pay4_iff v x).2 (by rw [← pay3_apply]; exact h)
    show (if k0_pay4 v x = 1#1 then _ else _) = _
    rw [if_pos this]
  · rw [if_neg h]
    have : ¬ k0_pay4 v x = 1#1 := fun e => h (by rw [pay3_apply]; exact (pay4_iff v x).1 e)
    show (if k0_pay4 v x = 1#1 then _ else _) = _
    rw [if_neg this]; rfl

theorem chk1 (v : Vec F S16 .f32) : k0_chk1 (k0_pay5 v) := by
  intro a x
  obtain rfl : a = 0 := Subsingleton.elim _ _
  show (k0_pay5 v x).toNat < 1024
  rw [pay5_apply]; split
  · assumption
  · decide

theorem hsel (v : Vec F S16 .f32) (x : S16.Idx) (j : ℕ) :
    (k0_pay4 v x = 1#1 ∧ ((![k0_pay5 v] : Fin 1 → IVec S16 32) 0 x).toNat = j) ↔ sel1 (BitOps.toBits (v x)) = some j := by
  show (k0_pay4 v x = 1#1 ∧ (k0_pay5 v x).toNat = j) ↔ _
  rw [pay4_iff, pay5_apply]
  unfold sel1
  by_cases h : (bk (BitOps.toBits (v x))).toNat < 1024
  · simp [h]
  · simp [h]

/-! ## The task's arrays and cells -/

abbrev cA : Memref sig .scVector .hbm S500224 .f32 := Memref.whole xS
abbrev oA : Memref sig .scVector .hbm S32768 .i32 := Memref.whole o1S
abbrev dS : Memref sig .scVector .vmem S15632 .f32 := Memref.whole cc0_scratch0
abbrev hS : Memref sig .scVector .vmem S1024 .i32 := Memref.whole cc0_scratch1

variable (d : Dev nD) (L : grid0.Coords)

abbrev cV : Fin τ.nSC := (L 0).castLE hcore0
abbrev jV : Fin τ.nSub := (L 1).castLE hsub0
abbrev thr : Thread nD τ := V d (cV L) (jV L)
abbrev wid : ℕ := (L 1).val * 2 + (L 0).val

abbrev cSl : Memref sig .scVector .hbm S15632 .f32 := cA.slice (Rect.unit (s := S500224) (k0_off1 L) S15632.size (k0_off1_inb L)) (fun _ => rfl)
abbrev oSl : Memref sig .scVector .hbm S1024 .i32 := oA.slice (Rect.unit (s := S32768) (k0_off4 L) S1024.size (k0_off4_inb L)) (fun _ => rfl)

/-- The tile's words as fetched: its stretch of the padded array. -/
def dat (f : S500224.Idx → F .f32) : Buf (Elt F) ((thr d L).loc cc0_scratch0) := (cSl L).view.read (Elt F) f

theorem dat_apply (f : S500224.Idx → F .f32) (j : S15632.Idx) :
    BitOps.toBits (dat d L f j : F .f32) = wordAt f (15632 * wid L + (j 0).val) := by
  refine wordAt_of_val f ((cSl L).view.emb j) ?_
  show k0_off1 L 0 + 1 * (j 0).val = _
  rw [k0_off1_eq]
  show 31264 * (L 1).val + 15632 * (L 0).val + 1 * (j 0).val = _
  unfold wid; omega

theorem ownSems0_V :
    (ownSems0 (thr d L) : sProp 𝕄)
      = iprop(semVal (thr d L, SemLoc.dma cc0_scoped0.sem) 0 ∗ semVal (thr d L, SemLoc.dma cc0_scoped1.sem) 0
          ∗ bigSep (((ownCells (thr d L)).erase (thr d L, .dma cc0_scoped0.sem)).erase (thr d L, .dma cc0_scoped1.sem)) fun g => semVal g 0) := by
  unfold SparseCore.Cfg.ownSems0
  rw [SparseCore.bigSep_erase' (own_sem d (cV L) (jV L) cc0_scoped0.sem (by decide)),
    SparseCore.bigSep_erase' (erase_sem (by decide) (own_sem d (cV L) (jV L) cc0_scoped1.sem (by decide)))]

theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (own_ref (cV L) (jV L) cc0_scratch0 rfl)).trans ?_
  rw [SparseCore.bigSep_erase' (erase_ref (show (cc0_scratch1 : Ref sig .scVector) ≠ cc0_scratch0 by decide) (own_ref (cV L) (jV L) cc0_scratch1 rfl))]

theorem pts_d (f : Buf (Elt F) ((thr d L).loc cc0_scratch0)) :
    ((dS.view.loc (thr d L) ↦{fullShare} f : sProp 𝕄)) = ((thr d L).loc cc0_scratch0 ↦{fullShare} f : sProp 𝕄) := rfl

theorem pts_h (f : Buf (Elt F) ((thr d L).loc cc0_scratch1)) :
    ((hS.view.loc (thr d L) ↦{fullShare} f : sProp 𝕄)) = ((thr d L).loc cc0_scratch1 ↦{fullShare} f : sProp 𝕄) := rfl

/-- The zeroing loop's invariant: the bins below sixteen times the trip are zero. -/
def inv1 (n : ℕ) (_ : PUnit) : sProp 𝕄 :=
  iprop(∃ h : Buf (Elt F) ((thr d L).loc cc0_scratch1), ⌜∀ j : S1024.Idx, (j 0).val < 16 * n → (h j : BitVec 32) = 0#32⌝ ∗ (hS.view.loc (thr d L) ↦{fullShare} h))

/-- The counting loop's invariant: the fetched words as they are, each bin the count over the words of the trips so far. -/
def inv2 (f : S500224.Idx → F .f32) (n : ℕ) (_ : PUnit) : sProp 𝕄 :=
  iprop((dS.view.loc (thr d L) ↦{fullShare} dat d L f)
    ∗ ∃ h : Buf (Elt F) ((thr d L).loc cc0_scratch1), ⌜∀ j : S1024.Idx, (h j : BitVec 32) = BitVec.ofNat 32 (tally sel1 (wordAt f) (15632 * wid L) (16 * n) (j 0).val)⌝
      ∗ (hS.view.loc (thr d L) ↦{fullShare} h))

theorem zeroed (k : ℕ) (k' : Fin k0_t1_loop.trips) (hk : k'.val = k) (h : Buf (Elt F) ((thr d L).loc cc0_scratch1)) (hh : ∀ j : S1024.Idx, (j 0).val < 16 * k → (h j : BitVec 32) = 0#32)
    (j : S1024.Idx) (hj : (j 0).val < 16 * (k + 1)) :
    ((hS.view.writes (Elt F) h [⟨Rect.unit (s := S1024) (k0_off2 k') S16.size (k0_off2_inb k'), k0_pay1⟩] : Buf (Elt F) ((thr d L).loc cc0_scratch1)) j : BitVec 32) = 0#32 :=
  zero_step (Val := Elt F) hS.view (0#32 : BitVec 32) h (k0_off2_inb k') (by rw [k0_off2_eq, hk]) k0_pay1 (fun _ => rfl) hh j hj

theorem counted (f : S500224.Idx → F .f32) (k : ℕ) (k' : Fin k0_t2_loop.trips) (hk : k'.val = k) (h : Buf (Elt F) ((thr d L).loc cc0_scratch1))
    (hh : ∀ j : S1024.Idx, (h j : BitVec 32) = BitVec.ofNat 32 (tally sel1 (wordAt f) (15632 * wid L) (16 * k) (j 0).val)) (v : Vec F S16 .f32)
    (hv : v = dS.view.readAt (Elt F) (Rect.unit (s := S15632) (k0_off3 k') S16.size (k0_off3_inb k')).toLoadRect (dat d L f)) (hc) (j : S1024.Idx) :
    (storeIdx (F := F) (e := .i32) (s := S1024) h ![k0_pay5 v] k0_pay2 (k0_pay4 v) true hc j : BitVec 32)
      = BitVec.ofNat 32 (tally sel1 (wordAt f) (15632 * wid L) (16 * (k + 1)) (j 0).val) := by
  refine storeIdx_tally h _ _ _ hc (fun _ => rfl) sel1 (wordAt f) (15632 * wid L) (16 * k) (fun x jj => ?_) hh j
  rw [hsel]
  have : BitOps.toBits (v (lane x)) = wordAt f (15632 * wid L + 16 * k + x.val) := by
    rw [hv]
    refine (dat_apply d L f _).trans ?_
    congr 1
    show 15632 * wid L + (k0_off3 k' 0 + 1 * x.val) = _
    rw [k0_off3_eq, hk]
    show 15632 * wid L + (16 * k + 1 * x.val) = _
    omega
  rw [this]

theorem scattered (f : S500224.Idx → F .f32) (k : ℕ) (k' : Fin k0_t2_loop.trips) (hk : k'.val = k) (h : Buf (Elt F) ((thr d L).loc cc0_scratch1))
    (hh : ∀ j : S1024.Idx, (h j : BitVec 32) = BitVec.ofNat 32 (tally sel1 (wordAt f) (15632 * wid L) (16 * k) (j 0).val)) (v : Vec F S16 .f32)
    (hv : v = dS.view.readAt (Elt F) (Rect.unit (s := S15632) (k0_off3 k') S16.size (k0_off3_inb k')).toLoadRect (dat d L f)) (hc) (j : S1024.Idx) :
    ((hS.access (.whole S1024)).write (Elt F) h
        (storeIdx ((hS.access (.whole S1024)).read (Elt F) h) ![k0_pay5 v] k0_pay2 (k0_pay4 v) true hc) Finset.univ : S1024.Idx → BitVec 32) j
      = BitVec.ofNat 32 (tally sel1 (wordAt f) (15632 * wid L) (16 * (k + 1)) (j 0).val) := by
  have hr : (hS.access (.whole S1024)).read (Elt F) h = h := Memref.read_access_whole (Elt F) (cc0_scratch1 : Ref sig .scVector) h
  rw [hr]
  have hw := Memref.write_access_whole_univ (Elt F) (cc0_scratch1 : Ref sig .scVector) h (storeIdx (F := F) (e := .i32) (s := S1024) h ![k0_pay5 v] k0_pay2 (k0_pay4 v) true hc)
  exact (congrFun hw j).trans (counted d L f k k' hk h hh v hv hc j)

theorem pts_hw (f : Buf (Elt F) ((thr d L).loc cc0_scratch1)) :
    (((hS.access (.whole S1024)).loc (thr d L) ↦[(hS.access (.whole S1024)).set]{fullShare} f : sProp 𝕄)) = (hS.view.loc (thr d L) ↦{fullShare} f : sProp 𝕄) := by
  rw [show (hS.access (.whole S1024)).set = Finset.univ from Memref.set_access_whole (cc0_scratch1 : Ref sig .scVector)]

theorem written (f : S500224.Idx → F .f32) (g : S32768.Idx → BitVec 32) (h : Buf (Elt F) ((thr d L).loc cc0_scratch1))
    (hh : ∀ j : S1024.Idx, (h j : BitVec 32) = BitVec.ofNat 32 (tally sel1 (wordAt f) (15632 * wid L) 15632 (j 0).val)) :
    ∀ i ∈ (oSl L).view.set, ((oSl L).view.writes (Elt F) g [⟨Rect.whole S1024, hS.view.read (Elt F) h⟩]) i = (fun p : S32768.Idx => hists sel1 1024 f (p 0).val) i := by
  refine eq_on_of_read (oSl L).view fun x => ?_
  rw [read_writes_whole]
  have hp : ((oSl L).view.emb x 0).val = 1024 * wid L + (x 0).val := by
    show k0_off4 L 0 + 1 * (x 0).val = _
    rw [k0_off4_eq]
    show 2048 * (L 1).val + 1024 * (L 0).val + 1 * (x 0).val = _
    unfold wid; omega
  have hx : (x 0).val < 1024 := (x 0).isLt
  exact (hh x).trans (hists_eq sel1 f hp hx).symm

theorem body (hF : (K (F := F)).Facts) (f : S500224.Idx → F .f32) (g : S32768.Idx → BitVec 32) (O : CellTallies nD τ sig (HIx NC)) (W : Waits sig (HIx NC)) (hO : ∀ g, O g none = 0) :
    iprop((levAts (K (F := F)).L (K (F := F)).lev : sProp 𝕄) ∗ emp
        ∗ (((cSl L).view.loc (thr d L) ↦[(cSl L).view.set]{fullShare} f) ∗ ((oSl L).view.loc (thr d L) ↦[(oSl L).view.set]{fullShare} g))
        ∗ scopedBufs (thr d L) ∗ scopedSems0 (thr d L) ∗ owes (thr d L) O W)
      ⊢ wp frame (wpE (defs₀ (F := F)) 𝒱₀ (thr d L) none) Set.univ
          (cc0__sc_hist1_body L cA (Memref.isWhole_whole _) oA (Memref.isWhole_whole _) dS (Memref.isWhole_whole _) hS (Memref.isWhole_whole _) cc0_scoped0 cc0_scoped1)
          fun _ => iprop((((cSl L).view.loc (thr d L) ↦[(cSl L).view.set]{fullShare} f)
            ∗ ((oSl L).view.loc (thr d L) ↦[(oSl L).view.set]{fullShare} fun p => hists sel1 1024 f (p 0).val))
            ∗ scopedBufs (thr d L) ∗ scopedSems0 (thr d L)
            ∗ ∃ W', ⌜∀ p ∈ W', p ∈ W ∨ p.2 = none⌝ ∗ owes (thr d L) O W') := by
  rw [cc0__sc_hist1_body_eq_skeleton]; unfold cc0__sc_hist1_body_skel
  rw [(K (F := F)).scopedBufs_V hF d (cV L) (jV L), SparseCore.Cfg.scopedSems0_V (Val := Elt F) d (cV L) (jV L), ownSems0_V, ownBufs_V]
  iintro ⟨#Hlv, -, ⟨Hc, Ho⟩, ⟨⟨%fs, Hs⟩, ⟨%fh, Hh⟩, Hbufs⟩, ⟨HsemA, HsemB, Hsems⟩, HO⟩
  ihave Hmw := ((K (F := F)).mayWaits_none (thr := thr d L) hO) $$ Hlv
  ihave Hs := (Entails.of_eq (pts_d (F := F) d L _).symm) $$ Hs
  ihave Hh := (Entails.of_eq (pts_h (F := F) d L _).symm) $$ Hh
  sl_exec
  have hdat : View.write (Elt F) dS.view fs (body.sl.dma0 L f) Finset.univ = dat d L f := by
    rw [View.write_whole_univ]; rfl
  rw [hdat]
  sl_for (inv1 (F := F) d L) $$ [Hh]
  case region =>
    intro k _
    unfold inv1
    iintro ⟨%h, %hh, Hh⟩
    sl_exec
    sl_step
    iexists (hS.view.writes (Elt F) h [⟨Rect.unit (s := S1024) (k0_off2 k) S16.size (k0_off2_inb k), k0_pay1⟩]); isplitr
    · ipureintro; exact zeroed d L k.val k rfl h hh
    · iexact Hh
  · unfold inv1
    iexists fh; isplitr
    · ipureintro; intro j hj; omega
    · iexact Hh
  iintro %_ HI
  unfold inv1
  icases HI with ⟨%h0, %hh0, Hh⟩
  sl_for (inv2 (F := F) d L f) $$ [Hs Hh]
  case region =>
    intro k _
    unfold inv2
    iintro ⟨Hs, %h, %hh, Hh⟩
    sl_exec
    rw [wp_assume_of _ _ _ _ (show k0_chk1 (body.sl.v22 d L f k) from chk1 _)]
    ihave Hh := (Entails.of_eq (pts_hw (F := F) d L _).symm) $$ Hh
    iapply (SparseCore.wp_vectorStoreIdx 𝒱₀ (thr d L) none Set.univ (base := hS)) $$ Hh; iintro Hh
    ihave Hh := (Entails.of_eq (pts_hw (F := F) d L _)) $$ Hh
    sl_step
    isplitl [Hs]; · iexact Hs
    iexists _; isplitr
    rotate_left
    · iexact Hh
    · ipureintro; exact scattered d L f k.val k rfl h hh _ rfl _
  · unfold inv2
    isplitl [Hs]; · iexact Hs
    iexists h0; isplitr
    · ipureintro; intro j; rw [hh0 j (j 0).isLt, Nat.mul_zero, tally_zero]
    · iexact Hh
  iintro %_ HI
  unfold inv2
  icases HI with ⟨Hs, %h2, %hh2, Hh⟩
  have htr : 16 * Scf.trips k0_t2_loop.lb k0_t2_loop.ub k0_t2_loop.st = 15632 := by decide
  rw [htr] at hh2
  sl_exec
  sl_step
  isplitl [Hc Ho]
  · isplitl [Hc]; · iexact Hc
    iapply (Entails.of_eq (pointsTo_congr (written d L f g h2 hh2))); iexact Ho
  isplitl [Hs Hh Hbufs]
  · isplitl [Hs]; · iexists _; iexact Hs
    isplitl [Hh]; · iexists _; iexact Hh
    iexact Hbufs
  isplitl [HsemA HsemB Hsems]
  · isplitl [HsemA]; · iexact HsemA
    isplitl [HsemB]; · iexact HsemB
    iexact Hsems
  iexists _; isplitr
  rotate_left
  · iexact HO
  · ipureintro; exact waits_cons (waits_cons fun p hp => .inl hp)

end Hist1

end Cert.Proof

end
-- ==== Proof.Hist2.lean ====
/-
  The second SparseCore call's task: one tile fetches its 15632 words and the whole map from buckets to numbers, zeroes its
  histogram, adds a one at the bin of every word whose bucket has a number, and writes the histogram to its part of the
  output. `Hist2.body` says the part holds the tile's counts. The map is only read, by every tile at once, so it is held at
  a share.
-/
module

public import proofs.«01_k».proof.Proof.Hist1

@[expose] public section

noncomputable section

namespace Cert.Proof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx NC) (Elt F) ℕ UU ℕ

namespace Hist2

variable [BitOps F]

/-! ## The loop's payloads -/

theorem pay6_eq (v : Vec F S16 .f32) : k1_pay6 v = k0_pay5 v := rfl

theorem chk1 (v : Vec F S16 .f32) : k1_chk1 (k1_pay6 v) := Hist1.chk1 v

/-- The numbers loaded at the words' buckets. -/
theorem load_apply {g : S1024.Idx → BitVec 32} {v : Vec F S16 .f32} {c : Vec F S16 .i32} {h}
    (hc : c = loadIdx (F := F) (s := S1024) (e := .i32) g ![k1_pay6 v] h) (x : S16.Idx) (hb : (bk (BitOps.toBits (v x))).toNat < 1024) :
    (c x : BitVec 32) = entry g (bk (BitOps.toBits (v x))).toNat := by
  subst hc
  unfold entry
  rw [dif_pos hb]
  show g _ = _
  congr 1
  funext a
  obtain rfl : a = 0 := Subsingleton.elim _ _
  apply Fin.ext
  show (k0_pay5 v x).toNat = _
  rw [Hist1.pay5_apply, if_pos hb]; rfl

theorem pay7_iff {g : S1024.Idx → BitVec 32} {v : Vec F S16 .f32} {c : Vec F S16 .i32} {h}
    (hc : c = loadIdx (F := F) (s := S1024) (e := .i32) g ![k1_pay6 v] h) (x : S16.Idx) : k1_pay7 v c x = 1#1 ↔ ok2 g (BitOps.toBits (v x)) := by
  show (k0_pay4 v x &&& IntOp.cmpi .sge (c x) 0#32 = 1#1) ↔ _
  rw [and_bit, Hist1.pay4_iff, sge_zero_iff]
  exact and_congr_right fun hb => by rw [load_apply hc x hb]

theorem pay8_apply {g : S1024.Idx → BitVec 32} {v : Vec F S16 .f32} {c : Vec F S16 .i32} {h}
    (hc : c = loadIdx (F := F) (s := S1024) (e := .i32) g ![k1_pay6 v] h) (x : S16.Idx) :
    k1_pay8 v c x = if ok2 g (BitOps.toBits (v x)) then bin2 g (BitOps.toBits (v x)) else 0#32 := by
  show (if k1_pay7 v c x = 1#1 then idx2 (c x) (BitOps.toBits (v x)) else 0#32) = _
  by_cases ho : ok2 g (BitOps.toBits (v x))
  · rw [if_pos ((pay7_iff hc x).2 ho), if_pos ho, load_apply hc x ho.1]
  · rw [if_neg (fun e => ho ((pay7_iff hc x).1 e)), if_neg ho]

theorem chk2 {g : S1024.Idx → BitVec 32} (hg : Numbers g) {v : Vec F S16 .f32} {c : Vec F S16 .i32} {h}
    (hc : c = loadIdx (F := F) (s := S1024) (e := .i32) g ![k1_pay6 v] h) : k1_chk2 (k1_pay8 v c) := by
  intro a x
  obtain rfl : a = 0 := Subsingleton.elim _ _
  show (k1_pay8 v c x).toNat < 32768
  rw [pay8_apply hc]; split
  · rename_i ho
    have h1 := hg.entry _ ho.2
    have h2 := idx2_lt (w := BitOps.toBits (v x)) h1
    exact lt_of_eq_of_lt h2.1 (by omega)
  · decide

theorem hsel {g : S1024.Idx → BitVec 32} {v : Vec F S16 .f32} {c : Vec F S16 .i32} {h}
    (hc : c = loadIdx (F := F) (s := S1024) (e := .i32) g ![k1_pay6 v] h) (x : S16.Idx) (j : ℕ) :
    (k1_pay7 v c x = 1#1 ∧ ((![k1_pay8 v c] : Fin 1 → IVec S16 32) 0 x).toNat = j) ↔ sel2 g (BitOps.toBits (v x)) = some j := by
  show (k1_pay7 v c x = 1#1 ∧ (k1_pay8 v c x).toNat = j) ↔ _
  rw [pay7_iff hc, pay8_apply hc]
  unfold sel2
  by_cases ho : ok2 g (BitOps.toBits (v x))
  · simp [ho]
  · simp [ho]

/-! ## The task's arrays and cells -/

abbrev cA : Memref sig .scVector .hbm S500224 .f32 := Memref.whole xS
abbrev mA : Memref sig .scVector .hbm S1024 .i32 := Memref.whole m2S
abbrev oA : Memref sig .scVector .hbm S1048576 .i32 := Memref.whole o2S
abbrev dS : Memref sig .scVector .vmem S15632 .f32 := Memref.whole cc1_scratch0
abbrev mS : Memref sig .scVector .vmem S1024 .i32 := Memref.whole cc1_scratch1
abbrev hS : Memref sig .scVector .vmem S32768 .i32 := Memref.whole cc1_scratch2

variable (d : Dev nD) (L : grid1.Coords)

abbrev cV : Fin τ.nSC := (L 0).castLE hcore1
abbrev jV : Fin τ.nSub := (L 1).castLE hsub1
abbrev thr : Thread nD τ := V d (cV L) (jV L)
abbrev wid : ℕ := (L 1).val * 2 + (L 0).val

abbrev cSl : Memref sig .scVector .hbm S15632 .f32 := cA.slice (Rect.unit (s := S500224) (k1_off1 L) S15632.size (k1_off1_inb L)) (fun _ => rfl)
abbrev oSl : Memref sig .scVector .hbm S32768 .i32 := oA.slice (Rect.unit (s := S1048576) (k1_off4 L) S32768.size (k1_off4_inb L)) (fun _ => rfl)

/-- The tile's words as fetched: its stretch of the padded array. -/
def dat (f : S500224.Idx → F .f32) : Buf (Elt F) ((thr d L).loc cc1_scratch0) := (cSl L).view.read (Elt F) f

theorem dat_apply (f : S500224.Idx → F .f32) (j : S15632.Idx) :
    BitOps.toBits (dat d L f j : F .f32) = wordAt f (15632 * wid L + (j 0).val) := by
  refine wordAt_of_val f ((cSl L).view.emb j) ?_
  show k1_off1 L 0 + 1 * (j 0).val = _
  rw [k1_off1_eq]
  show 31264 * (L 1).val + 15632 * (L 0).val + 1 * (j 0).val = _
  unfold wid; omega

theorem ownSems0_V :
    (ownSems0 (thr d L) : sProp 𝕄)
      = iprop(semVal (thr d L, SemLoc.dma cc1_scoped0.sem) 0 ∗ semVal (thr d L, SemLoc.dma cc1_scoped1.sem) 0 ∗ semVal (thr d L, SemLoc.dma cc1_scoped2.sem) 0
          ∗ bigSep ((((ownCells (thr d L)).erase (thr d L, .dma cc1_scoped0.sem)).erase (thr d L, .dma cc1_scoped1.sem)).erase (thr d L, .dma cc1_scoped2.sem)) fun g => semVal g 0) := by
  unfold SparseCore.Cfg.ownSems0
  rw [SparseCore.bigSep_erase' (own_sem d (cV L) (jV L) cc1_scoped0.sem (by decide)),
    SparseCore.bigSep_erase' (erase_sem (by decide) (own_sem d (cV L) (jV L) cc1_scoped1.sem (by decide))),
    SparseCore.bigSep_erase' (erase_sem (by decide) (erase_sem (by decide) (own_sem d (cV L) (jV L) cc1_scoped2.sem (by decide))))]

theorem ownBufs_V :
    (ownBufs (thr d L) : sProp 𝕄)
      = iprop((∃ f, (thr d L).loc cc1_scratch0 ↦{fullShare} f) ∗ (∃ f, (thr d L).loc cc1_scratch1 ↦{fullShare} f) ∗ (∃ f, (thr d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (own_ref (cV L) (jV L) cc1_scratch0 rfl)).trans ?_
  rw [SparseCore.bigSep_erase' (erase_ref (show (cc1_scratch1 : Ref sig .scVector) ≠ cc1_scratch0 by decide) (own_ref (cV L) (jV L) cc1_scratch1 rfl)),
    SparseCore.bigSep_erase' (erase_ref (show (cc1_scratch2 : Ref sig .scVector) ≠ cc1_scratch1 by decide)
      (erase_ref (show (cc1_scratch2 : Ref sig .scVector) ≠ cc1_scratch0 by decide) (own_ref (cV L) (jV L) cc1_scratch2 rfl)))]

theorem pts_d (f : Buf (Elt F) ((thr d L).loc cc1_scratch0)) :
    ((dS.view.loc (thr d L) ↦{fullShare} f : sProp 𝕄)) = ((thr d L).loc cc1_scratch0 ↦{fullShare} f : sProp 𝕄) := rfl

theorem pts_m (f : Buf (Elt F) ((thr d L).loc cc1_scratch1)) :
    ((mS.view.loc (thr d L) ↦{fullShare} f : sProp 𝕄)) = ((thr d L).loc cc1_scratch1 ↦{fullShare} f : sProp 𝕄) := rfl

theorem pts_h (f : Buf (Elt F) ((thr d L).loc cc1_scratch2)) :
    ((hS.view.loc (thr d L) ↦{fullShare} f : sProp 𝕄)) = ((thr d L).loc cc1_scratch2 ↦{fullShare} f : sProp 𝕄) := rfl

/-- The zeroing loop's invariant: the bins below sixteen times the trip are zero. -/
def inv1 (n : ℕ) (_ : PUnit) : sProp 𝕄 :=
  iprop(∃ h : Buf (Elt F) ((thr d L).loc cc1_scratch2), ⌜∀ j : S32768.Idx, (j 0).val < 16 * n → (h j : BitVec 32) = 0#32⌝ ∗ (hS.view.loc (thr d L) ↦{fullShare} h))

/-- The counting loop's invariant: the fetched words and the map as they are, each bin the count over the words of the
    trips so far. -/
def inv2 (f : S500224.Idx → F .f32) (g : S1024.Idx → BitVec 32) (n : ℕ) (_ : PUnit) : sProp 𝕄 :=
  iprop((dS.view.loc (thr d L) ↦{fullShare} dat d L f) ∗ (mS.view.loc (thr d L) ↦{fullShare} g)
    ∗ ∃ h : Buf (Elt F) ((thr d L).loc cc1_scratch2), ⌜∀ j : S32768.Idx, (h j : BitVec 32) = BitVec.ofNat 32 (tally (sel2 g) (wordAt f) (15632 * wid L) (16 * n) (j 0).val)⌝
      ∗ (hS.view.loc (thr d L) ↦{fullShare} h))

theorem zeroed (k : ℕ) (k' : Fin k1_t1_loop.trips) (hk : k'.val = k) (h : Buf (Elt F) ((thr d L).loc cc1_scratch2)) (hh : ∀ j : S32768.Idx, (j 0).val < 16 * k → (h j : BitVec 32) = 0#32)
    (j : S32768.Idx) (hj : (j 0).val < 16 * (k + 1)) :
    ((hS.view.writes (Elt F) h [⟨Rect.unit (s := S32768) (k1_off2 k') S16.size (k1_off2_inb k'), k1_pay1⟩] : Buf (Elt F) ((thr d L).loc cc1_scratch2)) j : BitVec 32) = 0#32 :=
  zero_step (Val := Elt F) hS.view (0#32 : BitVec 32) h (k1_off2_inb k') (by rw [k1_off2_eq, hk]) k1_pay1 (fun _ => rfl) hh j hj

theorem scattered (f : S500224.Idx → F .f32) (g : S1024.Idx → BitVec 32) (k : ℕ) (k' : Fin k1_t2_loop.trips) (hk : k'.val = k) (h : Buf (Elt F) ((thr d L).loc cc1_scratch2))
    (hh : ∀ j : S32768.Idx, (h j : BitVec 32) = BitVec.ofNat 32 (tally (sel2 g) (wordAt f) (15632 * wid L) (16 * k) (j 0).val)) (v : Vec F S16 .f32)
    (hv : v = dS.view.readAt (Elt F) (Rect.unit (s := S15632) (k1_off3 k') S16.size (k1_off3_inb k')).toLoadRect (dat d L f)) (c : Vec F S16 .i32) (hb)
    (hc : c = loadIdx (F := F) (s := S1024) (e := .i32) g ![k1_pay6 v] hb) (hi) (j : S32768.Idx) :
    ((hS.access (.whole S32768)).write (Elt F) h
        (storeIdx ((hS.access (.whole S32768)).read (Elt F) h) ![k1_pay8 v c] k1_pay2 (k1_pay7 v c) true hi) Finset.univ : S32768.Idx → BitVec 32) j
      = BitVec.ofNat 32 (tally (sel2 g) (wordAt f) (15632 * wid L) (16 * (k + 1)) (j 0).val) := by
  have hr : (hS.access (.whole S32768)).read (Elt F) h = h := Memref.read_access_whole (Elt F) (cc1_scratch2 : Ref sig .scVector) h
  rw [hr]
  have hw := Memref.write_access_whole_univ (Elt F) (cc1_scratch2 : Ref sig .scVector) h (storeIdx (F := F) (e := .i32) (s := S32768) h ![k1_pay8 v c] k1_pay2 (k1_pay7 v c) true hi)
  refine (congrFun hw j).trans ?_
  refine storeIdx_tally h _ _ _ hi (fun _ => rfl) (sel2 g) (wordAt f) (15632 * wid L) (16 * k) (fun x jj => ?_) hh j
  rw [hsel hc]
  have : BitOps.toBits (v (lane x)) = wordAt f (15632 * wid L + 16 * k + x.val) := by
    rw [hv]
    refine (dat_apply d L f _).trans ?_
    congr 1
    show 15632 * wid L + (k1_off3 k' 0 + 1 * x.val) = _
    rw [k1_off3_eq, hk]
    show 15632 * wid L + (16 * k + 1 * x.val) = _
    omega
  rw [this]

theorem pts_hw (f : Buf (Elt F) ((thr d L).loc cc1_scratch2)) :
    (((hS.access (.whole S32768)).loc (thr d L) ↦[(hS.access (.whole S32768)).set]{fullShare} f : sProp 𝕄)) = (hS.view.loc (thr d L) ↦{fullShare} f : sProp 𝕄) := by
  rw [show (hS.access (.whole S32768)).set = Finset.univ from Memref.set_access_whole (cc1_scratch2 : Ref sig .scVector)]

theorem pts_mw (f : Buf (Elt F) ((thr d L).loc cc1_scratch1)) :
    (((mS.access (.whole S1024)).loc (thr d L) ↦[(mS.access (.whole S1024)).set]{fullShare} f : sProp 𝕄)) = (mS.view.loc (thr d L) ↦{fullShare} f : sProp 𝕄) := by
  rw [show (mS.access (.whole S1024)).set = Finset.univ from Memref.set_access_whole (cc1_scratch1 : Ref sig .scVector)]

/-- The sixteen words of a trip. -/
abbrev vv (f : S500224.Idx → F .f32) (k : Fin k1_t2_loop.trips) : Vec F S16 .f32 :=
  dS.view.readAt (Elt F) (Rect.unit (s := S15632) (k1_off3 k) S16.size (k1_off3_inb k)).toLoadRect (dat d L f)

/-- The numbers loaded from the fetched map are the map's. -/
theorem loaded (g : S1024.Idx → BitVec 32) {i : Fin 1 → IVec S16 32} (h : ∀ a x, (i a x).toNat < S1024.size a) :
    loadIdx (F := F) (s := S1024) (e := .i32) ((mS.access (.whole S1024)).read (Elt F) g) i h = loadIdx (F := F) (s := S1024) (e := .i32) g i h :=
  congrArg (fun t => loadIdx (F := F) (s := S1024) (e := .i32) t i h) (Memref.read_access_whole (Elt F) (cc1_scratch1 : Ref sig .scVector) g)

theorem written (f : S500224.Idx → F .f32) (g : S1024.Idx → BitVec 32) (o : S1048576.Idx → BitVec 32) (h : Buf (Elt F) ((thr d L).loc cc1_scratch2))
    (hh : ∀ j : S32768.Idx, (h j : BitVec 32) = BitVec.ofNat 32 (tally (sel2 g) (wordAt f) (15632 * wid L) 15632 (j 0).val)) :
    ∀ i ∈ (oSl L).view.set, ((oSl L).view.writes (Elt F) o [⟨Rect.whole S32768, hS.view.read (Elt F) h⟩]) i = (fun p : S1048576.Idx => hists (sel2 g) 32768 f (p 0).val) i := by
  refine eq_on_of_read (oSl L).view fun x => ?_
  rw [read_writes_whole]
  have hp : ((oSl L).view.emb x 0).val = 32768 * wid L + (x 0).val := by
    show k1_off4 L 0 + 1 * (x 0).val = _
    rw [k1_off4_eq]
    show 65536 * (L 1).val + 32768 * (L 0).val + 1 * (x 0).val = _
    unfold wid; omega
  have hx : (x 0).val < 32768 := (x 0).isLt
  exact (hh x).trans (hists_eq (sel2 g) f hp hx).symm

theorem body (hF : (K (F := F)).Facts) (f : S500224.Idx → F .f32) (g : S1024.Idx → BitVec 32) (hg : Numbers g) (q : PosShare TreeShare) (o : S1048576.Idx → BitVec 32)
    (O : CellTallies nD τ sig (HIx NC)) (W : Waits sig (HIx NC)) (hO : ∀ g, O g none = 0) :
    iprop((levAts (K (F := F)).L (K (F := F)).lev : sProp 𝕄) ∗ emp
        ∗ (((cSl L).view.loc (thr d L) ↦[(cSl L).view.set]{fullShare} f) ∗ (mA.view.loc (thr d L) ↦{q} g) ∗ ((oSl L).view.loc (thr d L) ↦[(oSl L).view.set]{fullShare} o))
        ∗ scopedBufs (thr d L) ∗ scopedSems0 (thr d L) ∗ owes (thr d L) O W)
      ⊢ wp frame (wpE (defs₀ (F := F)) 𝒱₀ (thr d L) none) Set.univ
          (cc1__sc_hist2_body L cA (Memref.isWhole_whole _) mA (Memref.isWhole_whole _) oA (Memref.isWhole_whole _) dS (Memref.isWhole_whole _) mS (Memref.isWhole_whole _)
            hS (Memref.isWhole_whole _) cc1_scoped0 cc1_scoped1 cc1_scoped2)
          fun _ => iprop((((cSl L).view.loc (thr d L) ↦[(cSl L).view.set]{fullShare} f) ∗ (mA.view.loc (thr d L) ↦{q} g)
            ∗ ((oSl L).view.loc (thr d L) ↦[(oSl L).view.set]{fullShare} fun p => hists (sel2 g) 32768 f (p 0).val))
            ∗ scopedBufs (thr d L) ∗ scopedSems0 (thr d L)
            ∗ ∃ W', ⌜∀ p ∈ W', p ∈ W ∨ p.2 = none⌝ ∗ owes (thr d L) O W') := by
  rw [cc1__sc_hist2_body_eq_skeleton]; unfold cc1__sc_hist2_body_skel
  rw [(K (F := F)).scopedBufs_V hF d (cV L) (jV L), SparseCore.Cfg.scopedSems0_V (Val := Elt F) d (cV L) (jV L), ownSems0_V, ownBufs_V]
  iintro ⟨#Hlv, -, ⟨Hc, Hm, Ho⟩, ⟨⟨%fs, Hs⟩, ⟨%fm, Hms⟩, ⟨%fh, Hh⟩, Hbufs⟩, ⟨HsemA, HsemB, HsemC, Hsems⟩, HO⟩
  ihave Hmw := ((K (F := F)).mayWaits_none (thr := thr d L) hO) $$ Hlv
  ihave Hs := (Entails.of_eq (pts_d (F := F) d L _).symm) $$ Hs
  ihave Hms := (Entails.of_eq (pts_m (F := F) d L _).symm) $$ Hms
  ihave Hh := (Entails.of_eq (pts_h (F := F) d L _).symm) $$ Hh
  sl_exec
  have hdat : View.write (Elt F) dS.view fs (body.sl.dma0 L f) Finset.univ = dat d L f := by
    rw [View.write_whole_univ]; rfl
  rw [hdat]
  have hmap : View.write (Elt F) mS.view fm (body.sl.dma0_1 g) Finset.univ = g := by
    rw [View.write_whole_univ]; rfl
  rw [hmap]
  sl_for (inv1 (F := F) d L) $$ [Hh]
  case region =>
    intro k _
    unfold inv1
    iintro ⟨%h, %hh, Hh⟩
    sl_exec
    sl_step
    iexists (hS.view.writes (Elt F) h [⟨Rect.unit (s := S32768) (k1_off2 k) S16.size (k1_off2_inb k), k1_pay1⟩]); isplitr
    · ipureintro; exact zeroed d L k.val k rfl h hh
    · iexact Hh
  · unfold inv1
    iexists fh; isplitr
    · ipureintro; intro j hj; omega
    · iexact Hh
  iintro %_ HI
  unfold inv1
  icases HI with ⟨%h0, %hh0, Hh⟩
  sl_for (inv2 (F := F) d L f g) $$ [Hs Hms Hh]
  case region =>
    intro k _
    unfold inv2
    iintro ⟨Hs, Hms, %h, %hh, Hh⟩
    sl_exec
    delta body.sl.v22
    rw [wp_assume_of _ _ _ _ (chk1 (vv d L f k))]
    ihave Hms := (Entails.of_eq (pts_mw (F := F) d L _).symm) $$ Hms
    iapply (SparseCore.wp_vectorLoadIdx 𝒱₀ (thr d L) none Set.univ (base := mS) (S := (mS.access (.whole S1024)).set) (q := fullShare) (Finset.Subset.refl _)) $$ Hms; iintro Hms
    ihave Hms := (Entails.of_eq (pts_mw (F := F) d L _)) $$ Hms
    iapply (wp_assume 𝒱₀ (thr d L) none Set.univ (chk2 (v := vv d L f k) hg (loaded (F := F) g _)))
    ihave Hh := (Entails.of_eq (pts_hw (F := F) d L _).symm) $$ Hh
    iapply (SparseCore.wp_vectorStoreIdx 𝒱₀ (thr d L) none Set.univ (base := hS)) $$ Hh; iintro Hh
    ihave Hh := (Entails.of_eq (pts_hw (F := F) d L _)) $$ Hh
    sl_step
    isplitl [Hs]; · iexact Hs
    isplitl [Hms]; · iexact Hms
    iexists _; isplitr
    rotate_left
    · iexact Hh
    · ipureintro; exact scattered d L f g k.val k rfl h hh _ rfl _ _ (loaded (F := F) g _) _
  · unfold inv2
    isplitl [Hs]; · iexact Hs
    isplitl [Hms]; · iexact Hms
    iexists h0; isplitr
    · ipureintro; intro j; rw [hh0 j (j 0).isLt, Nat.mul_zero, tally_zero]
    · iexact Hh
  iintro %_ HI
  unfold inv2
  icases HI with ⟨Hs, Hms, %h2, %hh2, Hh⟩
  have htr : 16 * Scf.trips k1_t2_loop.lb k1_t2_loop.ub k1_t2_loop.st = 15632 := by decide
  rw [htr] at hh2
  sl_exec
  sl_step
  isplitl [Hc Hm Ho]
  · isplitl [Hc]; · iexact Hc
    isplitl [Hm]; · iexact Hm
    iapply (Entails.of_eq (pointsTo_congr (written d L f g o h2 hh2))); iexact Ho
  isplitl [Hs Hms Hh Hbufs]
  · isplitl [Hs]; · iexists _; iexact Hs
    isplitl [Hms]; · iexists _; iexact Hms
    isplitl [Hh]; · iexists _; iexact Hh
    iexact Hbufs
  isplitl [HsemA HsemB HsemC Hsems]
  · isplitl [HsemA]; · iexact HsemA
    isplitl [HsemB]; · iexact HsemB
    isplitl [HsemC]; · iexact HsemC
    iexact Hsems
  iexists _; isplitr
  rotate_left
  · iexact HO
  · ipureintro; exact waits_cons (waits_cons (waits_cons fun p hp => .inl hp))

end Hist2

end Cert.Proof

end
-- ==== Proof.Hist3.lean ====
/-
  The third SparseCore call's task: one tile fetches its 15632 words and both maps, from buckets and from the second
  histogram's bins to numbers, zeroes its histogram, adds a one at the bin of every word whose bucket and bin have numbers,
  and writes the histogram to its part of the output. `Hist3.body` says the part holds the tile's counts.
-/
module

public import proofs.«01_k».proof.Proof.Hist2

@[expose] public section

noncomputable section

namespace Cert.Proof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx NC) (Elt F) ℕ UU ℕ

namespace Hist3

variable [BitOps F]

/-! ## The loop's payloads: the second call's, and a second load -/

theorem pay6_eq (v : Vec F S16 .f32) : k2_pay6 v = k1_pay6 v := rfl
theorem pay7_eq (v : Vec F S16 .f32) (c : Vec F S16 .i32) : k2_pay7 v c = k1_pay7 v c := rfl
theorem pay8_eq (v : Vec F S16 .f32) (c : Vec F S16 .i32) : k2_pay8 v c = k1_pay8 v c := rfl

section
variable {g : S1024.Idx → BitVec 32} {g' : S32768.Idx → BitVec 32} {v : Vec F S16 .f32} {c c' : Vec F S16 .i32}

theorem chk1 (v : Vec F S16 .f32) : k2_chk1 (k2_pay6 v) := Hist1.chk1 v

theorem chk2 (hg : Numbers g) {h} (hc : c = loadIdx (F := F) (s := S1024) (e := .i32) g ![k2_pay6 v] h) : k2_chk2 (k2_pay8 v c) := Hist2.chk2 hg hc

/-- The numbers loaded at the words' bins in the second histogram. -/
theorem load_apply {h h'} (hc : c = loadIdx (F := F) (s := S1024) (e := .i32) g ![k2_pay6 v] h)
    (hc' : c' = loadIdx (F := F) (s := S32768) (e := .i32) g' ![k2_pay8 v c] h') (x : S16.Idx) (ho : ok2 g (BitOps.toBits (v x))) :
    (c' x : BitVec 32) = entry g' (bin2 g (BitOps.toBits (v x))).toNat := by
  have hp : k2_pay8 v c x = bin2 g (BitOps.toBits (v x)) := by rw [pay8_eq, Hist2.pay8_apply hc, if_pos ho]
  have hb : (bin2 g (BitOps.toBits (v x))).toNat < 32768 := by rw [← hp]; exact h' 0 x
  subst hc'
  unfold entry
  rw [dif_pos hb]
  show g' _ = _
  congr 1
  funext a
  obtain rfl : a = 0 := Subsingleton.elim _ _
  apply Fin.ext
  show (k2_pay8 v c x).toNat = _
  rw [hp]; rfl

theorem pay9_iff {h h'} (hc : c = loadIdx (F := F) (s := S1024) (e := .i32) g ![k2_pay6 v] h)
    (hc' : c' = loadIdx (F := F) (s := S32768) (e := .i32) g' ![k2_pay8 v c] h') (x : S16.Idx) : k2_pay9 v c c' x = 1#1 ↔ ok3 g g' (BitOps.toBits (v x)) := by
  show (k1_pay7 v c x &&& IntOp.cmpi .sge (c' x) 0#32 = 1#1) ↔ _
  rw [and_bit, Hist2.pay7_iff hc, sge_zero_iff]
  exact and_congr_right fun ho => by rw [load_apply hc hc' x ho]

theorem pay10_apply {h h'} (hc : c = loadIdx (F := F) (s := S1024) (e := .i32) g ![k2_pay6 v] h)
    (hc' : c' = loadIdx (F := F) (s := S32768) (e := .i32) g' ![k2_pay8 v c] h') (x : S16.Idx) :
    k2_pay10 v c c' x = if ok3 g g' (BitOps.toBits (v x)) then bin3 g g' (BitOps.toBits (v x)) else 0#32 := by
  show (if k2_pay9 v c c' x = 1#1 then idx3 (c' x) (BitOps.toBits (v x)) else 0#32) = _
  by_cases ho : ok3 g g' (BitOps.toBits (v x))
  · rw [if_pos ((pay9_iff hc hc' x).2 ho), if_pos ho, load_apply hc hc' x ho.1]
  · rw [if_neg (fun e => ho ((pay9_iff hc hc' x).1 e)), if_neg ho]

theorem chk3 (hg' : Numbers g') {h h'} (hc : c = loadIdx (F := F) (s := S1024) (e := .i32) g ![k2_pay6 v] h)
    (hc' : c' = loadIdx (F := F) (s := S32768) (e := .i32) g' ![k2_pay8 v c] h') : k2_chk3 (k2_pay10 v c c') := by
  intro a x
  obtain rfl : a = 0 := Subsingleton.elim _ _
  show (k2_pay10 v c c' x).toNat < 2048
  rw [pay10_apply hc hc']; split
  · rename_i ho
    have h1 := hg'.entry _ ho.2
    have h2 := idx3_lt (w := BitOps.toBits (v x)) h1
    exact lt_of_eq_of_lt h2.1 (by omega)
  · decide

theorem hsel {h h'} (hc : c = loadIdx (F := F) (s := S1024) (e := .i32) g ![k2_pay6 v] h)
    (hc' : c' = loadIdx (F := F) (s := S32768) (e := .i32) g' ![k2_pay8 v c] h') (x : S16.Idx) (j : ℕ) :
    (k2_pay9 v c c' x = 1#1 ∧ ((![k2_pay10 v c c'] : Fin 1 → IVec S16 32) 0 x).toNat = j) ↔ sel3 g g' (BitOps.toBits (v x)) = some j := by
  show (k2_pay9 v c c' x = 1#1 ∧ (k2_pay10 v c c' x).toNat = j) ↔ _
  rw [pay9_iff hc hc', pay10_apply hc hc']
  unfold sel3
  by_cases ho : ok3 g g' (BitOps.toBits (v x))
  · simp [ho]
  · simp [ho]
end

/-! ## The task's arrays and cells -/

abbrev cA : Memref sig .scVector .hbm S500224 .f32 := Memref.whole xS
abbrev mA : Memref sig .scVector .hbm S1024 .i32 := Memref.whole m3S
abbrev nA : Memref sig .scVector .hbm S32768 .i32 := Memref.whole n3S
abbrev oA : Memref sig .scVector .hbm S65536 .i32 := Memref.whole o3S
abbrev dS : Memref sig .scVector .vmem S15632 .f32 := Memref.whole cc2_scratch0
abbrev mS : Memref sig .scVector .vmem S1024 .i32 := Memref.whole cc2_scratch1
abbrev nS : Memref sig .scVector .vmem S32768 .i32 := Memref.whole cc2_scratch2
abbrev hS : Memref sig .scVector .vmem S2048 .i32 := Memref.whole cc2_scratch3

variable (d : Dev nD) (L : grid2.Coords)

abbrev cV : Fin τ.nSC := (L 0).castLE hcore2
abbrev jV : Fin τ.nSub := (L 1).castLE hsub2
abbrev thr : Thread nD τ := V d (cV L) (jV L)
abbrev wid : ℕ := (L 1).val * 2 + (L 0).val

abbrev cSl : Memref sig .scVector .hbm S15632 .f32 := cA.slice (Rect.unit (s := S500224) (k2_off1 L) S15632.size (k2_off1_inb L)) (fun _ => rfl)
abbrev oSl : Memref sig .scVector .hbm S2048 .i32 := oA.slice (Rect.unit (s := S65536) (k2_off4 L) S2048.size (k2_off4_inb L)) (fun _ => rfl)

/-- The tile's words as fetched: its stretch of the padded array. -/
def dat (f : S500224.Idx → F .f32) : Buf (Elt F) ((thr d L).loc cc2_scratch0) := (cSl L).view.read (Elt F) f

theorem dat_apply (f : S500224.Idx → F .f32) (j : S15632.Idx) :
    BitOps.toBits (dat d L f j : F .f32) = wordAt f (15632 * wid L + (j 0).val) := by
  refine wordAt_of_val f ((cSl L).view.emb j) ?_
  show k2_off1 L 0 + 1 * (j 0).val = _
  rw [k2_off1_eq]
  show 31264 * (L 1).val + 15632 * (L 0).val + 1 * (j 0).val = _
  unfold wid; omega

theorem ownSems0_V :
    (ownSems0 (thr d L) : sProp 𝕄)
      = iprop(semVal (thr d L, SemLoc.dma cc2_scoped0.sem) 0 ∗ semVal (thr d L, SemLoc.dma cc2_scoped1.sem) 0 ∗ semVal (thr d L, SemLoc.dma cc2_scoped2.sem) 0
          ∗ semVal (thr d L, SemLoc.dma cc2_scoped3.sem) 0
          ∗ bigSep (((((ownCells (thr d L)).erase (thr d L, .dma cc2_scoped0.sem)).erase (thr d L, .dma cc2_scoped1.sem)).erase
              (thr d L, .dma cc2_scoped2.sem)).erase (thr d L, .dma cc2_scoped3.sem)) fun g => semVal g 0) := by
  unfold SparseCore.Cfg.ownSems0
  rw [SparseCore.bigSep_erase' (own_sem d (cV L) (jV L) cc2_scoped0.sem (by decide)),
    SparseCore.bigSep_erase' (erase_sem (by decide) (own_sem d (cV L) (jV L) cc2_scoped1.sem (by decide))),
    SparseCore.bigSep_erase' (erase_sem (by decide) (erase_sem (by decide) (own_sem d (cV L) (jV L) cc2_scoped2.sem (by decide)))),
    SparseCore.bigSep_erase' (erase_sem (by decide) (erase_sem (by decide) (erase_sem (by decide) (own_sem d (cV L) (jV L) cc2_scoped3.sem (by decide)))))]

theorem ownBufs_V :
    (ownBufs (thr d L) : sProp 𝕄)
      = iprop((∃ f, (thr d L).loc cc2_scratch0 ↦{fullShare} f) ∗ (∃ f, (thr d L).loc cc2_scratch1 ↦{fullShare} f) ∗ (∃ f, (thr d L).loc cc2_scratch2 ↦{fullShare} f)
          ∗ (∃ f, (thr d L).loc cc2_scratch3 ↦{fullShare} f)
          ∗ bigSep (((((ownRefs (τ := τ) (.scVector (cV L) (jV L))).erase ((Proc.scVector (cV L) (jV L)).devRef cc2_scratch0)).erase
              ((Proc.scVector (cV L) (jV L)).devRef cc2_scratch1)).erase ((Proc.scVector (cV L) (jV L)).devRef cc2_scratch2)).erase
              ((Proc.scVector (cV L) (jV L)).devRef cc2_scratch3))
              fun b => iprop(∃ f, ((d, b) : Loc nD τ sig) ↦{fullShare} f)) := by
  unfold SparseCore.Cfg.ownBufs
  refine (SparseCore.bigSep_erase' (own_ref (cV L) (jV L) cc2_scratch0 rfl)).trans ?_
  rw [SparseCore.bigSep_erase' (erase_ref (show (cc2_scratch1 : Ref sig .scVector) ≠ cc2_scratch0 by decide) (own_ref (cV L) (jV L) cc2_scratch1 rfl)),
    SparseCore.bigSep_erase' (erase_ref (show (cc2_scratch2 : Ref sig .scVector) ≠ cc2_scratch1 by decide)
      (erase_ref (show (cc2_scratch2 : Ref sig .scVector) ≠ cc2_scratch0 by decide) (own_ref (cV L) (jV L) cc2_scratch2 rfl))),
    SparseCore.bigSep_erase' (erase_ref (show (cc2_scratch3 : Ref sig .scVector) ≠ cc2_scratch2 by decide)
      (erase_ref (show (cc2_scratch3 : Ref sig .scVector) ≠ cc2_scratch1 by decide)
        (erase_ref (show (cc2_scratch3 : Ref sig .scVector) ≠ cc2_scratch0 by decide) (own_ref (cV L) (jV L) cc2_scratch3 rfl))))]

theorem pts_d (f : Buf (Elt F) ((thr d L).loc cc2_scratch0)) :
    ((dS.view.loc (thr d L) ↦{fullShare} f : sProp 𝕄)) = ((thr d L).loc cc2_scratch0 ↦{fullShare} f : sProp 𝕄) := rfl

theorem pts_m (f : Buf (Elt F) ((thr d L).loc cc2_scratch1)) :
    ((mS.view.loc (thr d L) ↦{fullShare} f : sProp 𝕄)) = ((thr d L).loc cc2_scratch1 ↦{fullShare} f : sProp 𝕄) := rfl

theorem pts_n (f : Buf (Elt F) ((thr d L).loc cc2_scratch2)) :
    ((nS.view.loc (thr d L) ↦{fullShare} f : sProp 𝕄)) = ((thr d L).loc cc2_scratch2 ↦{fullShare} f : sProp 𝕄) := rfl

theorem pts_h (f : Buf (Elt F) ((thr d L).loc cc2_scratch3)) :
    ((hS.view.loc (thr d L) ↦{fullShare} f : sProp 𝕄)) = ((thr d L).loc cc2_scratch3 ↦{fullShare} f : sProp 𝕄) := rfl

/-- The zeroing loop's invariant: the bins below sixteen times the trip are zero. -/
def inv1 (n : ℕ) (_ : PUnit) : sProp 𝕄 :=
  iprop(∃ h : Buf (Elt F) ((thr d L).loc cc2_scratch3), ⌜∀ j : S2048.Idx, (j 0).val < 16 * n → (h j : BitVec 32) = 0#32⌝ ∗ (hS.view.loc (thr d L) ↦{fullShare} h))

/-- The counting loop's invariant: the fetched words and the maps as they are, each bin the count over the words of the
    trips so far. -/
def inv2 (f : S500224.Idx → F .f32) (g : S1024.Idx → BitVec 32) (g' : S32768.Idx → BitVec 32) (n : ℕ) (_ : PUnit) : sProp 𝕄 :=
  iprop((dS.view.loc (thr d L) ↦{fullShare} dat d L f) ∗ (mS.view.loc (thr d L) ↦{fullShare} g) ∗ (nS.view.loc (thr d L) ↦{fullShare} g')
    ∗ ∃ h : Buf (Elt F) ((thr d L).loc cc2_scratch3), ⌜∀ j : S2048.Idx, (h j : BitVec 32) = BitVec.ofNat 32 (tally (sel3 g g') (wordAt f) (15632 * wid L) (16 * n) (j 0).val)⌝
      ∗ (hS.view.loc (thr d L) ↦{fullShare} h))

theorem zeroed (k : ℕ) (k' : Fin k2_t1_loop.trips) (hk : k'.val = k) (h : Buf (Elt F) ((thr d L).loc cc2_scratch3)) (hh : ∀ j : S2048.Idx, (j 0).val < 16 * k → (h j : BitVec 32) = 0#32)
    (j : S2048.Idx) (hj : (j 0).val < 16 * (k + 1)) :
    ((hS.view.writes (Elt F) h [⟨Rect.unit (s := S2048) (k2_off2 k') S16.size (k2_off2_inb k'), k2_pay1⟩] : Buf (Elt F) ((thr d L).loc cc2_scratch3)) j : BitVec 32) = 0#32 :=
  zero_step (Val := Elt F) hS.view (0#32 : BitVec 32) h (k2_off2_inb k') (by rw [k2_off2_eq, hk]) k2_pay1 (fun _ => rfl) hh j hj

theorem scattered (f : S500224.Idx → F .f32) (g : S1024.Idx → BitVec 32) (g' : S32768.Idx → BitVec 32) (k : ℕ) (k' : Fin k2_t2_loop.trips) (hk : k'.val = k) (h : Buf (Elt F) ((thr d L).loc cc2_scratch3))
    (hh : ∀ j : S2048.Idx, (h j : BitVec 32) = BitVec.ofNat 32 (tally (sel3 g g') (wordAt f) (15632 * wid L) (16 * k) (j 0).val)) (v : Vec F S16 .f32)
    (hv : v = dS.view.readAt (Elt F) (Rect.unit (s := S15632) (k2_off3 k') S16.size (k2_off3_inb k')).toLoadRect (dat d L f)) (c : Vec F S16 .i32) (hb)
    (hc : c = loadIdx (F := F) (s := S1024) (e := .i32) g ![k2_pay6 v] hb) (c' : Vec F S16 .i32) (hb')
    (hc' : c' = loadIdx (F := F) (s := S32768) (e := .i32) g' ![k2_pay8 v c] hb') (hi) (j : S2048.Idx) :
    ((hS.access (.whole S2048)).write (Elt F) h
        (storeIdx ((hS.access (.whole S2048)).read (Elt F) h) ![k2_pay10 v c c'] k2_pay2 (k2_pay9 v c c') true hi) Finset.univ : S2048.Idx → BitVec 32) j
      = BitVec.ofNat 32 (tally (sel3 g g') (wordAt f) (15632 * wid L) (16 * (k + 1)) (j 0).val) := by
  have hr : (hS.access (.whole S2048)).read (Elt F) h = h := Memref.read_access_whole (Elt F) (cc2_scratch3 : Ref sig .scVector) h
  rw [hr]
  have hw := Memref.write_access_whole_univ (Elt F) (cc2_scratch3 : Ref sig .scVector) h (storeIdx (F := F) (e := .i32) (s := S2048) h ![k2_pay10 v c c'] k2_pay2 (k2_pay9 v c c') true hi)
  refine (congrFun hw j).trans ?_
  refine storeIdx_tally h _ _ _ hi (fun _ => rfl) (sel3 g g') (wordAt f) (15632 * wid L) (16 * k) (fun x jj => ?_) hh j
  rw [hsel hc hc']
  have : BitOps.toBits (v (lane x)) = wordAt f (15632 * wid L + 16 * k + x.val) := by
    rw [hv]
    refine (dat_apply d L f _).trans ?_
    congr 1
    show 15632 * wid L + (k2_off3 k' 0 + 1 * x.val) = _
    rw [k2_off3_eq, hk]
    show 15632 * wid L + (16 * k + 1 * x.val) = _
    omega
  rw [this]

theorem pts_hw (f : Buf (Elt F) ((thr d L).loc cc2_scratch3)) :
    (((hS.access (.whole S2048)).loc (thr d L) ↦[(hS.access (.whole S2048)).set]{fullShare} f : sProp 𝕄)) = (hS.view.loc (thr d L) ↦{fullShare} f : sProp 𝕄) := by
  rw [show (hS.access (.whole S2048)).set = Finset.univ from Memref.set_access_whole (cc2_scratch3 : Ref sig .scVector)]

theorem pts_mw (f : Buf (Elt F) ((thr d L).loc cc2_scratch1)) :
    (((mS.access (.whole S1024)).loc (thr d L) ↦[(mS.access (.whole S1024)).set]{fullShare} f : sProp 𝕄)) = (mS.view.loc (thr d L) ↦{fullShare} f : sProp 𝕄) := by
  rw [show (mS.access (.whole S1024)).set = Finset.univ from Memref.set_access_whole (cc2_scratch1 : Ref sig .scVector)]

theorem pts_nw (f : Buf (Elt F) ((thr d L).loc cc2_scratch2)) :
    (((nS.access (.whole S32768)).loc (thr d L) ↦[(nS.access (.whole S32768)).set]{fullShare} f : sProp 𝕄)) = (nS.view.loc (thr d L) ↦{fullShare} f : sProp 𝕄) := by
  rw [show (nS.access (.whole S32768)).set = Finset.univ from Memref.set_access_whole (cc2_scratch2 : Ref sig .scVector)]

/-- The sixteen words of a trip. -/
abbrev vv (f : S500224.Idx → F .f32) (k : Fin k2_t2_loop.trips) : Vec F S16 .f32 :=
  dS.view.readAt (Elt F) (Rect.unit (s := S15632) (k2_off3 k) S16.size (k2_off3_inb k)).toLoadRect (dat d L f)

/-- The numbers loaded from the fetched map are the map's. -/
theorem loaded (g : S1024.Idx → BitVec 32) {i : Fin 1 → IVec S16 32} (h : ∀ a x, (i a x).toNat < S1024.size a) :
    loadIdx (F := F) (s := S1024) (e := .i32) ((mS.access (.whole S1024)).read (Elt F) g) i h = loadIdx (F := F) (s := S1024) (e := .i32) g i h :=
  congrArg (fun t => loadIdx (F := F) (s := S1024) (e := .i32) t i h) (Memref.read_access_whole (Elt F) (cc2_scratch1 : Ref sig .scVector) g)

/-- The numbers loaded from the second fetched map are that map's. -/
theorem loaded' (g : S32768.Idx → BitVec 32) {i : Fin 1 → IVec S16 32} (h : ∀ a x, (i a x).toNat < S32768.size a) :
    loadIdx (F := F) (s := S32768) (e := .i32) ((nS.access (.whole S32768)).read (Elt F) g) i h = loadIdx (F := F) (s := S32768) (e := .i32) g i h :=
  congrArg (fun t => loadIdx (F := F) (s := S32768) (e := .i32) t i h) (Memref.read_access_whole (Elt F) (cc2_scratch2 : Ref sig .scVector) g)

theorem written (f : S500224.Idx → F .f32) (g : S1024.Idx → BitVec 32) (g' : S32768.Idx → BitVec 32) (o : S65536.Idx → BitVec 32) (h : Buf (Elt F) ((thr d L).loc cc2_scratch3))
    (hh : ∀ j : S2048.Idx, (h j : BitVec 32) = BitVec.ofNat 32 (tally (sel3 g g') (wordAt f) (15632 * wid L) 15632 (j 0).val)) :
    ∀ i ∈ (oSl L).view.set, ((oSl L).view.writes (Elt F) o [⟨Rect.whole S2048, hS.view.read (Elt F) h⟩]) i = (fun p : S65536.Idx => hists (sel3 g g') 2048 f (p 0).val) i := by
  refine eq_on_of_read (oSl L).view fun x => ?_
  rw [read_writes_whole]
  have hp : ((oSl L).view.emb x 0).val = 2048 * wid L + (x 0).val := by
    show k2_off4 L 0 + 1 * (x 0).val = _
    rw [k2_off4_eq]
    show 4096 * (L 1).val + 2048 * (L 0).val + 1 * (x 0).val = _
    unfold wid; omega
  have hx : (x 0).val < 2048 := (x 0).isLt
  exact (hh x).trans (hists_eq (sel3 g g') f hp hx).symm

theorem body (hF : (K (F := F)).Facts) (f : S500224.Idx → F .f32) (g : S1024.Idx → BitVec 32) (g' : S32768.Idx → BitVec 32) (hg : Numbers g) (hg' : Numbers g') (q q' : PosShare TreeShare) (o : S65536.Idx → BitVec 32)
    (O : CellTallies nD τ sig (HIx NC)) (W : Waits sig (HIx NC)) (hO : ∀ g, O g none = 0) :
    iprop((levAts (K (F := F)).L (K (F := F)).lev : sProp 𝕄) ∗ emp
        ∗ (((cSl L).view.loc (thr d L) ↦[(cSl L).view.set]{fullShare} f) ∗ (mA.view.loc (thr d L) ↦{q} g) ∗ (nA.view.loc (thr d L) ↦{q'} g') ∗ ((oSl L).view.loc (thr d L) ↦[(oSl L).view.set]{fullShare} o))
        ∗ scopedBufs (thr d L) ∗ scopedSems0 (thr d L) ∗ owes (thr d L) O W)
      ⊢ wp frame (wpE (defs₀ (F := F)) 𝒱₀ (thr d L) none) Set.univ
          (cc2__sc_hist3_body L cA (Memref.isWhole_whole _) mA (Memref.isWhole_whole _) nA (Memref.isWhole_whole _) oA (Memref.isWhole_whole _) dS (Memref.isWhole_whole _) mS (Memref.isWhole_whole _)
            nS (Memref.isWhole_whole _) hS (Memref.isWhole_whole _) cc2_scoped0 cc2_scoped1 cc2_scoped2 cc2_scoped3)
          fun _ => iprop((((cSl L).view.loc (thr d L) ↦[(cSl L).view.set]{fullShare} f) ∗ (mA.view.loc (thr d L) ↦{q} g) ∗ (nA.view.loc (thr d L) ↦{q'} g')
            ∗ ((oSl L).view.loc (thr d L) ↦[(oSl L).view.set]{fullShare} fun p => hists (sel3 g g') 2048 f (p 0).val))
            ∗ scopedBufs (thr d L) ∗ scopedSems0 (thr d L)
            ∗ ∃ W', ⌜∀ p ∈ W', p ∈ W ∨ p.2 = none⌝ ∗ owes (thr d L) O W') := by
  rw [cc2__sc_hist3_body_eq_skeleton]; unfold cc2__sc_hist3_body_skel
  rw [(K (F := F)).scopedBufs_V hF d (cV L) (jV L), SparseCore.Cfg.scopedSems0_V (Val := Elt F) d (cV L) (jV L), ownSems0_V, ownBufs_V]
  iintro ⟨#Hlv, -, ⟨Hc, Hm, Hn, Ho⟩, ⟨⟨%fs, Hs⟩, ⟨%fm, Hms⟩, ⟨%fn, Hns⟩, ⟨%fh, Hh⟩, Hbufs⟩, ⟨HsemA, HsemB, HsemC, HsemD, Hsems⟩, HO⟩
  ihave Hmw := ((K (F := F)).mayWaits_none (thr := thr d L) hO) $$ Hlv
  ihave Hs := (Entails.of_eq (pts_d (F := F) d L _).symm) $$ Hs
  ihave Hms := (Entails.of_eq (pts_m (F := F) d L _).symm) $$ Hms
  ihave Hns := (Entails.of_eq (pts_n (F := F) d L _).symm) $$ Hns
  ihave Hh := (Entails.of_eq (pts_h (F := F) d L _).symm) $$ Hh
  sl_exec
  have hdat : View.write (Elt F) dS.view fs (body.sl.dma0 L f) Finset.univ = dat d L f := by
    rw [View.write_whole_univ]; rfl
  rw [hdat]
  have hmap : View.write (Elt F) mS.view fm (body.sl.dma0_1 g) Finset.univ = g := by
    rw [View.write_whole_univ]; rfl
  rw [hmap]
  have hmap' : View.write (Elt F) nS.view fn (body.sl.dma0_2 g') Finset.univ = g' := by
    rw [View.write_whole_univ]; rfl
  rw [hmap']
  sl_for (inv1 (F := F) d L) $$ [Hh]
  case region =>
    intro k _
    unfold inv1
    iintro ⟨%h, %hh, Hh⟩
    sl_exec
    sl_step
    iexists (hS.view.writes (Elt F) h [⟨Rect.unit (s := S2048) (k2_off2 k) S16.size (k2_off2_inb k), k2_pay1⟩]); isplitr
    · ipureintro; exact zeroed d L k.val k rfl h hh
    · iexact Hh
  · unfold inv1
    iexists fh; isplitr
    · ipureintro; intro j hj; omega
    · iexact Hh
  iintro %_ HI
  unfold inv1
  icases HI with ⟨%h0, %hh0, Hh⟩
  sl_for (inv2 (F := F) d L f g g') $$ [Hs Hms Hns Hh]
  case region =>
    intro k _
    unfold inv2
    iintro ⟨Hs, Hms, Hns, %h, %hh, Hh⟩
    sl_exec
    delta body.sl.v22
    rw [wp_assume_of _ _ _ _ (chk1 (vv d L f k))]
    ihave Hms := (Entails.of_eq (pts_mw (F := F) d L _).symm) $$ Hms
    iapply (SparseCore.wp_vectorLoadIdx 𝒱₀ (thr d L) none Set.univ (base := mS) (S := (mS.access (.whole S1024)).set) (q := fullShare) (Finset.Subset.refl _)) $$ Hms; iintro Hms
    ihave Hms := (Entails.of_eq (pts_mw (F := F) d L _)) $$ Hms
    iapply (wp_assume 𝒱₀ (thr d L) none Set.univ (chk2 (v := vv d L f k) hg (loaded (F := F) g _)))
    ihave Hns := (Entails.of_eq (pts_nw (F := F) d L _).symm) $$ Hns
    iapply (SparseCore.wp_vectorLoadIdx 𝒱₀ (thr d L) none Set.univ (base := nS) (hl := View.loads_vmem h_S32768) (S := (nS.access (.whole S32768)).set) (q := fullShare) (Finset.Subset.refl _)) $$ Hns; iintro Hns
    ihave Hns := (Entails.of_eq (pts_nw (F := F) d L _)) $$ Hns
    iapply (wp_assume 𝒱₀ (thr d L) none Set.univ (chk3 (v := vv d L f k) hg' (loaded (F := F) g _) (loaded' (F := F) g' _)))
    ihave Hh := (Entails.of_eq (pts_hw (F := F) d L _).symm) $$ Hh
    iapply (SparseCore.wp_vectorStoreIdx 𝒱₀ (thr d L) none Set.univ (base := hS)) $$ Hh; iintro Hh
    ihave Hh := (Entails.of_eq (pts_hw (F := F) d L _)) $$ Hh
    sl_step
    isplitl [Hs]; · iexact Hs
    isplitl [Hms]; · iexact Hms
    isplitl [Hns]; · iexact Hns
    iexists _; isplitr
    rotate_left
    · iexact Hh
    · ipureintro; exact scattered d L f g g' k.val k rfl h hh _ rfl _ _ (loaded (F := F) g _) _ _ (loaded' (F := F) g' _) _
  · unfold inv2
    isplitl [Hs]; · iexact Hs
    isplitl [Hms]; · iexact Hms
    isplitl [Hns]; · iexact Hns
    iexists h0; isplitr
    · ipureintro; intro j; rw [hh0 j (j 0).isLt, Nat.mul_zero, tally_zero]
    · iexact Hh
  iintro %_ HI
  unfold inv2
  icases HI with ⟨Hs, Hms, Hns, %h2, %hh2, Hh⟩
  have htr : 16 * Scf.trips k2_t2_loop.lb k2_t2_loop.ub k2_t2_loop.st = 15632 := by decide
  rw [htr] at hh2
  sl_exec
  sl_step
  isplitl [Hc Hm Hn Ho]
  · isplitl [Hc]; · iexact Hc
    isplitl [Hm]; · iexact Hm
    isplitl [Hn]; · iexact Hn
    iapply (Entails.of_eq (pointsTo_congr (written d L f g g' o h2 hh2))); iexact Ho
  isplitl [Hs Hms Hns Hh Hbufs]
  · isplitl [Hs]; · iexists _; iexact Hs
    isplitl [Hms]; · iexists _; iexact Hms
    isplitl [Hns]; · iexists _; iexact Hns
    isplitl [Hh]; · iexists _; iexact Hh
    iexact Hbufs
  isplitl [HsemA HsemB HsemC HsemD Hsems]
  · isplitl [HsemA]; · iexact HsemA
    isplitl [HsemB]; · iexact HsemB
    isplitl [HsemC]; · iexact HsemC
    isplitl [HsemD]; · iexact HsemD
    iexact Hsems
  iexists _; isplitr
  rotate_left
  · iexact HO
  · ipureintro; exact waits_cons (waits_cons (waits_cons (waits_cons fun p hp => .inl hp)))

end Hist3

end Cert.Proof

end
-- ==== Proof.Tiles.lean ====
/-
  A one-dimensional array in thirty-two equal stretches, one a tile: the stretch of SparseCore `c`'s tile `s` is number
  `2 s + c`. The stretches are disjoint and cover the array, so holding the array is holding the tiles' stretches.
-/
module

public import proofs.«01_k».proof.Proof.Setup

@[expose] public section

noncomputable section

namespace Cert.Proof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx NC) (Elt F) ℕ UU ℕ

/-- Stretch `k` of an array of `N` elements in stretches of `n`. -/
def tileSet (N n k : ℕ) : Finset (⟨1, ![N]⟩ : Shape).Idx := Finset.univ.filter fun i => n * k ≤ (i 0).val ∧ (i 0).val < n * k + n

theorem mem_tileSet {N n k : ℕ} {i : (⟨1, ![N]⟩ : Shape).Idx} : i ∈ tileSet N n k ↔ n * k ≤ (i 0).val ∧ (i 0).val < n * k + n := by
  unfold tileSet; rw [Finset.mem_filter]; exact ⟨fun h => h.2, fun h => ⟨Finset.mem_univ _, h⟩⟩

/-- A unit-stride stretch starting at a multiple of its length is a tile's. -/
theorem set_unit_tile {N n k : ℕ} {off : Fin 1 → ℕ} (inb : ∀ a, off a + (![n] : Fin 1 → ℕ) a ≤ (⟨1, ![N]⟩ : Shape).size a) (h : off = ![n * k]) :
    (Rect.unit (s := ⟨1, ![N]⟩) off ![n] inb).set = tileSet N n k := by
  subst h
  ext i
  rw [Rect.mem_set_unit, mem_tileSet]
  exact ⟨fun h => h 0, fun h a => by obtain rfl : a = 0 := Subsingleton.elim _ _; exact h⟩

/-- The number of the tile `p.2` of SparseCore `p.1`. -/
abbrev num (p : Fin 2 × Fin 16) : ℕ := p.2.val * 2 + p.1.val

theorem num_inj {p q : Fin 2 × Fin 16} (h : num p = num q) : p = q := by
  obtain ⟨a, b⟩ := p; obtain ⟨c, e⟩ := q
  have := a.isLt; have := c.isLt
  simp only [num] at h
  exact Prod.ext (Fin.ext (by simp only; omega)) (Fin.ext (by simp only; omega))

theorem tiles_disjoint (N n : ℕ) : ∀ p ∈ (Finset.univ : Finset (Fin 2 × Fin 16)), ∀ q ∈ (Finset.univ : Finset (Fin 2 × Fin 16)), p ≠ q →
    Disjoint (tileSet N n (num p)) (tileSet N n (num q)) := by
  intro p _ q _ h
  refine Finset.disjoint_left.mpr fun i hp hq => h (num_inj ?_)
  rw [mem_tileSet] at hp hq
  have h1 : n * num p < n * (num q + 1) := by rw [Nat.mul_succ]; omega
  have h2 : n * num q < n * (num p + 1) := by rw [Nat.mul_succ]; omega
  have := Nat.lt_of_mul_lt_mul_left h1; have := Nat.lt_of_mul_lt_mul_left h2
  omega

theorem tiles_cover {N n : ℕ} (hN : N = n * 32) : (Finset.univ : Finset (Fin 2 × Fin 16)).biUnion (fun p => tileSet N n (num p)) = Finset.univ := by
  refine Finset.eq_univ_iff_forall.mpr fun i => ?_
  have hi : (i 0).val < n * 32 := hN ▸ (i 0).isLt
  have hk : (i 0).val / n < 32 := Nat.div_lt_of_lt_mul hi
  have hn : 0 < n := by rcases Nat.eq_zero_or_pos n with h | h; · subst h; omega
                        · exact h
  refine Finset.mem_biUnion.mpr ⟨(⟨(i 0).val / n % 2, by omega⟩, ⟨(i 0).val / n / 2, by omega⟩), Finset.mem_univ _, ?_⟩
  rw [mem_tileSet]
  have : num (⟨(i 0).val / n % 2, by omega⟩, ⟨(i 0).val / n / 2, by omega⟩) = (i 0).val / n := by simp only [num]; omega
  rw [this]
  have h1 := Nat.div_add_mod (i 0).val n
  have h2 := Nat.mod_lt (i 0).val hn
  omega

/-- An array held whole is its tiles' stretches, each held. -/
theorem pts_tiles (ℓ : Loc nD τ sig) (R : Fin 2 × Fin 16 → Finset (Idx ℓ))
    (hd : ∀ p ∈ (Finset.univ : Finset (Fin 2 × Fin 16)), ∀ q ∈ (Finset.univ : Finset (Fin 2 × Fin 16)), p ≠ q → Disjoint (R p) (R q))
    (hc : (Finset.univ : Finset (Fin 2 × Fin 16)).biUnion R = Finset.univ) (f : Buf (Elt F) ℓ) :
    (ℓ ↦{fullShare} f : sProp 𝕄)
      = bigSep Finset.univ fun c : Fin 2 => bigSep Finset.univ fun s : Fin 16 => ℓ ↦[R (c, s)]{fullShare} f := by
  rw [← bigSep_univ_prod (fun p : Fin 2 × Fin 16 => (ℓ ↦[R p]{fullShare} f : sProp 𝕄)), ← pointsTo_biUnion Finset.univ (ℓ := ℓ) R hd, hc]

/-- A tile's part of an array every tile reads whole. -/
def part (c : Fin 2) (s : Fin 16) : PosShare TreeShare := Transfers.dealOf (Transfers.dealOf fullShare Finset.univ c) Finset.univ s

/-- An array held whole is a part of it for every tile. -/
theorem pts_parts (ℓ : Loc nD τ sig) (f : Buf (Elt F) ℓ) :
    (ℓ ↦{fullShare} f : sProp 𝕄) = bigSep Finset.univ fun c : Fin 2 => bigSep Finset.univ fun s : Fin 16 => ℓ ↦{part c s} f := by
  rw [Transfers.pointsTo_deal (Finset.univ : Finset (Fin 2)) Finset.univ_nonempty fullShare]
  exact bigSep_congr fun c _ => Transfers.pointsTo_deal (Finset.univ : Finset (Fin 16)) Finset.univ_nonempty _

end Cert.Proof

end
-- ==== Proof.Lines.lean ====
/-
  The host's lines as lists of operations: those before the first call and those after each.
-/
module

public import proofs.«01_k».proof.Proof.Setup
public import Idealize.ShloMosaic.Lib.Pipeline.Frame

@[expose] public section

noncomputable section

namespace Cert.Proof

open Cert.Kernel Cert.Kernel.Gen

open Idealize.ShloMosaic
open Idealize.ShloMosaic.StableHlo (seq seqK seq_bind_seqK)

variable {F : FTy → Type} [BitOps F]

/-- The lines before the first call: the padding made and appended to the argument. -/
def ops0 : List (HloOp τ sig (Elt F)) :=
  [StableHlo.nullary main_cst (constant S_ .f32 0x40000000#32),
   StableHlo.unary main_cst main_v0 (broadcastInDim S224 ![] bcast_S_S224 : (⟨S_, .f32⟩ : BufTy).Contents (Elt F) → (⟨S224, .f32⟩ : BufTy).Contents (Elt F)),
   StableHlo.binary main_arg0 main_v0 main_v1 ((fun a b => concatenate S500224 0 [⟨S500000, a⟩, ⟨S224, b⟩] concatenates_S500000_S224_S500224_d0) : (⟨S500000, .f32⟩ : BufTy).Contents (Elt F) → (⟨S224, .f32⟩ : BufTy).Contents (Elt F) → (⟨S500224, .f32⟩ : BufTy).Contents (Elt F))]

/-- The lines after the first call: the tiles' histograms summed; -/
def ops1 : List (HloOp τ sig (Elt F)) :=
  [StableHlo.reshape main_v2 main_v3 (rfl : (.i32 : EltTy) = .i32) shapeCasts_S32768_S32x1024,
   StableHlo.nullary main_c (constantI S_ 32 0#32),
   StableHlo.binary main_v3 main_c main_v4 ((fun x v => Host.reduce IntOp.addi x v reducesTo_S32x1024_S1024_d0 h_S_) : (⟨S32x1024, .i32⟩ : BufTy).Contents (Elt F) → (⟨S_, .i32⟩ : BufTy).Contents (Elt F) → (⟨S1024, .i32⟩ : BufTy).Contents (Elt F))]

/-- after the second; -/
def ops2 : List (HloOp τ sig (Elt F)) :=
  [StableHlo.reshape main_v5 main_v6 (rfl : (.i32 : EltTy) = .i32) shapeCasts_S1048576_S32x32768,
   StableHlo.nullary main_c_0 (constantI S_ 32 0#32),
   StableHlo.binary main_v6 main_c_0 main_v7 ((fun x v => Host.reduce IntOp.addi x v reducesTo_S32x32768_S32768_d0 h_S_) : (⟨S32x32768, .i32⟩ : BufTy).Contents (Elt F) → (⟨S_, .i32⟩ : BufTy).Contents (Elt F) → (⟨S32768, .i32⟩ : BufTy).Contents (Elt F))]

/-- after the third. -/
def ops3 : List (HloOp τ sig (Elt F)) :=
  [StableHlo.reshape main_v8 main_v9 (rfl : (.i32 : EltTy) = .i32) shapeCasts_S65536_S32x2048,
   StableHlo.nullary main_c_1 (constantI S_ 32 0#32),
   StableHlo.binary main_v9 main_c_1 main_v10 ((fun x v => Host.reduce IntOp.addi x v reducesTo_S32x2048_S2048_d0 h_S_) : (⟨S32x2048, .i32⟩ : BufTy).Contents (Elt F) → (⟨S_, .i32⟩ : BufTy).Contents (Elt F) → (⟨S2048, .i32⟩ : BufTy).Contents (Elt F))]

theorem main_eq (d : Dev nD) : main (F := F) d = (seq ops0 >>= fun _ => (sc (F := F)).run d 0 >>= fun _ => seq ops1 >>= fun _ => (sc (F := F)).run d 1 >>= fun _ =>
    seq ops2 >>= fun _ => (sc (F := F)).run d 2 >>= fun _ => seq ops3 >>= fun _ => pure ⟨⟩) := by
  simp only [seq_bind_seqK]
  rfl

/-- A list of lines touches only the TensorCore's arrays, and asks for nothing new. -/
def Plain (ops : List (HloOp τ sig (Elt F))) : Prop := (∀ op ∈ ops, op.bufs ⊆ Pipeline.ucRefs τ sig) ∧ ∀ op ∈ ops, op.fresh = ∅

theorem plain_nil : Plain ([] : List (HloOp τ sig (Elt F))) := ⟨fun _ h => (nomatch h), fun _ h => (nomatch h)⟩

theorem plain_cons {op : HloOp τ sig (Elt F)} {ops : List (HloOp τ sig (Elt F))} (h : Plain ops) (hb : op.bufs ⊆ Pipeline.ucRefs τ sig) (hf : op.fresh = ∅) : Plain (op :: ops) :=
  ⟨fun o ho => by rcases List.mem_cons.mp ho with rfl | ho; exacts [hb, h.1 o ho], fun o ho => by rcases List.mem_cons.mp ho with rfl | ho; exacts [hf, h.2 o ho]⟩

theorem plain0 : Plain (ops0 (F := F)) := plain_cons (plain_cons (plain_cons (plain_nil) (Pipeline.sub_ucRefs _ (by simp)) rfl) (Pipeline.sub_ucRefs _ (by simp)) rfl) (Pipeline.sub_ucRefs _ (by simp)) rfl
theorem plain1 : Plain (ops1 (F := F)) := plain_cons (plain_cons (plain_cons (plain_nil) (Pipeline.sub_ucRefs _ (by simp)) rfl) (Pipeline.sub_ucRefs _ (by simp)) rfl) (Pipeline.sub_ucRefs _ (by simp)) rfl
theorem plain2 : Plain (ops2 (F := F)) := plain_cons (plain_cons (plain_cons (plain_nil) (Pipeline.sub_ucRefs _ (by simp)) rfl) (Pipeline.sub_ucRefs _ (by simp)) rfl) (Pipeline.sub_ucRefs _ (by simp)) rfl
theorem plain3 : Plain (ops3 (F := F)) := plain_cons (plain_cons (plain_cons (plain_nil) (Pipeline.sub_ucRefs _ (by simp)) rfl) (Pipeline.sub_ucRefs _ (by simp)) rfl) (Pipeline.sub_ucRefs _ (by simp)) rfl

end Cert.Proof

end
-- ==== Proof.Launch.lean ====
/-
  The launch: what the calls' hand-shakes carry, the calls' tasks, and the run of the whole program — each result is what
  the host's lines make of the tiles' histograms.
-/
module

public import proofs.«01_k».proof.Proof.Hist3
public import proofs.«01_k».proof.Proof.Tiles
public import proofs.«01_k».proof.Proof.Lines

@[expose] public section

noncomputable section

namespace Cert.Proof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (seq seqK seq_bind_seqK after held held_sub_split held_congr wp_seq)

variable {F : FTy → Type} [BitOps F]

local notation "𝕄" => MT nD τ sig (HIx NC) (Elt F) ℕ UU ℕ

/-! ## The arrays' contents along the program -/

variable (m : (ℓ : Loc nD τ sig) → Buf (Elt F) ℓ) (ρ : Dev nD → PrngReg)

/-- The padded array, the two maps, and the calls' outputs. -/
abbrev cR : DevRef τ sig := Proc.devRef .tc xT
abbrev m2R : DevRef τ sig := Proc.devRef .tc m2T
abbrev m3R : DevRef τ sig := Proc.devRef .tc m3T
abbrev n3R : DevRef τ sig := Proc.devRef .tc n3T
abbrev o1R : DevRef τ sig := Proc.devRef .tc o1T
abbrev o2R : DevRef τ sig := Proc.devRef .tc o2T
abbrev o3R : DevRef τ sig := Proc.devRef .tc o3T

/-- The tiles' histograms, as the first call leaves them on arrays at `V`; the second; the third. -/
def out1 (V : Valuation τ sig (Elt F)) : (S32768 : Shape).Idx → BitVec 32 := fun p => hists sel1 1024 (V cR) (p 0).val
def out2 (V : Valuation τ sig (Elt F)) : (S1048576 : Shape).Idx → BitVec 32 := fun p => hists (sel2 (n := 1024) (V m2R)) 32768 (V cR) (p 0).val
def out3 (V : Valuation τ sig (Elt F)) : (S65536 : Shape).Idx → BitVec 32 := fun p => hists (sel3 (n := 1024) (n' := 32768) (V m3R) (V n3R)) 2048 (V cR) (p 0).val

/-- The arrays before the first call, and after it; -/
def V1 (d : Dev nD) : Valuation τ sig (Elt F) := after ops0 (StableHlo.launchContents m d)
def V1' (d : Dev nD) : Valuation τ sig (Elt F) := Function.update (V1 m d) o1R (out1 (V1 m d))
/-- before the second and after it; -/
def V2 (d : Dev nD) : Valuation τ sig (Elt F) := after ops1 (V1' m d)
def V2' (d : Dev nD) : Valuation τ sig (Elt F) := Function.update (V2 m d) o2R (out2 (V2 m d))
/-- before the third and after it; -/
def V3 (d : Dev nD) : Valuation τ sig (Elt F) := after ops2 (V2' m d)
def V3' (d : Dev nD) : Valuation τ sig (Elt F) := Function.update (V3 m d) o3R (out3 (V3 m d))
/-- at the end. -/
def V4 (d : Dev nD) : Valuation τ sig (Elt F) := after ops3 (V3' m d)

/-- What the calls need of the maps: numbers below 32. -/
structure MapsOk : Prop where
  m2 : ∀ d, Numbers (n := 1024) (V2 m d m2R)
  m3 : ∀ d, Numbers (n := 1024) (V3 m d m3R)
  n3 : ∀ d, Numbers (n := 32768) (V3 m d n3R)

/-! ## What the hand-shakes carry -/

/-- The tile's coordinates. -/
def coordsV (c : Fin 2) (s : Fin 16) : grid0.Coords :=
  fun | 0 => c | 1 => s | ⟨_ + 2, h⟩ => absurd h (Nat.not_lt.2 (Nat.le_add_left _ _))

/-- A tile's share of each call: its stretch of the padded array, its parts of the maps, and its part of the output. -/
def share1 (V : Valuation τ sig (Elt F)) (d : Dev nD) (c : Fin 2) (s : Fin 16) : sProp 𝕄 :=
  iprop(((Hist1.cSl (coordsV c s)).view.loc (Hist1.thr d (coordsV c s)) ↦[(Hist1.cSl (coordsV c s)).view.set]{fullShare} (V cR))
    ∗ ((Hist1.oSl (coordsV c s)).view.loc (Hist1.thr d (coordsV c s)) ↦[(Hist1.oSl (coordsV c s)).view.set]{fullShare} (V o1R)))
def share2 (V : Valuation τ sig (Elt F)) (d : Dev nD) (c : Fin 2) (s : Fin 16) : sProp 𝕄 :=
  iprop(((Hist2.cSl (coordsV c s)).view.loc (Hist2.thr d (coordsV c s)) ↦[(Hist2.cSl (coordsV c s)).view.set]{fullShare} (V cR))
    ∗ (Hist2.mA.view.loc (Hist2.thr d (coordsV c s)) ↦{part c s} (V m2R))
    ∗ ((Hist2.oSl (coordsV c s)).view.loc (Hist2.thr d (coordsV c s)) ↦[(Hist2.oSl (coordsV c s)).view.set]{fullShare} (V o2R)))
def share3 (V : Valuation τ sig (Elt F)) (d : Dev nD) (c : Fin 2) (s : Fin 16) : sProp 𝕄 :=
  iprop(((Hist3.cSl (coordsV c s)).view.loc (Hist3.thr d (coordsV c s)) ↦[(Hist3.cSl (coordsV c s)).view.set]{fullShare} (V cR))
    ∗ (Hist3.mA.view.loc (Hist3.thr d (coordsV c s)) ↦{part c s} (V m3R)) ∗ (Hist3.nA.view.loc (Hist3.thr d (coordsV c s)) ↦{part c s} (V n3R))
    ∗ ((Hist3.oSl (coordsV c s)).view.loc (Hist3.thr d (coordsV c s)) ↦[(Hist3.oSl (coordsV c s)).view.set]{fullShare} (V o3R)))

/-- A tile's share of call `q`, the arrays at `V`. -/
def share (q : Fin NC) (V : Valuation τ sig (Elt F)) (d : Dev nD) (c : Fin 2) (s : Fin 16) : sProp 𝕄 :=
  match q with
  | 0 => share1 V d c s
  | 1 => share2 V d c s
  | 2 => share3 V d c s

instance share_storable (q : Fin NC) (V : Valuation τ sig (Elt F)) (d : Dev nD) (c : Fin 2) (s : Fin 16) : BI.Storable (upEmb : UEmb _ 𝕄) (share q V d c s) :=
  match q with
  | 0 => by show BI.Storable _ (share1 V d c s); unfold share1; infer_instance
  | 1 => by show BI.Storable _ (share2 V d c s); unfold share2; infer_instance
  | 2 => by show BI.Storable _ (share3 V d c s); unfold share3; infer_instance

/-- The arrays before call `q`, and after it. -/
def pre (q : Fin NC) (d : Dev nD) : Valuation τ sig (Elt F) := match q with | 0 => V1 m d | 1 => V2 m d | 2 => V3 m d
def post (q : Fin NC) (d : Dev nD) : Valuation τ sig (Elt F) := match q with | 0 => V1' m d | 1 => V2' m d | 2 => V3' m d

theorem nCore_eq (q : Fin NC) : (K (F := F)).nCore q = 2 := match q with | 0 => rfl | 1 => rfl | 2 => rfl
theorem nSub_eq (q : Fin NC) : (K (F := F)).nSub q = 16 := match q with | 0 => rfl | 1 => rfl | 2 => rfl

/-- What call `q` hands each SparseCore and tile, and takes back: the tiles' shares. -/
def P : (K (F := F)).Pay (nD := nD) (Val := Elt F) (Name := ℕ) (U := UU) where
  st := fun q d c => bigSep Finset.univ fun s : Fin ((K (F := F)).nSub q) => share q (pre m q d) d (c.cast (nCore_eq q)) (s.cast (nSub_eq q))
  dn := fun q d c => bigSep Finset.univ fun s : Fin ((K (F := F)).nSub q) => share q (post m q d) d (c.cast (nCore_eq q)) (s.cast (nSub_eq q))
  go := fun q d c s => share q (pre m q d) d (c.cast (nCore_eq q)) (s.cast (nSub_eq q))
  td := fun q d c s => share q (post m q d) d (c.cast (nCore_eq q)) (s.cast (nSub_eq q))
  x := fun _ _ => iprop(emp)

instance P_storable : (P (F := F) m).IsStorable where
  st q d c := Storable.bigSep (upEmb : UEmb _ 𝕄) Finset.univ fun s : Fin ((K (F := F)).nSub q) => share q (pre m q d) d (c.cast (nCore_eq q)) (s.cast (nSub_eq q))
  dn q d c := Storable.bigSep (upEmb : UEmb _ 𝕄) Finset.univ fun s : Fin ((K (F := F)).nSub q) => share q (post m q d) d (c.cast (nCore_eq q)) (s.cast (nSub_eq q))
  go q d c s := share_storable q (pre m q d) d _ _
  td q d c s := share_storable q (post m q d) d _ _

theorem vecSplit (q : Fin NC) : (K (F := F)).VecSplit' (P m) q := by
  intro d c
  show (bigSep Finset.univ fun s => (P m).go q d c s) ⊢ |={Set.univ}=> ((bigSep Finset.univ fun s => (P m).go q d c s)
    ∗ ((bigSep Finset.univ fun s => (P m).td q d c s) -∗ bigSep Finset.univ fun s => (P m).td q d c s))
  iintro H
  imodintro
  isplitl [H]; · iexact H
  iintro H; iexact H

/-! ## The tasks -/

theorem defs₀_vector1 (c : Fin τ.nSC) (s : Fin τ.nSub) :
    defs₀ (F := F) (.scVector c s) 0 () = SparseCore.onTile hcore0 hsub0 (fun c s => cc0__sc_hist1_body (coordsV c s) Hist1.cA (Memref.isWhole_whole _) Hist1.oA (Memref.isWhole_whole _)
      Hist1.dS (Memref.isWhole_whole _) Hist1.hS (Memref.isWhole_whole _) cc0_scoped0 cc0_scoped1) ⟨⟩ c s := rfl

theorem defs₀_vector2 (c : Fin τ.nSC) (s : Fin τ.nSub) :
    defs₀ (F := F) (.scVector c s) 1 () = SparseCore.onTile hcore1 hsub1 (fun c s => cc1__sc_hist2_body (coordsV c s) Hist2.cA (Memref.isWhole_whole _) Hist2.mA (Memref.isWhole_whole _)
      Hist2.oA (Memref.isWhole_whole _) Hist2.dS (Memref.isWhole_whole _) Hist2.mS (Memref.isWhole_whole _) Hist2.hS (Memref.isWhole_whole _) cc1_scoped0 cc1_scoped1 cc1_scoped2) ⟨⟩ c s := rfl

theorem defs₀_vector3 (c : Fin τ.nSC) (s : Fin τ.nSub) :
    defs₀ (F := F) (.scVector c s) 2 () = SparseCore.onTile hcore2 hsub2 (fun c s => cc2__sc_hist3_body (coordsV c s) Hist3.cA (Memref.isWhole_whole _) Hist3.mA (Memref.isWhole_whole _)
      Hist3.nA (Memref.isWhole_whole _) Hist3.oA (Memref.isWhole_whole _) Hist3.dS (Memref.isWhole_whole _) Hist3.mS (Memref.isWhole_whole _) Hist3.nS (Memref.isWhole_whole _)
      Hist3.hS (Memref.isWhole_whole _) cc2_scoped0 cc2_scoped1 cc2_scoped2 cc2_scoped3) ⟨⟩ c s := rfl

/-- A share of a call's after it: the output's part at the call's output, the rest as before. -/
theorem share1_post (V : Valuation τ sig (Elt F)) (d : Dev nD) (c : Fin 2) (s : Fin 16) : share1 (Function.update V o1R (out1 V)) d c s
    = iprop(((Hist1.cSl (coordsV c s)).view.loc (Hist1.thr d (coordsV c s)) ↦[(Hist1.cSl (coordsV c s)).view.set]{fullShare} (V cR))
      ∗ ((Hist1.oSl (coordsV c s)).view.loc (Hist1.thr d (coordsV c s)) ↦[(Hist1.oSl (coordsV c s)).view.set]{fullShare} (out1 V)) : sProp 𝕄) := by
  unfold share1
  rw [show Function.update V o1R (out1 V) cR = V cR from Function.update_of_ne (by decide) _ _, show Function.update V o1R (out1 V) o1R = out1 V from Function.update_self _ _ _]

theorem share2_post (V : Valuation τ sig (Elt F)) (d : Dev nD) (c : Fin 2) (s : Fin 16) : share2 (Function.update V o2R (out2 V)) d c s
    = iprop(((Hist2.cSl (coordsV c s)).view.loc (Hist2.thr d (coordsV c s)) ↦[(Hist2.cSl (coordsV c s)).view.set]{fullShare} (V cR))
      ∗ (Hist2.mA.view.loc (Hist2.thr d (coordsV c s)) ↦{part c s} (V m2R))
      ∗ ((Hist2.oSl (coordsV c s)).view.loc (Hist2.thr d (coordsV c s)) ↦[(Hist2.oSl (coordsV c s)).view.set]{fullShare} (out2 V)) : sProp 𝕄) := by
  unfold share2
  rw [show Function.update V o2R (out2 V) cR = V cR from Function.update_of_ne (by decide) _ _, show Function.update V o2R (out2 V) m2R = V m2R from Function.update_of_ne (by decide) _ _,
    show Function.update V o2R (out2 V) o2R = out2 V from Function.update_self _ _ _]

theorem share3_post (V : Valuation τ sig (Elt F)) (d : Dev nD) (c : Fin 2) (s : Fin 16) : share3 (Function.update V o3R (out3 V)) d c s
    = iprop(((Hist3.cSl (coordsV c s)).view.loc (Hist3.thr d (coordsV c s)) ↦[(Hist3.cSl (coordsV c s)).view.set]{fullShare} (V cR))
      ∗ (Hist3.mA.view.loc (Hist3.thr d (coordsV c s)) ↦{part c s} (V m3R)) ∗ (Hist3.nA.view.loc (Hist3.thr d (coordsV c s)) ↦{part c s} (V n3R))
      ∗ ((Hist3.oSl (coordsV c s)).view.loc (Hist3.thr d (coordsV c s)) ↦[(Hist3.oSl (coordsV c s)).view.set]{fullShare} (out3 V)) : sProp 𝕄) := by
  unfold share3
  rw [show Function.update V o3R (out3 V) cR = V cR from Function.update_of_ne (by decide) _ _, show Function.update V o3R (out3 V) m3R = V m3R from Function.update_of_ne (by decide) _ _,
    show Function.update V o3R (out3 V) n3R = V n3R from Function.update_of_ne (by decide) _ _, show Function.update V o3R (out3 V) o3R = out3 V from Function.update_self _ _ _]

set_option maxRecDepth 1024 in
/-- A tile's task of the first call, from its share to its share with its histogram written. -/
theorem tileObl1 : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector1]; simp only [SparseCore.onTile, hc, and_self, ↓reduceDIte]
  have hp : (P m).td 0 d c i = _ := share1_post (V1 m d) d (c.cast (nCore_eq 0)) (i.cast (nSub_eq 0))
  rw [hp]
  exact (Hist1.body d (coordsV ⟨_, hc.1⟩ ⟨_, hc.2⟩) facts (V1 m d cR) (V1 m d o1R) O W hO).trans (wp_mono frame _ _ fun _ => obl_post)

set_option maxRecDepth 1024 in
/-- A tile's task of the second call, from its share to its share with its histogram written. -/
theorem tileObl2 (hm : MapsOk m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector2]; simp only [SparseCore.onTile, hc, and_self, ↓reduceDIte]
  have hp : (P m).td 1 d c i = _ := share2_post (V2 m d) d (c.cast (nCore_eq 1)) (i.cast (nSub_eq 1))
  rw [hp]
  exact (Hist2.body d (coordsV ⟨_, hc.1⟩ ⟨_, hc.2⟩) facts (V2 m d cR) (V2 m d m2R) (hm.m2 d) (part ⟨_, hc.1⟩ ⟨_, hc.2⟩) (V2 m d o2R) O W hO).trans (wp_mono frame _ _ fun _ => obl_post)

set_option maxRecDepth 1024 in
/-- A tile's task of the third call, from its share to its share with its histogram written. -/
theorem tileObl3 (hm : MapsOk m) : (K (F := F)).TileObl (D (F := F)) 𝒱 (P m) v₀ 2 := by
  intro d c i O W hO _ _
  simp only [show (P m).ox = fun _ _ => 0 from rfl, add_zero]
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  have hc : ((K (F := F)).core 2 c).val < grid2.bound 0 ∧ ((K (F := F)).sub 2 i).val < grid2.bound 1 := ⟨c.isLt, i.isLt⟩
  rw [defs₀_vector3]; simp only [SparseCore.onTile, hc, and_self, ↓reduceDIte]
  have hp : (P m).td 2 d c i = _ := share3_post (V3 m d) d (c.cast (nCore_eq 2)) (i.cast (nSub_eq 2))
  rw [hp]
  exact (Hist3.body d (coordsV ⟨_, hc.1⟩ ⟨_, hc.2⟩) facts (V3 m d cR) (V3 m d m3R) (V3 m d n3R) (hm.m3 d) (hm.n3 d) (part ⟨_, hc.1⟩ ⟨_, hc.2⟩) (part ⟨_, hc.1⟩ ⟨_, hc.2⟩) (V3 m d o3R) O W hO).trans (wp_mono frame _ _ fun _ => obl_post)

/-! ## The ghost state the launch deals -/

def u₀ : UU := (initOf (K (F := F)).hsCells (K (F := F)).hsToks, 1)

omit [BitOps F] in
theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin NC => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin NC => (P (F := F) m).x q thr) = bigSep Finset.univ fun _ => iprop(emp) from
    bigSep_congr fun _ _ => bigSep_none _, bigSep_none]
  iempintro

/-! ## The program on the TensorCore -/

theorem Hist1_cSl_set (c : Fin 2) (s : Fin 16) : (Hist1.cSl (coordsV c s)).view.set = tileSet 500224 15632 (num (c, s)) := by
  rw [View.set_slice]
  refine (Finset.map_refl).trans (set_unit_tile _ ?_)
  rw [k0_off1_eq]
  show ![31264 * s.val + 15632 * c.val] = ![15632 * (s.val * 2 + c.val)]
  congr 1; omega

theorem Hist1_oSl_set (c : Fin 2) (s : Fin 16) : (Hist1.oSl (coordsV c s)).view.set = tileSet 32768 1024 (num (c, s)) := by
  rw [View.set_slice]
  refine (Finset.map_refl).trans (set_unit_tile _ ?_)
  rw [k0_off4_eq]
  show ![2048 * s.val + 1024 * c.val] = ![1024 * (s.val * 2 + c.val)]
  congr 1; omega

theorem Hist2_cSl_set (c : Fin 2) (s : Fin 16) : (Hist2.cSl (coordsV c s)).view.set = tileSet 500224 15632 (num (c, s)) := by
  rw [View.set_slice]
  refine (Finset.map_refl).trans (set_unit_tile _ ?_)
  rw [k1_off1_eq]
  show ![31264 * s.val + 15632 * c.val] = ![15632 * (s.val * 2 + c.val)]
  congr 1; omega

theorem Hist2_oSl_set (c : Fin 2) (s : Fin 16) : (Hist2.oSl (coordsV c s)).view.set = tileSet 1048576 32768 (num (c, s)) := by
  rw [View.set_slice]
  refine (Finset.map_refl).trans (set_unit_tile _ ?_)
  rw [k1_off4_eq]
  show ![65536 * s.val + 32768 * c.val] = ![32768 * (s.val * 2 + c.val)]
  congr 1; omega

theorem Hist3_cSl_set (c : Fin 2) (s : Fin 16) : (Hist3.cSl (coordsV c s)).view.set = tileSet 500224 15632 (num (c, s)) := by
  rw [View.set_slice]
  refine (Finset.map_refl).trans (set_unit_tile _ ?_)
  rw [k2_off1_eq]
  show ![31264 * s.val + 15632 * c.val] = ![15632 * (s.val * 2 + c.val)]
  congr 1; omega

theorem Hist3_oSl_set (c : Fin 2) (s : Fin 16) : (Hist3.oSl (coordsV c s)).view.set = tileSet 65536 2048 (num (c, s)) := by
  rw [View.set_slice]
  refine (Finset.map_refl).trans (set_unit_tile _ ?_)
  rw [k2_off4_eq]
  show ![4096 * s.val + 2048 * c.val] = ![2048 * (s.val * 2 + c.val)]
  congr 1; omega

/-- What a call holds on the TensorCore: the padded array, its maps, its output. -/
def hold (q : Fin NC) : Finset (DevRef τ sig) := match q with | 0 => {cR, o1R} | 1 => {cR, m2R, o2R} | 2 => {cR, m3R, n3R, o3R}

/-- What call `q` holds, held whole, is the tiles' shares. -/
theorem shares1 (V : Valuation τ sig (Elt F)) (d : Dev nD) :
    (held (d.tc : Thread nD τ) {cR, o1R} V : sProp 𝕄) = bigSep Finset.univ fun c : Fin 2 => bigSep Finset.univ fun s : Fin 16 => share1 V d c s := by
  unfold held
  rw [SparseCore.bigSep_insert' (by decide), bigSep_singleton]
  refine (congrArg₂ _ (pts_tiles ((d, cR) : Loc nD τ sig) (fun p => tileSet 500224 15632 (num p)) (tiles_disjoint _ _) (tiles_cover rfl) _)
    (pts_tiles ((d, o1R) : Loc nD τ sig) (fun p => tileSet 32768 1024 (num p)) (tiles_disjoint _ _) (tiles_cover rfl) _)).trans ?_
  rw [← bigSep_sep']
  refine bigSep_congr fun c _ => ?_
  rw [← bigSep_sep']
  refine bigSep_congr fun s _ => ?_
  unfold share1
  rw [Hist1_cSl_set, Hist1_oSl_set]

theorem shares2 (V : Valuation τ sig (Elt F)) (d : Dev nD) :
    (held (d.tc : Thread nD τ) {cR, m2R, o2R} V : sProp 𝕄) = bigSep Finset.univ fun c : Fin 2 => bigSep Finset.univ fun s : Fin 16 => share2 V d c s := by
  unfold held
  rw [SparseCore.bigSep_insert' (by decide), SparseCore.bigSep_insert' (by decide), bigSep_singleton]
  refine (congrArg₂ _ (pts_tiles ((d, cR) : Loc nD τ sig) (fun p => tileSet 500224 15632 (num p)) (tiles_disjoint _ _) (tiles_cover rfl) _)
    (congrArg₂ _ (pts_parts ((d, m2R) : Loc nD τ sig) _)
      (pts_tiles ((d, o2R) : Loc nD τ sig) (fun p => tileSet 1048576 32768 (num p)) (tiles_disjoint _ _) (tiles_cover rfl) _))).trans ?_
  rw [← bigSep_sep', ← bigSep_sep']
  refine bigSep_congr fun c _ => ?_
  rw [← bigSep_sep', ← bigSep_sep']
  refine bigSep_congr fun s _ => ?_
  unfold share2
  rw [Hist2_cSl_set, Hist2_oSl_set]

theorem shares3 (V : Valuation τ sig (Elt F)) (d : Dev nD) :
    (held (d.tc : Thread nD τ) {cR, m3R, n3R, o3R} V : sProp 𝕄) = bigSep Finset.univ fun c : Fin 2 => bigSep Finset.univ fun s : Fin 16 => share3 V d c s := by
  unfold held
  rw [SparseCore.bigSep_insert' (by decide), SparseCore.bigSep_insert' (by decide), SparseCore.bigSep_insert' (by decide), bigSep_singleton]
  refine (congrArg₂ _ (pts_tiles ((d, cR) : Loc nD τ sig) (fun p => tileSet 500224 15632 (num p)) (tiles_disjoint _ _) (tiles_cover rfl) _)
    (congrArg₂ _ (pts_parts ((d, m3R) : Loc nD τ sig) _) (congrArg₂ _ (pts_parts ((d, n3R) : Loc nD τ sig) _)
      (pts_tiles ((d, o3R) : Loc nD τ sig) (fun p => tileSet 65536 2048 (num p)) (tiles_disjoint _ _) (tiles_cover rfl) _)))).trans ?_
  rw [← bigSep_sep', ← bigSep_sep', ← bigSep_sep']
  refine bigSep_congr fun c _ => ?_
  rw [← bigSep_sep', ← bigSep_sep', ← bigSep_sep']
  refine bigSep_congr fun s _ => ?_
  unfold share3
  rw [Hist3_cSl_set, Hist3_oSl_set]

theorem st_eq (q : Fin NC) (d : Dev nD) : (bigSep Finset.univ fun c : Fin ((K (F := F)).nCore q) => (P m).st q d c) = (held (d.tc : Thread nD τ) (hold q) (pre m q d) : sProp 𝕄) :=
  match q with | 0 => (shares1 (V1 m d) d).symm | 1 => (shares2 (V2 m d) d).symm | 2 => (shares3 (V3 m d) d).symm
theorem dn_eq (q : Fin NC) (d : Dev nD) : (bigSep Finset.univ fun c : Fin ((K (F := F)).nCore q) => (P m).dn q d c) = (held (d.tc : Thread nD τ) (hold q) (post m q d) : sProp 𝕄) :=
  match q with | 0 => (shares1 (V1' m d) d).symm | 1 => (shares2 (V2' m d) d).symm | 2 => (shares3 (V3' m d) d).symm

theorem hold_sub (q : Fin NC) : hold q ⊆ Pipeline.ucRefs τ sig := by revert q; decide

/-- Arrays a call does not hold are as before it. -/
theorem post_off (q : Fin NC) (d : Dev nD) (b : DevRef τ sig) (hb : b ∉ hold q) : pre m q d b = post m q d b :=
  match q, hb with
  | 0, hb => (Function.update_of_ne (fun e => hb (by rw [show b = o1R from e]; decide)) _ _).symm
  | 1, hb => (Function.update_of_ne (fun e => hb (by rw [show b = o2R from e]; decide)) _ _).symm
  | 2, hb => (Function.update_of_ne (fun e => hb (by rw [show b = o3R from e]; decide)) _ _).symm

/-- A call on the TensorCore: its arrays from before it to after it. -/
theorem call (κ : GSem nD τ sig → ℕ) (d : Dev nD) (q : Fin NC) {k : PUnit → Prog (TpuEff nD τ sig (Elt F) (SparseCore.Sig (ΛP (F := F)) NC) .tc) PUnit} {Q : PUnit → sProp 𝕄} :
    iprop((K (F := F)).ctx EH (P m) κ ∗ (K (F := F)).tcSt EH d q.val ∗ held (d.tc : Thread nD τ) (Pipeline.ucRefs τ sig) (pre m q d)
        ∗ (((K (F := F)).tcSt EH d (q.val + 1) ∗ held (d.tc : Thread nD τ) (Pipeline.ucRefs τ sig) (post m q d))
          -∗ wp frame (wpE ((K (F := F)).defs (D (F := F))) 𝒱 (SparseCore.T d) none) Set.univ (k ⟨⟩) Q))
      ⊢ wp frame (wpE ((K (F := F)).defs (D (F := F))) 𝒱 (SparseCore.T d) none) Set.univ ((sc (F := F)).run d q >>= k) Q := by
  rw [held_sub_split (d.tc : Thread nD τ) (V := pre m q d) (hold_sub q), held_sub_split (d.tc : Thread nD τ) (V := post m q d) (hold_sub q),
    ← held_congr (d.tc : Thread nD τ) (V := pre m q d) (V' := post m q d) (fun b hb => post_off m q d b (Finset.mem_sdiff.mp hb).2), wp_bind]
  iintro ⟨#Hctx, Hst, ⟨Hco, Hrest⟩, Hk⟩
  iapply ((K (F := F)).wp_run (D (F := F)) 𝒱 (EH := EH) (P := P m) κ d q) $$ [Hst Hco Hrest Hk]
  isplitr; · iexact Hctx
  isplitl [Hst]; · iexact Hst
  isplitl [Hco]; · rw [st_eq]; iexact Hco
  iintro ⟨Hst, Hdn⟩
  ihave Hdn := (Entails.of_eq (dn_eq m q d)) $$ Hdn
  iapply Hk
  isplitl [Hst]; · iexact Hst
  isplitl [Hdn] <;> iassumption

/-- What the program leaves: every array of the TensorCore's at its last contents. -/
abbrev FIN (d : Dev nD) : sProp 𝕄 := held (d.tc : Thread nD τ) (Pipeline.ucRefs τ sig) (V4 m d)

set_option backward.isDefEq.respectTransparency.types false in
/-- The program on device `d`'s TensorCore: the host's lines and the three calls in turn. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d NC ∗ FIN m d ∗ (K (F := F)).tcEnd d) := by
  unfold SparseCore.Cfg.tcRes SparseCore.Cfg.tcEnd
  rw [main_eq]
  iintro ⟨#Hctx, Hst, ⟨Hb, Hheld, Hts, -⟩, -⟩
  ihave Hheld := (Entails.of_eq (Pipeline.unscopedBufs_held (Ix := HIx NC) (Name := ℕ) (U := UU) (Lvl := ℕ) d (StableHlo.launchContents m d))) $$ Hheld
  iapply (wp_seq 𝒱 none Set.univ d (Pipeline.ucRefs τ sig) _ ops0 plain0.1 plain0.2 (StableHlo.launchContents m d)) $$ [Hb Hheld]
  · isplitl [Hb]; · iexact Hb
    iexact Hheld
  iintro ⟨Hb, Hheld⟩
  iapply (call m κ d 0) $$ [Hst Hheld Hb Hts]
  isplitr; · iexact Hctx
  isplitl [Hst]; · iexact Hst
  isplitl [Hheld]; · iexact Hheld
  iintro ⟨Hst, Hheld⟩
  iapply (wp_seq 𝒱 none Set.univ d (Pipeline.ucRefs τ sig) _ ops1 plain1.1 plain1.2 (V1' m d)) $$ [Hb Hheld]
  · isplitl [Hb]; · iexact Hb
    iexact Hheld
  iintro ⟨Hb, Hheld⟩
  iapply (call m κ d 1) $$ [Hst Hheld Hb Hts]
  isplitr; · iexact Hctx
  isplitl [Hst]; · iexact Hst
  isplitl [Hheld]; · iexact Hheld
  iintro ⟨Hst, Hheld⟩
  iapply (wp_seq 𝒱 none Set.univ d (Pipeline.ucRefs τ sig) _ ops2 plain2.1 plain2.2 (V2' m d)) $$ [Hb Hheld]
  · isplitl [Hb]; · iexact Hb
    iexact Hheld
  iintro ⟨Hb, Hheld⟩
  iapply (call m κ d 2) $$ [Hst Hheld Hb Hts]
  isplitr; · iexact Hctx
  isplitl [Hst]; · iexact Hst
  isplitl [Hheld]; · iexact Hheld
  iintro ⟨Hst, Hheld⟩
  iapply (wp_seq 𝒱 none Set.univ d (Pipeline.ucRefs τ sig) (fun _ => pure ⟨⟩) ops3 plain3.1 plain3.2 (V3' m d)) $$ [Hb Hheld]
  · isplitl [Hb]; · iexact Hb
    iexact Hheld
  iintro ⟨Hb, Hheld⟩
  rw [wp_pure]
  imodintro
  isplitl [Hst]; · iexact Hst
  isplitl [Hheld]; · iexact Hheld
  isplitl [Hb] <;> iassumption

/-! ## The run -/

/-- What every final state has: every array of the TensorCore's at its last contents. -/
def fq (d : Dev nD) (s' : Phys nD τ sig (Elt F)) : Prop := ∀ b ∈ Pipeline.ucRefs τ sig, s'.mem.mem (d, b) = V4 m d b

theorem hfin (d : Dev nD) (s' : Phys nD τ sig (Elt F)) : iprop(FIN m d ∗ SI s') ⊢ (⌜fq m d s'⌝ : sProp 𝕄) := by
  exact fun x hx b hb => ((sep_mono (bigSep_elim (Φ := fun b : DevRef τ sig => (((d, b) : Loc nD τ sig) ↦{fullShare} V4 m d b : sProp 𝕄)) hb) .rfl).trans
    ((sep_comm.1.trans (SI_pointsTo_agree (st := s') (ℓ := ((d, b) : Loc nD τ sig)) (I := Finset.univ) (q := fullShare) (f := V4 m d b))).trans
      (BI.pure_mono fun h => funext fun i => h i (Finset.mem_univ i)))) x hx

def QC : PUnit × MemSt nD τ sig (Elt F) → Prop := fun r => (∀ d : Dev nD, ∀ b ∈ Pipeline.ucRefs τ sig, r.2.mem (d, b) = V4 m d b) ∧ r.2.sem = fun _ => 0

/-- The program runs; at its end every array of the TensorCore's is at its last contents and every semaphore at zero. -/
theorem run_main [∀ e, Nonempty (Elt F e)] (hm : MapsOk m) : θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => (nomatch hq) | 1 => (nomatch hq) | 2 => (nomatch hq))
    (fun q _ => match q with | 0 => tileObl1 m | 1 => tileObl2 m hm | 2 => tileObl3 m hm)
    (fun q _ => SparseCore.Cfg.VecSplit.of_plain (vecSplit m q))
    m ρ main (fun _ => iprop(emp)) (FIN m) (u₀ (F := F)) (sep_elim_left.trans (hu₀ m)) (hmain m ρ) (fq m) (hfin m) (QC m) (fun _ h hz => ⟨h, hz⟩)

end Cert.Proof

end
-- ==== Proof.Sums.lean ====
/-
  Sums of counts: the tiles' histograms of the padded array sum to the counts of the argument's 500000 words, and so do the
  columns of a table of matches.
-/
module

public import proofs.«01_k».proof.Proof.Select
public import proofs.«01_k».proof.Proof.Setup
public import Idealize.ShloMosaic.Lib.Pipeline.Value
public import Idealize.ShloMosaic.Lib.Pointwise.SelectCore
public import Idealize.ShloMosaic.Lib.ValueIdxCore
public import Idealize.ShloMosaic.Lib.WordSum
public import Idealize.ShloMosaic.PureOps.Reduce
public import Idealize.ShloMosaic.PureOps.BitExact
public import Mathlib.Data.BitVec

@[expose] public section

noncomputable section

namespace Cert.Proof

open Idealize.ShloMosaic

/-! ## Sums down a column -/

/-- A sum of words over the rows of a column. -/
theorem reduce_rows {A B : ℕ} {u : Shape} (x : (⟨2, ![A, B]⟩ : Shape).Idx → BitVec 32) (init : u.Idx → BitVec 32)
    (h : (⟨2, ![A, B]⟩ : Shape).ReducesTo [0] ⟨1, ![B]⟩) (hr : (⟨2, ![A, B]⟩ : Shape).Reduces [0] ⟨1, ![B]⟩) (hu : 0 < u.numel) (h0 : ∀ i, init i = 0#32) (j : (⟨1, ![B]⟩ : Shape).Idx) :
    Host.reduce IntOp.addi x init h hu j = ∑ r : Fin A, x (hr.lift j r) := by
  rw [Host.reduce_eq_fold_single IntOp.addi x init h hr hu j, h0]
  exact (Finset.sum_eq_fold _ _).symm

theorem lift_val {A B : ℕ} (hr : (⟨2, ![A, B]⟩ : Shape).Reduces [0] ⟨1, ![B]⟩) (j : (⟨1, ![B]⟩ : Shape).Idx) (r : Fin A) :
    (hr.lift j r 0).val = r.val ∧ (hr.lift j r 1).val = (j 0).val := ⟨rfl, rfl⟩

theorem sum_ofNat (A : ℕ) (f : ℕ → ℕ) : ∑ r : Fin A, BitVec.ofNat 32 (f r.val) = BitVec.ofNat 32 (∑ k ∈ Finset.range A, f k) := by
  rw [Finset.sum_range]
  induction A with
  | zero => rfl
  | succ A ih => rw [Fin.sum_univ_castSucc, Fin.sum_univ_castSucc, BitVec.ofNat_add]; congr 1

/-- As many ones as selections. -/
theorem sum_ones (sel : BitVec 32 → Option ℕ) (w : ℕ → BitVec 32) (A j : ℕ) :
    ∑ r : Fin A, (if sel (w r.val) = some j then 1#32 else 0#32) = BitVec.ofNat 32 (tally sel w 0 A j) := by
  induction A with
  | zero => rw [tally_zero]; rfl
  | succ A ih =>
    rw [Fin.sum_univ_castSucc, tally_add, BitVec.ofNat_add]
    refine congrArg₂ (· + ·) ih ?_
    unfold tally
    show (if sel (w A) = some j then 1#32 else 0#32) = _
    rw [Nat.count_succ, Nat.count_zero, Nat.zero_add, Nat.zero_add, Nat.add_zero]
    split <;> rfl

/-- Counts of words that select alike are the same. -/
theorem tally_congr (sel sel' : BitVec 32 → Option ℕ) (w w' : ℕ → BitVec 32) (lo n j : ℕ) (h : ∀ t < n, sel (w (lo + t)) = some j ↔ sel' (w' (lo + t)) = some j) :
    tally sel w lo n j = tally sel' w' lo n j := by
  unfold tally
  rw [Nat.count_eq_card_filter_range, Nat.count_eq_card_filter_range]
  exact congrArg Finset.card (Finset.filter_congr fun t ht => h t (Finset.mem_range.mp ht))

/-- A stretch no word of which selects the bin counts nothing. -/
theorem tally_none (sel : BitVec 32 → Option ℕ) (w : ℕ → BitVec 32) (lo n j : ℕ) (h : ∀ t < n, sel (w (lo + t)) ≠ some j) : tally sel w lo n j = 0 := by
  unfold tally
  rw [Nat.count_eq_card_filter_range, Finset.card_eq_zero, Finset.filter_eq_empty_iff]
  exact fun t ht => h t (Finset.mem_range.mp ht)

/-- The tiles' counts of a bin sum to the padded array's. -/
theorem sum_hists (sel : BitVec 32 → Option ℕ) (nb : ℕ) (f : Cert.Kernel.S500224.Idx → Bits .f32) {j : ℕ} (hj : j < nb) :
    ∑ r : Fin 32, hists (F := Bits) sel nb f (nb * r.val + j) = BitVec.ofNat 32 (tally sel (wordAt (F := Bits) f) 0 500224 j) := by
  rw [Finset.sum_congr rfl fun (r : Fin 32) _ => hists_eq (F := Bits) (k := r.val) sel f rfl hj,
    sum_ofNat 32 (fun k => tally sel (wordAt (F := Bits) f) (15632 * k) 15632 j), sum_tally]

/-! ## The tiles' histograms summed -/

/-- The bits of the argument's element `t`. -/
def argWord (f : (⟨1, ![500000]⟩ : Shape).Idx → Bits .f32) (t : ℕ) : BitVec 32 := if h : t < 500000 then f (ValueIdx.ix1 ⟨t, h⟩) else 0#32

section
open Cert.Kernel Cert.Kernel.Gen

/-- The tiles' histograms as rows of a table. -/
theorem rows_apply {N nb : ℕ} (hN : N = nb * 32) (v : (⟨1, ![N]⟩ : Shape).Idx → BitVec 32) (hs : (⟨1, ![N]⟩ : Shape).ShapeCasts ⟨2, ![32, nb]⟩)
    (i : (⟨2, ![32, nb]⟩ : Shape).Idx) {p : ℕ} (hp : p < N) (h : p = nb * (i 0).val + (i 1).val) :
    shapeCast ⟨2, ![32, nb]⟩ v hs i = v (ValueIdx.ix1 ⟨p, hp⟩) := by
  refine shapeCast_apply v hs _ _ ?_
  rw [Shape.rowMajor_val_one, Shape.rowMajor_val_two]
  show p = (i 0).val * nb + (i 1).val
  rw [h, Nat.mul_comm]

/-- The padded array's words: the argument's, then the pad's. -/
theorem word_pad (x : (⟨1, ![500000]⟩ : Shape).Idx → BitVec 32) (t : ℕ) (ht : t < 500224) :
    wordAt (F := Bits) (concatenate S500224 0 [⟨S500000, x⟩, ⟨S224, fun _ => 0x40000000#32⟩] concatenates_S500000_S224_S500224_d0) t
      = if t < 500000 then argWord x t else 0x40000000#32 := by
  rw [← wordAt_of_val (F := Bits) _ (ValueIdx.ix1 ⟨t, ht⟩) rfl]
  show concatenate S500224 0 [⟨S500000, x⟩, ⟨S224, fun _ => 0x40000000#32⟩] concatenates_S500000_S224_S500224_d0 (ValueIdx.ix1 ⟨t, ht⟩) = _
  rw [concatenate_pair_apply]
  by_cases h : t < 500000
  · refine (dif_pos h).trans ?_
    rw [if_pos h]
    unfold argWord
    rw [dif_pos h]
    refine congrArg x (funext fun a => ?_)
    obtain rfl : a = 0 := Subsingleton.elim _ _
    rfl
  · refine (dif_neg h).trans ?_
    rw [if_neg h]

/-- The counts of the padded array are the argument's, the pad selecting no bin. -/
theorem tally_pad (sel : BitVec 32 → Option ℕ) (hp : sel 0x40000000#32 = none) (x : (⟨1, ![500000]⟩ : Shape).Idx → BitVec 32) (j : ℕ) :
    tally sel (wordAt (F := Bits) (concatenate S500224 0 [⟨S500000, x⟩, ⟨S224, fun _ => 0x40000000#32⟩] concatenates_S500000_S224_S500224_d0)) 0 500224 j
      = tally sel (argWord x) 0 500000 j := by
  rw [show 500224 = 500000 + 224 from rfl, tally_add, tally_none _ _ (0 + 500000) 224, Nat.add_zero]
  · refine tally_congr _ _ _ _ _ _ _ fun t ht => ?_
    rw [Nat.zero_add, word_pad x t (by omega), if_pos ht]
  · intro t ht
    rw [word_pad x _ (by omega), if_neg (by omega), hp]
    exact nofun

/-- The host's sum of the tiles' histograms of the padded array: bin `j` counts the argument's words that select it. -/
theorem sum_tiles (sel : BitVec 32 → Option ℕ) (hp : sel 0x40000000#32 = none) {N nb : ℕ} {u : Shape} (hN : N = nb * 32) (x : (⟨1, ![500000]⟩ : Shape).Idx → BitVec 32)
    (hs : (⟨1, ![N]⟩ : Shape).ShapeCasts ⟨2, ![32, nb]⟩) (h : (⟨2, ![32, nb]⟩ : Shape).ReducesTo [0] ⟨1, ![nb]⟩) (hr : (⟨2, ![32, nb]⟩ : Shape).Reduces [0] ⟨1, ![nb]⟩)
    (hu : 0 < u.numel) (init : u.Idx → BitVec 32) (h0 : ∀ i, init i = 0#32) (f : S500224.Idx → BitVec 32)
    (hf : f = concatenate S500224 0 [⟨S500000, x⟩, ⟨S224, fun _ => 0x40000000#32⟩] concatenates_S500000_S224_S500224_d0) (j : (⟨1, ![nb]⟩ : Shape).Idx) :
    Host.reduce IntOp.addi (shapeCast ⟨2, ![32, nb]⟩ (fun p : (⟨1, ![N]⟩ : Shape).Idx => hists (F := Bits) sel nb f (p 0).val) hs) init h hu j
      = BitVec.ofNat 32 (tally sel (argWord x) 0 500000 (j 0).val) := by
  have hj : (j 0).val < nb := (j 0).isLt
  rw [reduce_rows _ init h hr hu h0 j, ← tally_pad sel hp, ← hf, ← sum_hists sel nb f hj]
  refine Finset.sum_congr rfl fun r _ => ?_
  obtain ⟨e0, e1⟩ := lift_val hr j r
  have hb : nb * r.val + (j 0).val < N := by
    have := r.isLt
    calc nb * r.val + (j 0).val < nb * r.val + nb := by omega
      _ = nb * (r.val + 1) := (Nat.mul_succ _ _).symm
      _ ≤ nb * 32 := Nat.mul_le_mul_left _ (by omega)
      _ = N := hN.symm
  exact rows_apply hN (fun p : (⟨1, ![N]⟩ : Shape).Idx => hists (F := Bits) sel nb f (p 0).val) hs (hr.lift j r) hb (by rw [e0, e1])

end

/-! ## A table of matches -/

/-- The sums of the columns of a table of matches between words and bin numbers count the words that select each bin. -/
theorem sum_matches (sel : BitVec 32 → Option ℕ) {nb : ℕ} (hnb : nb ≠ 1) {u : Shape} (x : (⟨1, ![500000]⟩ : Shape).Idx → BitVec 32) (w : (⟨1, ![500000]⟩ : Shape).Idx → BitVec 32)
    (hb0 : (⟨1, ![500000]⟩ : Shape).BroadcastsInDim ⟨2, ![500000, 1]⟩ (![0] : Fin 1 → Fin 2)) (hb1 : (⟨2, ![500000, 1]⟩ : Shape).BroadcastsInDim ⟨2, ![500000, nb]⟩ (![0, 1] : Fin 2 → Fin 2))
    (hb2 : (⟨1, ![nb]⟩ : Shape).BroadcastsInDim ⟨2, ![1, nb]⟩ (![1] : Fin 1 → Fin 2)) (hb3 : (⟨2, ![1, nb]⟩ : Shape).BroadcastsInDim ⟨2, ![500000, nb]⟩ (![0, 1] : Fin 2 → Fin 2))
    (hw : 1 < 32) (h : (⟨2, ![500000, nb]⟩ : Shape).ReducesTo [0] ⟨1, ![nb]⟩) (hr : (⟨2, ![500000, nb]⟩ : Shape).Reduces [0] ⟨1, ![nb]⟩) (hu : 0 < u.numel)
    (init : u.Idx → BitVec 32) (h0 : ∀ i, init i = 0#32)
    (hsel : ∀ (r : Fin 500000) (k : ℕ), k < nb → (w (ValueIdx.ix1 r) = BitVec.ofNat 32 k ↔ sel (argWord x r.val) = some k)) (j : (⟨1, ![nb]⟩ : Shape).Idx) :
    Host.reduce IntOp.addi (extui 32 (cmpi .eq (broadcastInDim ⟨2, ![500000, nb]⟩ ![0, 1] hb1 (broadcastInDim ⟨2, ![500000, 1]⟩ ![0] hb0 w))
        (broadcastInDim ⟨2, ![500000, nb]⟩ ![0, 1] hb3 (broadcastInDim ⟨2, ![1, nb]⟩ ![1] hb2 (iotaInDim ⟨1, ![nb]⟩ 32 0)))) hw) init h hu j
      = BitVec.ofNat 32 (tally sel (argWord x) 0 500000 (j 0).val) := by
  rw [reduce_rows _ init h hr hu h0 j, ← sum_ones]
  refine Finset.sum_congr rfl fun r _ => ?_
  obtain ⟨e0, e1⟩ := lift_val hr j r
  show (BitVec.ofBool (broadcastInDim ⟨2, ![500000, nb]⟩ ![0, 1] hb1 (broadcastInDim ⟨2, ![500000, 1]⟩ ![0] hb0 w) (hr.lift j r)
    == broadcastInDim ⟨2, ![500000, nb]⟩ ![0, 1] hb3 (broadcastInDim ⟨2, ![1, nb]⟩ ![1] hb2 (iotaInDim ⟨1, ![nb]⟩ 32 0)) (hr.lift j r))).setWidth 32 = _
  rw [broadcastInDim_apply _ hb1 _ (hr.lift j r) (ValueIdx.ix2 r (0 : Fin 1)) (fun a => by
      match a with
      | ⟨0, _⟩ => exact e0.symm
      | ⟨1, _⟩ => rfl),
    broadcastInDim_apply _ hb0 _ (ValueIdx.ix2 r (0 : Fin 1)) (ValueIdx.ix1 r) (fun a => by
      match a with
      | ⟨0, _⟩ => rfl),
    broadcastInDim_apply _ hb3 _ (hr.lift j r) (ValueIdx.ix2 (0 : Fin 1) (j 0)) (fun a => by
      match a with
      | ⟨0, _⟩ => rfl
      | ⟨1, _⟩ => exact e1.symm.trans (if_neg hnb).symm),
    broadcastInDim_apply _ hb2 _ (ValueIdx.ix2 (0 : Fin 1) (j 0)) (ValueIdx.ix1 (j 0)) (fun a => by
      match a with
      | ⟨0, _⟩ => exact (if_neg hnb).symm)]
  show (BitVec.ofBool (w (ValueIdx.ix1 r) == BitVec.ofNat 32 (j 0).val)).setWidth 32 = _
  have key := hsel r (j 0).val (j 0).isLt
  by_cases hk : w (ValueIdx.ix1 r) = BitVec.ofNat 32 (j 0).val
  · rw [if_pos (key.1 hk), hk, beq_self_eq_true]; rfl
  · rw [if_neg (fun e => hk (key.2 e)), beq_false_of_ne hk]; rfl

end Cert.Proof

end
-- ==== Proof.KernelValue.lean ====
/-
  The kernel's results: each bin of each histogram counts the argument's words that select it.
-/
module

public import proofs.«01_k».proof.Proof.Launch
public import proofs.«01_k».proof.Proof.Sums
public import Idealize.ShloMosaic.Lib.StableHlo.RunRead

@[expose] public section

noncomputable section

namespace Cert.Proof

open Idealize.ShloMosaic
open Cert.Kernel Cert.Kernel.Gen
open Idealize.ShloMosaic.StableHlo

/-- The pad selects no bin of any histogram. -/
theorem sel1_pad : sel1 0x40000000#32 = none := by decide
theorem ok2_pad {n : ℕ} (g : (⟨1, ![n]⟩ : Shape).Idx → BitVec 32) : ¬ ok2 g 0x40000000#32 := fun h => absurd h.1 (by decide)
theorem sel2_pad {n : ℕ} (g : (⟨1, ![n]⟩ : Shape).Idx → BitVec 32) : sel2 g 0x40000000#32 = none := if_neg (ok2_pad g)
theorem sel3_pad {n n' : ℕ} (g : (⟨1, ![n]⟩ : Shape).Idx → BitVec 32) (g' : (⟨1, ![n']⟩ : Shape).Idx → BitVec 32) : sel3 g g' 0x40000000#32 = none :=
  if_neg fun h => ok2_pad g h.1

variable (m : (ℓ : Loc nD τ sig) → Buf (Elt Bits) ℓ) (d : Dev nD)

/-- An argument's contents at the launch. -/
abbrev arg0 : S500000.Idx → BitVec 32 := m ((d.tc : Thread nD τ).loc main_arg0)
abbrev arg1 : S1024.Idx → BitVec 32 := m ((d.tc : Thread nD τ).loc main_arg1)
abbrev arg2 : S32768.Idx → BitVec 32 := m ((d.tc : Thread nD τ).loc main_arg2)

/-- The padded confidences. -/
def padded : S500224.Idx → BitVec 32 := concatenate S500224 0 [⟨S500000, arg0 m d⟩, ⟨S224, fun _ => 0x40000000#32⟩] concatenates_S500000_S224_S500224_d0

/-! ## What the lines leave alone -/

/-- Arrays the first lines do not write; -/
theorem V1_keep (b : Ref sig .tc) (h : b ∉ [main_cst, main_v0, main_v1] := by decide) : V1 m d (Proc.devRef .tc b) = m ((d.tc : Thread nD τ).loc b) :=
  after_unwritten [main_cst, main_v0, main_v1] rfl h _
/-- nor the first call and the lines after it; -/
theorem V2_keep (b : Ref sig .tc) (h : b ∉ [main_v3, main_c, main_v4] := by decide) (h' : b ≠ o1T := by decide) : V2 m d (Proc.devRef .tc b) = V1 m d (Proc.devRef .tc b) :=
  (after_unwritten [main_v3, main_c, main_v4] rfl h _).trans (Function.update_of_ne (fun e => h' (Proc.devRef_injective _ e)) _ _)
/-- nor the second and the lines after it; -/
theorem V3_keep (b : Ref sig .tc) (h : b ∉ [main_v6, main_c_0, main_v7] := by decide) (h' : b ≠ o2T := by decide) : V3 m d (Proc.devRef .tc b) = V2 m d (Proc.devRef .tc b) :=
  (after_unwritten [main_v6, main_c_0, main_v7] rfl h _).trans (Function.update_of_ne (fun e => h' (Proc.devRef_injective _ e)) _ _)
/-- nor the third and the lines after it. -/
theorem V4_keep (b : Ref sig .tc) (h : b ∉ [main_v9, main_c_1, main_v10] := by decide) (h' : b ≠ o3T := by decide) : V4 m d (Proc.devRef .tc b) = V3 m d (Proc.devRef .tc b) :=
  (after_unwritten [main_v9, main_c_1, main_v10] rfl h _).trans (Function.update_of_ne (fun e => h' (Proc.devRef_injective _ e)) _ _)

theorem V1_c : V1 m d cR = padded m d := by
  unfold V1 ops0
  after_results
  rfl

theorem V2_c : V2 m d cR = padded m d := (V2_keep m d xT).trans (V1_c m d)
theorem V3_c : V3 m d cR = padded m d := (V3_keep m d xT).trans (V2_c m d)
theorem V2_m : V2 m d m2R = arg1 m d := (V2_keep m d m2T).trans (V1_keep m d m2T)
theorem V3_m : V3 m d m3R = arg1 m d := (V3_keep m d m3T).trans (V2_m m d)
theorem V3_n : V3 m d n3R = arg2 m d := (V3_keep m d n3T).trans ((V2_keep m d n3T).trans (V1_keep m d n3T))

/-- An argument is as at the launch at the end. -/
theorem V4_arg0 : V4 m d (Proc.devRef .tc main_arg0) = m ((d.tc : Thread nD τ).loc main_arg0) :=
  (V4_keep m d main_arg0).trans ((V3_keep m d main_arg0).trans ((V2_keep m d main_arg0).trans (V1_keep m d main_arg0)))
theorem V4_arg1 : V4 m d (Proc.devRef .tc main_arg1) = m ((d.tc : Thread nD τ).loc main_arg1) := (V4_keep m d main_arg1).trans (V3_m m d)
theorem V4_arg2 : V4 m d (Proc.devRef .tc main_arg2) = m ((d.tc : Thread nD τ).loc main_arg2) := (V4_keep m d main_arg2).trans (V3_n m d)

/-- The maps' numbers, from the arguments'. -/
theorem mapsOk (h1 : ∀ d, Numbers (n := 1024) (arg1 m d)) (h2 : ∀ d, Numbers (n := 32768) (arg2 m d)) : MapsOk m where
  m2 d := by rw [V2_m]; exact h1 d
  m3 d := by rw [V3_m]; exact h1 d
  n3 d := by rw [V3_n]; exact h2 d

/-! ## The results -/

/-- The counts of the argument's words by the bin they select. -/
def counts (sel : BitVec 32 → Option ℕ) (nb : ℕ) (x : (⟨1, ![500000]⟩ : Shape).Idx → BitVec 32) : (⟨1, ![nb]⟩ : Shape).Idx → BitVec 32 :=
  fun j => BitVec.ofNat 32 (tally sel (argWord x) 0 500000 (j 0).val)

theorem result1 : V4 m d (Proc.devRef .tc main_v4) = counts sel1 1024 (arg0 m d) := by
  rw [V4_keep m d main_v4, V3_keep m d main_v4]
  funext j
  unfold V2 ops1
  after_results
  rw [show V1' m d (Proc.devRef .tc main_v2) = out1 (V1 m d) from Function.update_self _ _ _]
  exact sum_tiles sel1 sel1_pad rfl (arg0 m d) shapeCasts_S32768_S32x1024 reducesTo_S32x1024_S1024_d0 (by decide) h_S_ _ (fun _ => rfl) (V1 m d cR) (V1_c m d) j

theorem result2 : V4 m d (Proc.devRef .tc main_v7) = counts (sel2 (n := 1024) (arg1 m d)) 32768 (arg0 m d) := by
  rw [V4_keep m d main_v7]
  funext j
  unfold V3 ops2
  after_results
  rw [show V2' m d (Proc.devRef .tc main_v5) = out2 (V2 m d) from Function.update_self _ _ _]
  unfold out2
  rw [V2_m]
  exact sum_tiles (sel2 (n := 1024) (arg1 m d)) (sel2_pad _) rfl (arg0 m d) shapeCasts_S1048576_S32x32768 reducesTo_S32x32768_S32768_d0 (by decide) h_S_ _ (fun _ => rfl) (V2 m d cR) (V2_c m d) j

theorem result3 : V4 m d (Proc.devRef .tc main_v10) = counts (sel3 (n := 1024) (n' := 32768) (arg1 m d) (arg2 m d)) 2048 (arg0 m d) := by
  funext j
  unfold V4 ops3
  after_results
  rw [show V3' m d (Proc.devRef .tc main_v8) = out3 (V3 m d) from Function.update_self _ _ _]
  unfold out3
  rw [V3_m, V3_n]
  exact sum_tiles (sel3 (n := 1024) (n' := 32768) (arg1 m d) (arg2 m d)) (sel3_pad _ _) rfl (arg0 m d) shapeCasts_S65536_S32x2048 reducesTo_S32x2048_S2048_d0 (by decide) h_S_ _ (fun _ => rfl) (V3 m d cR) (V3_c m d) j

end Cert.Proof

end
-- ==== Proof.RefLines.lean ====
/-
  The reference's lines, in eight parts, and what each part leaves alone.
-/
module

public import proofs.«01_k».proof.Proof.Gen.Reference
public import Idealize.ShloMosaic.Lib.StableHlo.RunRead
public import Idealize.ShloMosaic.PureOps.BitExact
public import Idealize.ShloMosaic.Adequacy
public import Idealize.ShloMosaic.Init

@[expose] public section

noncomputable section

namespace Cert.Proof.Ref

open Idealize.ShloMosaic
open Cert.Reference Cert.Reference.Gen
open Idealize.ShloMosaic.StableHlo

/-- The words' buckets, which of them the first histogram counts, and the bucket of a counted word (zero else); -/
def segA : List (HloOp τ sig (Elt Bits)) :=
  [unary main_arg0 main_v0 (bitcastToInt (F := Bits) : (⟨S500000, .f32⟩ : BufTy).Contents (Elt Bits) → (⟨S500000, .i32⟩ : BufTy).Contents (Elt Bits)),
   nullary main_c (constantI S_ 32 998244352#32),
   unary main_c main_v1 (broadcastInDim S500000 ![] bcast_S_S500000 : (⟨S_, .i32⟩ : BufTy).Contents (Elt Bits) → (⟨S500000, .i32⟩ : BufTy).Contents (Elt Bits)),
   binary main_v0 main_v1 main_v2 (subi : (⟨S500000, .i32⟩ : BufTy).Contents (Elt Bits) → (⟨S500000, .i32⟩ : BufTy).Contents (Elt Bits) → (⟨S500000, .i32⟩ : BufTy).Contents (Elt Bits)),
   nullary main_c_0 (constantI S_ 32 16#32),
   unary main_c_0 main_v3 (broadcastInDim S500000 ![] bcast_S_S500000 : (⟨S_, .i32⟩ : BufTy).Contents (Elt Bits) → (⟨S500000, .i32⟩ : BufTy).Contents (Elt Bits)),
   binary main_v2 main_v3 main_v4 (Host.shrsi : (⟨S500000, .i32⟩ : BufTy).Contents (Elt Bits) → (⟨S500000, .i32⟩ : BufTy).Contents (Elt Bits) → (⟨S500000, .i32⟩ : BufTy).Contents (Elt Bits)),
   nullary main_c_1 (constantI S_ 32 0#32),
   unary main_c_1 main_v5 (broadcastInDim S500000 ![] bcast_S_S500000 : (⟨S_, .i32⟩ : BufTy).Contents (Elt Bits) → (⟨S500000, .i32⟩ : BufTy).Contents (Elt Bits)),
   binary main_v4 main_v5 main_v6 (cmpi .sge : (⟨S500000, .i32⟩ : BufTy).Contents (Elt Bits) → (⟨S500000, .i32⟩ : BufTy).Contents (Elt Bits) → (⟨S500000, .i1⟩ : BufTy).Contents (Elt Bits)),
   nullary main_c_2 (constantI S_ 32 1024#32),
   unary main_c_2 main_v7 (broadcastInDim S500000 ![] bcast_S_S500000 : (⟨S_, .i32⟩ : BufTy).Contents (Elt Bits) → (⟨S500000, .i32⟩ : BufTy).Contents (Elt Bits)),
   binary main_v4 main_v7 main_v8 (cmpi .slt : (⟨S500000, .i32⟩ : BufTy).Contents (Elt Bits) → (⟨S500000, .i32⟩ : BufTy).Contents (Elt Bits) → (⟨S500000, .i1⟩ : BufTy).Contents (Elt Bits)),
   binary main_v6 main_v8 main_v9 (andi : (⟨S500000, .i1⟩ : BufTy).Contents (Elt Bits) → (⟨S500000, .i1⟩ : BufTy).Contents (Elt Bits) → (⟨S500000, .i1⟩ : BufTy).Contents (Elt Bits)),
   nullary main_c_3 (constantI S_ 32 0#32),
   unary main_c_3 main_call0_v0 (id : (⟨S_, .i32⟩ : BufTy).Contents (Elt Bits) → (⟨S_, .i32⟩ : BufTy).Contents (Elt Bits)),
   unary main_call0_v0 main_call0_v1 (broadcastInDim S500000 ![] bcast_S_S500000 : (⟨S_, .i32⟩ : BufTy).Contents (Elt Bits) → (⟨S500000, .i32⟩ : BufTy).Contents (Elt Bits)),
   ternary main_v9 main_v4 main_call0_v1 main_v10 (select : (⟨S500000, .i1⟩ : BufTy).Contents (Elt Bits) → (⟨S500000, .i32⟩ : BufTy).Contents (Elt Bits) → (⟨S500000, .i32⟩ : BufTy).Contents (Elt Bits) → (⟨S500000, .i32⟩ : BufTy).Contents (Elt Bits))]

/-- the buckets' numbers, and which words the second histogram counts; -/
def segB : List (HloOp τ sig (Elt Bits)) :=
  [nullary main_c_4 (constantI S_ 32 0#32),
   unary main_c_4 main_v11 (broadcastInDim S500000 ![] bcast_S_S500000 : (⟨S_, .i32⟩ : BufTy).Contents (Elt Bits) → (⟨S500000, .i32⟩ : BufTy).Contents (Elt Bits)),
   binary main_v10 main_v11 main_v12 (cmpi .slt : (⟨S500000, .i32⟩ : BufTy).Contents (Elt Bits) → (⟨S500000, .i32⟩ : BufTy).Contents (Elt Bits) → (⟨S500000, .i1⟩ : BufTy).Contents (Elt Bits)),
   nullary main_c_5 (constantI S_ 32 1024#32),
   unary main_c_5 main_v13 (broadcastInDim S500000 ![] bcast_S_S500000 : (⟨S_, .i32⟩ : BufTy).Contents (Elt Bits) → (⟨S500000, .i32⟩ : BufTy).Contents (Elt Bits)),
   binary main_v10 main_v13 main_v14 (addi : (⟨S500000, .i32⟩ : BufTy).Contents (Elt Bits) → (⟨S500000, .i32⟩ : BufTy).Contents (Elt Bits) → (⟨S500000, .i32⟩ : BufTy).Contents (Elt Bits)),
   ternary main_v12 main_v14 main_v10 main_v15 (select : (⟨S500000, .i1⟩ : BufTy).Contents (Elt Bits) → (⟨S500000, .i32⟩ : BufTy).Contents (Elt Bits) → (⟨S500000, .i32⟩ : BufTy).Contents (Elt Bits) → (⟨S500000, .i32⟩ : BufTy).Contents (Elt Bits)),
   unary main_v15 main_v16 (broadcastInDim S500000x1 ![0] bcast_S500000_S500000x1_0 : (⟨S500000, .i32⟩ : BufTy).Contents (Elt Bits) → (⟨S500000x1, .i32⟩ : BufTy).Contents (Elt Bits)),
   binary main_arg1 main_v16 main_v17 ((fun x i => Host.gather gather_S1024_S500000x1_S500000_n_0_n_n_0_1_1 x i) : (⟨S1024, .i32⟩ : BufTy).Contents (Elt Bits) → (⟨S500000x1, .i32⟩ : BufTy).Contents (Elt Bits) → (⟨S500000, .i32⟩ : BufTy).Contents (Elt Bits)),
   nullary main_c_6 (constantI S_ 32 0#32),
   unary main_c_6 main_v18 (broadcastInDim S500000 ![] bcast_S_S500000 : (⟨S_, .i32⟩ : BufTy).Contents (Elt Bits) → (⟨S500000, .i32⟩ : BufTy).Contents (Elt Bits)),
   binary main_v17 main_v18 main_v19 (cmpi .sge : (⟨S500000, .i32⟩ : BufTy).Contents (Elt Bits) → (⟨S500000, .i32⟩ : BufTy).Contents (Elt Bits) → (⟨S500000, .i1⟩ : BufTy).Contents (Elt Bits)),
   binary main_v9 main_v19 main_v20 (andi : (⟨S500000, .i1⟩ : BufTy).Contents (Elt Bits) → (⟨S500000, .i1⟩ : BufTy).Contents (Elt Bits) → (⟨S500000, .i1⟩ : BufTy).Contents (Elt Bits))]

/-- the second histogram's bins; -/
def segC : List (HloOp τ sig (Elt Bits)) :=
  [nullary main_c_7 (constantI S_ 32 1024#32),
   unary main_c_7 main_v21 (broadcastInDim S500000 ![] bcast_S_S500000 : (⟨S_, .i32⟩ : BufTy).Contents (Elt Bits) → (⟨S500000, .i32⟩ : BufTy).Contents (Elt Bits)),
   binary main_v17 main_v21 main_v22 (muli : (⟨S500000, .i32⟩ : BufTy).Contents (Elt Bits) → (⟨S500000, .i32⟩ : BufTy).Contents (Elt Bits) → (⟨S500000, .i32⟩ : BufTy).Contents (Elt Bits)),
   nullary main_c_8 (constantI S_ 32 6#32),
   unary main_c_8 main_v23 (broadcastInDim S500000 ![] bcast_S_S500000 : (⟨S_, .i32⟩ : BufTy).Contents (Elt Bits) → (⟨S500000, .i32⟩ : BufTy).Contents (Elt Bits)),
   binary main_v0 main_v23 main_v24 (Host.shrsi : (⟨S500000, .i32⟩ : BufTy).Contents (Elt Bits) → (⟨S500000, .i32⟩ : BufTy).Contents (Elt Bits) → (⟨S500000, .i32⟩ : BufTy).Contents (Elt Bits)),
   nullary main_c_9 (constantI S_ 32 1023#32),
   unary main_c_9 main_v25 (broadcastInDim S500000 ![] bcast_S_S500000 : (⟨S_, .i32⟩ : BufTy).Contents (Elt Bits) → (⟨S500000, .i32⟩ : BufTy).Contents (Elt Bits)),
   binary main_v24 main_v25 main_v26 (andi : (⟨S500000, .i32⟩ : BufTy).Contents (Elt Bits) → (⟨S500000, .i32⟩ : BufTy).Contents (Elt Bits) → (⟨S500000, .i32⟩ : BufTy).Contents (Elt Bits)),
   binary main_v22 main_v26 main_v27 (addi : (⟨S500000, .i32⟩ : BufTy).Contents (Elt Bits) → (⟨S500000, .i32⟩ : BufTy).Contents (Elt Bits) → (⟨S500000, .i32⟩ : BufTy).Contents (Elt Bits)),
   nullary main_c_10 (constantI S_ 32 4294967295#32),
   unary main_c_10 main_call1_v0 (id : (⟨S_, .i32⟩ : BufTy).Contents (Elt Bits) → (⟨S_, .i32⟩ : BufTy).Contents (Elt Bits)),
   unary main_call1_v0 main_call1_v1 (broadcastInDim S500000 ![] bcast_S_S500000 : (⟨S_, .i32⟩ : BufTy).Contents (Elt Bits) → (⟨S500000, .i32⟩ : BufTy).Contents (Elt Bits)),
   ternary main_v20 main_v27 main_call1_v1 main_v28 (select : (⟨S500000, .i1⟩ : BufTy).Contents (Elt Bits) → (⟨S500000, .i32⟩ : BufTy).Contents (Elt Bits) → (⟨S500000, .i32⟩ : BufTy).Contents (Elt Bits) → (⟨S500000, .i32⟩ : BufTy).Contents (Elt Bits)),
   nullary main_c_11 (constantI S_ 32 0#32),
   unary main_c_11 main_call2_v0 (id : (⟨S_, .i32⟩ : BufTy).Contents (Elt Bits) → (⟨S_, .i32⟩ : BufTy).Contents (Elt Bits)),
   unary main_call2_v0 main_call2_v1 (broadcastInDim S500000 ![] bcast_S_S500000 : (⟨S_, .i32⟩ : BufTy).Contents (Elt Bits) → (⟨S500000, .i32⟩ : BufTy).Contents (Elt Bits)),
   ternary main_v20 main_v28 main_call2_v1 main_v29 (select : (⟨S500000, .i1⟩ : BufTy).Contents (Elt Bits) → (⟨S500000, .i32⟩ : BufTy).Contents (Elt Bits) → (⟨S500000, .i32⟩ : BufTy).Contents (Elt Bits) → (⟨S500000, .i32⟩ : BufTy).Contents (Elt Bits))]

/-- the bins' numbers, and which words the third histogram counts; -/
def segD : List (HloOp τ sig (Elt Bits)) :=
  [nullary main_c_12 (constantI S_ 32 0#32),
   unary main_c_12 main_v30 (broadcastInDim S500000 ![] bcast_S_S500000 : (⟨S_, .i32⟩ : BufTy).Contents (Elt Bits) → (⟨S500000, .i32⟩ : BufTy).Contents (Elt Bits)),
   binary main_v29 main_v30 main_v31 (cmpi .slt : (⟨S500000, .i32⟩ : BufTy).Contents (Elt Bits) → (⟨S500000, .i32⟩ : BufTy).Contents (Elt Bits) → (⟨S500000, .i1⟩ : BufTy).Contents (Elt Bits)),
   nullary main_c_13 (constantI S_ 32 32768#32),
   unary main_c_13 main_v32 (broadcastInDim S500000 ![] bcast_S_S500000 : (⟨S_, .i32⟩ : BufTy).Contents (Elt Bits) → (⟨S500000, .i32⟩ : BufTy).Contents (Elt Bits)),
   binary main_v29 main_v32 main_v33 (addi : (⟨S500000, .i32⟩ : BufTy).Contents (Elt Bits) → (⟨S500000, .i32⟩ : BufTy).Contents (Elt Bits) → (⟨S500000, .i32⟩ : BufTy).Contents (Elt Bits)),
   ternary main_v31 main_v33 main_v29 main_v34 (select : (⟨S500000, .i1⟩ : BufTy).Contents (Elt Bits) → (⟨S500000, .i32⟩ : BufTy).Contents (Elt Bits) → (⟨S500000, .i32⟩ : BufTy).Contents (Elt Bits) → (⟨S500000, .i32⟩ : BufTy).Contents (Elt Bits)),
   unary main_v34 main_v35 (broadcastInDim S500000x1 ![0] bcast_S500000_S500000x1_0 : (⟨S500000, .i32⟩ : BufTy).Contents (Elt Bits) → (⟨S500000x1, .i32⟩ : BufTy).Contents (Elt Bits)),
   binary main_arg2 main_v35 main_v36 ((fun x i => Host.gather gather_S32768_S500000x1_S500000_n_0_n_n_0_1_1 x i) : (⟨S32768, .i32⟩ : BufTy).Contents (Elt Bits) → (⟨S500000x1, .i32⟩ : BufTy).Contents (Elt Bits) → (⟨S500000, .i32⟩ : BufTy).Contents (Elt Bits)),
   nullary main_c_14 (constantI S_ 32 0#32),
   unary main_c_14 main_v37 (broadcastInDim S500000 ![] bcast_S_S500000 : (⟨S_, .i32⟩ : BufTy).Contents (Elt Bits) → (⟨S500000, .i32⟩ : BufTy).Contents (Elt Bits)),
   binary main_v36 main_v37 main_v38 (cmpi .sge : (⟨S500000, .i32⟩ : BufTy).Contents (Elt Bits) → (⟨S500000, .i32⟩ : BufTy).Contents (Elt Bits) → (⟨S500000, .i1⟩ : BufTy).Contents (Elt Bits)),
   binary main_v20 main_v38 main_v39 (andi : (⟨S500000, .i1⟩ : BufTy).Contents (Elt Bits) → (⟨S500000, .i1⟩ : BufTy).Contents (Elt Bits) → (⟨S500000, .i1⟩ : BufTy).Contents (Elt Bits))]

/-- the third histogram's bins; -/
def segE : List (HloOp τ sig (Elt Bits)) :=
  [nullary main_c_15 (constantI S_ 32 64#32),
   unary main_c_15 main_v40 (broadcastInDim S500000 ![] bcast_S_S500000 : (⟨S_, .i32⟩ : BufTy).Contents (Elt Bits) → (⟨S500000, .i32⟩ : BufTy).Contents (Elt Bits)),
   binary main_v36 main_v40 main_v41 (muli : (⟨S500000, .i32⟩ : BufTy).Contents (Elt Bits) → (⟨S500000, .i32⟩ : BufTy).Contents (Elt Bits) → (⟨S500000, .i32⟩ : BufTy).Contents (Elt Bits)),
   nullary main_c_16 (constantI S_ 32 63#32),
   unary main_c_16 main_v42 (broadcastInDim S500000 ![] bcast_S_S500000 : (⟨S_, .i32⟩ : BufTy).Contents (Elt Bits) → (⟨S500000, .i32⟩ : BufTy).Contents (Elt Bits)),
   binary main_v0 main_v42 main_v43 (andi : (⟨S500000, .i32⟩ : BufTy).Contents (Elt Bits) → (⟨S500000, .i32⟩ : BufTy).Contents (Elt Bits) → (⟨S500000, .i32⟩ : BufTy).Contents (Elt Bits)),
   binary main_v41 main_v43 main_v44 (addi : (⟨S500000, .i32⟩ : BufTy).Contents (Elt Bits) → (⟨S500000, .i32⟩ : BufTy).Contents (Elt Bits) → (⟨S500000, .i32⟩ : BufTy).Contents (Elt Bits)),
   nullary main_c_17 (constantI S_ 32 4294967295#32),
   unary main_c_17 main_call3_v0 (id : (⟨S_, .i32⟩ : BufTy).Contents (Elt Bits) → (⟨S_, .i32⟩ : BufTy).Contents (Elt Bits)),
   unary main_call3_v0 main_call3_v1 (broadcastInDim S500000 ![] bcast_S_S500000 : (⟨S_, .i32⟩ : BufTy).Contents (Elt Bits) → (⟨S500000, .i32⟩ : BufTy).Contents (Elt Bits)),
   ternary main_v39 main_v44 main_call3_v1 main_v45 (select : (⟨S500000, .i1⟩ : BufTy).Contents (Elt Bits) → (⟨S500000, .i32⟩ : BufTy).Contents (Elt Bits) → (⟨S500000, .i32⟩ : BufTy).Contents (Elt Bits) → (⟨S500000, .i32⟩ : BufTy).Contents (Elt Bits))]

/-- the first histogram; -/
def segF : List (HloOp τ sig (Elt Bits)) :=
  [unary main_v4 main_v46 (broadcastInDim S500000x1 ![0] bcast_S500000_S500000x1_0 : (⟨S500000, .i32⟩ : BufTy).Contents (Elt Bits) → (⟨S500000x1, .i32⟩ : BufTy).Contents (Elt Bits)),
   nullary main_v47 (iotaInDim S1024 32 0),
   unary main_v47 main_v48 (broadcastInDim S1x1024 ![1] bcast_S1024_S1x1024_1 : (⟨S1024, .i32⟩ : BufTy).Contents (Elt Bits) → (⟨S1x1024, .i32⟩ : BufTy).Contents (Elt Bits)),
   unary main_v46 main_v49 (broadcastInDim S500000x1024 ![0, 1] bcast_S500000x1_S500000x1024_0_1 : (⟨S500000x1, .i32⟩ : BufTy).Contents (Elt Bits) → (⟨S500000x1024, .i32⟩ : BufTy).Contents (Elt Bits)),
   unary main_v48 main_v50 (broadcastInDim S500000x1024 ![0, 1] bcast_S1x1024_S500000x1024_0_1 : (⟨S1x1024, .i32⟩ : BufTy).Contents (Elt Bits) → (⟨S500000x1024, .i32⟩ : BufTy).Contents (Elt Bits)),
   binary main_v49 main_v50 main_v51 (cmpi .eq : (⟨S500000x1024, .i32⟩ : BufTy).Contents (Elt Bits) → (⟨S500000x1024, .i32⟩ : BufTy).Contents (Elt Bits) → (⟨S500000x1024, .i1⟩ : BufTy).Contents (Elt Bits)),
   unary main_v51 main_v52 ((extui 32 · natLt_1_32) : (⟨S500000x1024, .i1⟩ : BufTy).Contents (Elt Bits) → (⟨S500000x1024, .i32⟩ : BufTy).Contents (Elt Bits)),
   nullary main_c_18 (constantI S_ 32 0#32),
   binary main_v52 main_c_18 main_v53 ((fun x v => Host.reduce IntOp.addi x v reducesTo_S500000x1024_S1024_d0 h_S_) : (⟨S500000x1024, .i32⟩ : BufTy).Contents (Elt Bits) → (⟨S_, .i32⟩ : BufTy).Contents (Elt Bits) → (⟨S1024, .i32⟩ : BufTy).Contents (Elt Bits))]

/-- the second; -/
def segG : List (HloOp τ sig (Elt Bits)) :=
  [unary main_v28 main_v54 (broadcastInDim S500000x1 ![0] bcast_S500000_S500000x1_0 : (⟨S500000, .i32⟩ : BufTy).Contents (Elt Bits) → (⟨S500000x1, .i32⟩ : BufTy).Contents (Elt Bits)),
   nullary main_v55 (iotaInDim S32768 32 0),
   unary main_v55 main_v56 (broadcastInDim S1x32768 ![1] bcast_S32768_S1x32768_1 : (⟨S32768, .i32⟩ : BufTy).Contents (Elt Bits) → (⟨S1x32768, .i32⟩ : BufTy).Contents (Elt Bits)),
   unary main_v54 main_v57 (broadcastInDim S500000x32768 ![0, 1] bcast_S500000x1_S500000x32768_0_1 : (⟨S500000x1, .i32⟩ : BufTy).Contents (Elt Bits) → (⟨S500000x32768, .i32⟩ : BufTy).Contents (Elt Bits)),
   unary main_v56 main_v58 (broadcastInDim S500000x32768 ![0, 1] bcast_S1x32768_S500000x32768_0_1 : (⟨S1x32768, .i32⟩ : BufTy).Contents (Elt Bits) → (⟨S500000x32768, .i32⟩ : BufTy).Contents (Elt Bits)),
   binary main_v57 main_v58 main_v59 (cmpi .eq : (⟨S500000x32768, .i32⟩ : BufTy).Contents (Elt Bits) → (⟨S500000x32768, .i32⟩ : BufTy).Contents (Elt Bits) → (⟨S500000x32768, .i1⟩ : BufTy).Contents (Elt Bits)),
   unary main_v59 main_v60 ((extui 32 · natLt_1_32) : (⟨S500000x32768, .i1⟩ : BufTy).Contents (Elt Bits) → (⟨S500000x32768, .i32⟩ : BufTy).Contents (Elt Bits)),
   nullary main_c_19 (constantI S_ 32 0#32),
   binary main_v60 main_c_19 main_v61 ((fun x v => Host.reduce IntOp.addi x v reducesTo_S500000x32768_S32768_d0 h_S_) : (⟨S500000x32768, .i32⟩ : BufTy).Contents (Elt Bits) → (⟨S_, .i32⟩ : BufTy).Contents (Elt Bits) → (⟨S32768, .i32⟩ : BufTy).Contents (Elt Bits))]

/-- the third. -/
def segH : List (HloOp τ sig (Elt Bits)) :=
  [unary main_v45 main_v62 (broadcastInDim S500000x1 ![0] bcast_S500000_S500000x1_0 : (⟨S500000, .i32⟩ : BufTy).Contents (Elt Bits) → (⟨S500000x1, .i32⟩ : BufTy).Contents (Elt Bits)),
   nullary main_v63 (iotaInDim S2048 32 0),
   unary main_v63 main_v64 (broadcastInDim S1x2048 ![1] bcast_S2048_S1x2048_1 : (⟨S2048, .i32⟩ : BufTy).Contents (Elt Bits) → (⟨S1x2048, .i32⟩ : BufTy).Contents (Elt Bits)),
   unary main_v62 main_v65 (broadcastInDim S500000x2048 ![0, 1] bcast_S500000x1_S500000x2048_0_1 : (⟨S500000x1, .i32⟩ : BufTy).Contents (Elt Bits) → (⟨S500000x2048, .i32⟩ : BufTy).Contents (Elt Bits)),
   unary main_v64 main_v66 (broadcastInDim S500000x2048 ![0, 1] bcast_S1x2048_S500000x2048_0_1 : (⟨S1x2048, .i32⟩ : BufTy).Contents (Elt Bits) → (⟨S500000x2048, .i32⟩ : BufTy).Contents (Elt Bits)),
   binary main_v65 main_v66 main_v67 (cmpi .eq : (⟨S500000x2048, .i32⟩ : BufTy).Contents (Elt Bits) → (⟨S500000x2048, .i32⟩ : BufTy).Contents (Elt Bits) → (⟨S500000x2048, .i1⟩ : BufTy).Contents (Elt Bits)),
   unary main_v67 main_v68 ((extui 32 · natLt_1_32) : (⟨S500000x2048, .i1⟩ : BufTy).Contents (Elt Bits) → (⟨S500000x2048, .i32⟩ : BufTy).Contents (Elt Bits)),
   nullary main_c_20 (constantI S_ 32 0#32),
   binary main_v68 main_c_20 main_v69 ((fun x v => Host.reduce IntOp.addi x v reducesTo_S500000x2048_S2048_d0 h_S_) : (⟨S500000x2048, .i32⟩ : BufTy).Contents (Elt Bits) → (⟨S_, .i32⟩ : BufTy).Contents (Elt Bits) → (⟨S2048, .i32⟩ : BufTy).Contents (Elt Bits))]

/-- The reference's lines. -/
def opsR : List (HloOp τ sig (Elt Bits)) := segA ++ (segB ++ (segC ++ (segD ++ (segE ++ (segF ++ (segG ++ segH))))))

set_option maxHeartbeats 4000000 in
set_option maxRecDepth 4096 in
theorem mainR_eq (d : Dev nD) : main (F := Bits) d = seq opsR := rfl

theorem scopedRefsR : (Finset.univ.filter fun b : Ref sig .tc => b.isScoped) = ∅ := by decide
theorem scopedSemsR : (Finset.univ.filter fun sm : SemLoc sig => sm.isScoped .tc) = ∅ := by decide

theorem forall_append {α : Type} {p : α → Prop} : ∀ {l l' : List α}, l.Forall p → l'.Forall p → (l ++ l').Forall p := by
  intro l l' h h'
  rw [List.forall_iff_forall_mem] at *
  intro a ha
  exact (List.mem_append.mp ha).elim (h a) (h' a)

theorem segA_sub : segA.Forall fun op => op.bufs ⊆ tcRefs τ sig :=
  ⟨unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub ..⟩
theorem segB_sub : segB.Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub ..⟩
theorem segC_sub : segC.Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., unary_bufs_sub .., ternary_bufs_sub ..⟩
theorem segD_sub : segD.Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub ..⟩
theorem segE_sub : segE.Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., unary_bufs_sub .., unary_bufs_sub .., ternary_bufs_sub ..⟩
theorem segF_sub : segF.Forall fun op => op.bufs ⊆ tcRefs τ sig :=
  ⟨unary_bufs_sub .., nullary_bufs_sub .., unary_bufs_sub .., unary_bufs_sub .., unary_bufs_sub .., binary_bufs_sub .., unary_bufs_sub .., nullary_bufs_sub .., binary_bufs_sub ..⟩
theorem segG_sub : segG.Forall fun op => op.bufs ⊆ tcRefs τ sig :=
  ⟨unary_bufs_sub .., nullary_bufs_sub .., unary_bufs_sub .., unary_bufs_sub .., unary_bufs_sub .., binary_bufs_sub .., unary_bufs_sub .., nullary_bufs_sub .., binary_bufs_sub ..⟩
theorem segH_sub : segH.Forall fun op => op.bufs ⊆ tcRefs τ sig :=
  ⟨unary_bufs_sub .., nullary_bufs_sub .., unary_bufs_sub .., unary_bufs_sub .., unary_bufs_sub .., binary_bufs_sub .., unary_bufs_sub .., nullary_bufs_sub .., binary_bufs_sub ..⟩
theorem opsR_sub : opsR.Forall fun op => op.bufs ⊆ tcRefs τ sig :=
  forall_append segA_sub (forall_append segB_sub (forall_append segC_sub (forall_append segD_sub (forall_append segE_sub (forall_append segF_sub (forall_append segG_sub segH_sub))))))

/-! ### What each part leaves alone -/

theorem segA_keep (V : Valuation τ sig (Elt Bits)) (b : Ref sig .tc) (h : b ∉ [main_v0, main_c, main_v1, main_v2, main_c_0, main_v3, main_v4, main_c_1, main_v5, main_v6, main_c_2, main_v7, main_v8, main_v9, main_c_3, main_call0_v0, main_call0_v1, main_v10] := by decide) : after segA V (Proc.devRef .tc b) = V (Proc.devRef .tc b) :=
  after_unwritten [main_v0, main_c, main_v1, main_v2, main_c_0, main_v3, main_v4, main_c_1, main_v5, main_v6, main_c_2, main_v7, main_v8, main_v9, main_c_3, main_call0_v0, main_call0_v1, main_v10] rfl h V
theorem segB_keep (V : Valuation τ sig (Elt Bits)) (b : Ref sig .tc) (h : b ∉ [main_c_4, main_v11, main_v12, main_c_5, main_v13, main_v14, main_v15, main_v16, main_v17, main_c_6, main_v18, main_v19, main_v20] := by decide) : after segB V (Proc.devRef .tc b) = V (Proc.devRef .tc b) :=
  after_unwritten [main_c_4, main_v11, main_v12, main_c_5, main_v13, main_v14, main_v15, main_v16, main_v17, main_c_6, main_v18, main_v19, main_v20] rfl h V
theorem segC_keep (V : Valuation τ sig (Elt Bits)) (b : Ref sig .tc) (h : b ∉ [main_c_7, main_v21, main_v22, main_c_8, main_v23, main_v24, main_c_9, main_v25, main_v26, main_v27, main_c_10, main_call1_v0, main_call1_v1, main_v28, main_c_11, main_call2_v0, main_call2_v1, main_v29] := by decide) : after segC V (Proc.devRef .tc b) = V (Proc.devRef .tc b) :=
  after_unwritten [main_c_7, main_v21, main_v22, main_c_8, main_v23, main_v24, main_c_9, main_v25, main_v26, main_v27, main_c_10, main_call1_v0, main_call1_v1, main_v28, main_c_11, main_call2_v0, main_call2_v1, main_v29] rfl h V
theorem segD_keep (V : Valuation τ sig (Elt Bits)) (b : Ref sig .tc) (h : b ∉ [main_c_12, main_v30, main_v31, main_c_13, main_v32, main_v33, main_v34, main_v35, main_v36, main_c_14, main_v37, main_v38, main_v39] := by decide) : after segD V (Proc.devRef .tc b) = V (Proc.devRef .tc b) :=
  after_unwritten [main_c_12, main_v30, main_v31, main_c_13, main_v32, main_v33, main_v34, main_v35, main_v36, main_c_14, main_v37, main_v38, main_v39] rfl h V
theorem segE_keep (V : Valuation τ sig (Elt Bits)) (b : Ref sig .tc) (h : b ∉ [main_c_15, main_v40, main_v41, main_c_16, main_v42, main_v43, main_v44, main_c_17, main_call3_v0, main_call3_v1, main_v45] := by decide) : after segE V (Proc.devRef .tc b) = V (Proc.devRef .tc b) :=
  after_unwritten [main_c_15, main_v40, main_v41, main_c_16, main_v42, main_v43, main_v44, main_c_17, main_call3_v0, main_call3_v1, main_v45] rfl h V
theorem segF_keep (V : Valuation τ sig (Elt Bits)) (b : Ref sig .tc) (h : b ∉ [main_v46, main_v47, main_v48, main_v49, main_v50, main_v51, main_v52, main_c_18, main_v53] := by decide) : after segF V (Proc.devRef .tc b) = V (Proc.devRef .tc b) :=
  after_unwritten [main_v46, main_v47, main_v48, main_v49, main_v50, main_v51, main_v52, main_c_18, main_v53] rfl h V
theorem segG_keep (V : Valuation τ sig (Elt Bits)) (b : Ref sig .tc) (h : b ∉ [main_v54, main_v55, main_v56, main_v57, main_v58, main_v59, main_v60, main_c_19, main_v61] := by decide) : after segG V (Proc.devRef .tc b) = V (Proc.devRef .tc b) :=
  after_unwritten [main_v54, main_v55, main_v56, main_v57, main_v58, main_v59, main_v60, main_c_19, main_v61] rfl h V
theorem segH_keep (V : Valuation τ sig (Elt Bits)) (b : Ref sig .tc) (h : b ∉ [main_v62, main_v63, main_v64, main_v65, main_v66, main_v67, main_v68, main_c_20, main_v69] := by decide) : after segH V (Proc.devRef .tc b) = V (Proc.devRef .tc b) :=
  after_unwritten [main_v62, main_v63, main_v64, main_v65, main_v66, main_v67, main_v68, main_c_20, main_v69] rfl h V

end Cert.Proof.Ref

end
-- ==== Proof.RefValue.lean ====
/-
  The reference's three results: how many of the argument's words select each bin of each histogram.
-/
module

public import proofs.«01_k».proof.Proof.RefLines
public import proofs.«01_k».proof.Proof.Sums
public import Idealize.ShloMosaic.Lib.Routing.OpsSet

@[expose] public section

noncomputable section

namespace Cert.Proof.Ref

open Idealize.ShloMosaic
open Cert.Reference Cert.Reference.Gen
open Idealize.ShloMosaic.StableHlo

variable (x : S500000.Idx → BitVec 32) (g : S1024.Idx → BitVec 32) (g' : S32768.Idx → BitVec 32) (V : Valuation τ sig (Elt Bits))

/-- A choice by a bit that says whether `p` holds. -/
theorem select_prop {p : Prop} [Decidable p] {c : BitVec 1} (h : c = 1#1 ↔ p) (a b : BitVec 32) : Scalar.select c a b = if p then a else b := by
  unfold Scalar.select
  by_cases hp : p
  · rw [if_pos hp]; exact if_pos (h.2 hp)
  · rw [if_neg hp]; exact if_neg fun e => hp (h.1 e)

/-- An index below a bound keeps its value where a negative one would be counted from the end. -/
theorem wrap_small {n : ℕ} (b e : BitVec 32) (hn : n ≤ 2147483648) (h : b.toNat < n) : Scalar.select (IntOp.cmpi .slt b 0#32) e b = b := by
  refine if_neg ?_
  have h0 : b.slt 0#32 = false := by
    rw [BitVec.slt_zero_eq_msb, BitVec.msb_eq_false_iff_two_mul_lt]; omega
  show ¬ BitVec.ofBool (b.slt 0#32) = 1#1
  rw [h0]; decide

/-- A table read at a column of indices, at an entry whose index is in range. -/
theorem take_entry {N : ℕ} (d : GatherDims (⟨1, ![N]⟩ : Shape) ⟨2, ![500000, 1]⟩ ⟨1, ![500000]⟩) (hcoll : d.collapsedSliceDims = [0])
    (hob : d.operandBatchingDims = []) (hsim : d.startIndexMap = [0]) (hivd : d.indexVectorDim = 1) (hN : N < 2 ^ 31) (t : (⟨1, ![N]⟩ : Shape).Idx → BitVec 32)
    (hb : (⟨1, ![500000]⟩ : Shape).BroadcastsInDim ⟨2, ![500000, 1]⟩ (![0] : Fin 1 → Fin 2)) (w : (⟨1, ![500000]⟩ : Shape).Idx → BitVec 32) (r : Fin 500000)
    (h : (w (ValueIdx.ix1 r)).toNat < N) :
    Host.gather d t (broadcastInDim ⟨2, ![500000, 1]⟩ ![0] hb w) (ValueIdx.ix1 r) = entry t (w (ValueIdx.ix1 r)).toNat := by
  rw [Routing.gather_take1 d hcoll hob hsim hivd t _ r ⟨(w (ValueIdx.ix1 r)).toNat, h⟩ (by
    rw [broadcastInDim_apply _ hb _ (ValueIdx.ix2 r (0 : Fin 1)) (ValueIdx.ix1 r) (fun a => by match a with | ⟨0, _⟩ => rfl), BitVec.ofNat_toNat, BitVec.setWidth_eq]) hN]
  unfold entry
  rw [dif_pos h]
  exact congrArg t (funext fun a => by match a with | ⟨0, _⟩ => rfl)

/-! ## The words' bins, part by part -/

/-- What holds after the first part. -/
structure AtA : Prop where
  a1 : V (Proc.devRef .tc main_arg1) = g
  a2 : V (Proc.devRef .tc main_arg2) = g'
  v0 : V (Proc.devRef .tc main_v0) = x
  v4 : ∀ r, (V (Proc.devRef .tc main_v4) : S500000.Idx → BitVec 32) (ValueIdx.ix1 r) = bk (x (ValueIdx.ix1 r))
  v9 : ∀ r, (V (Proc.devRef .tc main_v9) : S500000.Idx → BitVec 1) (ValueIdx.ix1 r) = 1#1 ↔ (bk (x (ValueIdx.ix1 r))).toNat < 1024
  v10 : ∀ r, (V (Proc.devRef .tc main_v10) : S500000.Idx → BitVec 32) (ValueIdx.ix1 r) = if (bk (x (ValueIdx.ix1 r))).toNat < 1024 then bk (x (ValueIdx.ix1 r)) else 0#32

theorem atA (h0 : V (Proc.devRef .tc main_arg0) = x) (h1 : V (Proc.devRef .tc main_arg1) = g) (h2 : V (Proc.devRef .tc main_arg2) = g') : AtA x g g' (after segA V) := by
  have v4 : ∀ r, (after segA V (Proc.devRef .tc main_v4) : S500000.Idx → BitVec 32) (ValueIdx.ix1 r) = bk (x (ValueIdx.ix1 r)) := by
    intro r; unfold segA; after_results; rw [h0]; rfl
  have v9 : ∀ r, (after segA V (Proc.devRef .tc main_v9) : S500000.Idx → BitVec 1) (ValueIdx.ix1 r) = 1#1 ↔ (bk (x (ValueIdx.ix1 r))).toNat < 1024 := by
    intro r; unfold segA; after_results; rw [h0]; exact in_range_iff (bk (x (ValueIdx.ix1 r))) 1024 (by decide)
  refine ⟨(segA_keep V main_arg1).trans h1, (segA_keep V main_arg2).trans h2, ?_, v4, v9, fun r => ?_⟩
  · unfold segA; after_results; rw [h0]; rfl
  · unfold segA; after_results; rw [h0]
    exact select_prop (in_range_iff (bk (x (ValueIdx.ix1 r))) 1024 (by decide)) _ _

/-- What holds after the second part. -/
structure AtB : Prop where
  a2 : V (Proc.devRef .tc main_arg2) = g'
  v0 : V (Proc.devRef .tc main_v0) = x
  v4 : ∀ r, (V (Proc.devRef .tc main_v4) : S500000.Idx → BitVec 32) (ValueIdx.ix1 r) = bk (x (ValueIdx.ix1 r))
  v17 : ∀ r, (bk (x (ValueIdx.ix1 r))).toNat < 1024 → (V (Proc.devRef .tc main_v17) : S500000.Idx → BitVec 32) (ValueIdx.ix1 r) = entry (n := 1024) g (bk (x (ValueIdx.ix1 r))).toNat
  v20 : ∀ r, (V (Proc.devRef .tc main_v20) : S500000.Idx → BitVec 1) (ValueIdx.ix1 r) = 1#1 ↔ ok2 (n := 1024) g (x (ValueIdx.ix1 r))

variable {x g g' V}

theorem atB (h : AtA x g g' V) : AtB x g g' (after segB V) := by
  have v17 : ∀ r, (bk (x (ValueIdx.ix1 r))).toNat < 1024 → (after segB V (Proc.devRef .tc main_v17) : S500000.Idx → BitVec 32) (ValueIdx.ix1 r) = entry (n := 1024) g (bk (x (ValueIdx.ix1 r))).toNat := by
    intro r hr
    have hv := h.v10 r
    rw [if_pos hr] at hv
    have hw : ∀ e, Scalar.select (IntOp.cmpi .slt ((V (Proc.devRef .tc main_v10) : S500000.Idx → BitVec 32) (ValueIdx.ix1 r)) 0#32) e ((V (Proc.devRef .tc main_v10) : S500000.Idx → BitVec 32) (ValueIdx.ix1 r))
        = bk (x (ValueIdx.ix1 r)) := fun e => by rw [hv]; exact wrap_small _ _ (by decide) hr
    unfold segB; after_results; rw [h.a1]
    refine (take_entry gather_S1024_S500000x1_S500000_n_0_n_n_0_1_1 rfl rfl rfl rfl (by decide) g _ _ r ?_).trans ?_
    · exact lt_of_eq_of_lt (congrArg BitVec.toNat (hw _)) hr
    · exact congrArg (fun b : BitVec 32 => entry (n := 1024) g b.toNat) (hw _)
  refine ⟨(segB_keep V main_arg2).trans h.a2, (segB_keep V main_v0).trans h.v0, fun r => (congrFun (segB_keep V main_v4) (ValueIdx.ix1 r)).trans (h.v4 r), v17, fun r => ?_⟩
  have e : (after segB V (Proc.devRef .tc main_v20) : S500000.Idx → BitVec 1) (ValueIdx.ix1 r)
      = ((show BitVec 1 from (V (Proc.devRef .tc main_v9) : S500000.Idx → BitVec 1) (ValueIdx.ix1 r)) &&& IntOp.cmpi .sge ((after segB V (Proc.devRef .tc main_v17) : S500000.Idx → BitVec 32) (ValueIdx.ix1 r)) 0#32) := by
    unfold segB; after_results; rfl
  rw [e, and_bit, h.v9 r, sge_zero_iff]
  exact and_congr_right fun hr => by rw [v17 r hr]

/-- What holds after the third part. -/
structure AtC (x : S500000.Idx → BitVec 32) (g : S1024.Idx → BitVec 32) (g' : S32768.Idx → BitVec 32) (V : Valuation τ sig (Elt Bits)) : Prop where
  a2 : V (Proc.devRef .tc main_arg2) = g'
  v0 : V (Proc.devRef .tc main_v0) = x
  v4 : ∀ r, (V (Proc.devRef .tc main_v4) : S500000.Idx → BitVec 32) (ValueIdx.ix1 r) = bk (x (ValueIdx.ix1 r))
  v20 : ∀ r, (V (Proc.devRef .tc main_v20) : S500000.Idx → BitVec 1) (ValueIdx.ix1 r) = 1#1 ↔ ok2 (n := 1024) g (x (ValueIdx.ix1 r))
  v28 : ∀ r, (V (Proc.devRef .tc main_v28) : S500000.Idx → BitVec 32) (ValueIdx.ix1 r) = if ok2 (n := 1024) g (x (ValueIdx.ix1 r)) then bin2 (n := 1024) g (x (ValueIdx.ix1 r)) else 4294967295#32
  v29 : ∀ r, (V (Proc.devRef .tc main_v29) : S500000.Idx → BitVec 32) (ValueIdx.ix1 r) = if ok2 (n := 1024) g (x (ValueIdx.ix1 r)) then bin2 (n := 1024) g (x (ValueIdx.ix1 r)) else 0#32

theorem atC (h : AtB x g g' V) : AtC x g g' (after segC V) := by
  have v27 : ∀ r, ok2 (n := 1024) g (x (ValueIdx.ix1 r)) → (after segC V (Proc.devRef .tc main_v27) : S500000.Idx → BitVec 32) (ValueIdx.ix1 r) = bin2 (n := 1024) g (x (ValueIdx.ix1 r)) := by
    intro r hr
    have e : (after segC V (Proc.devRef .tc main_v27) : S500000.Idx → BitVec 32) (ValueIdx.ix1 r)
        = idx2 ((V (Proc.devRef .tc main_v17) : S500000.Idx → BitVec 32) (ValueIdx.ix1 r)) ((V (Proc.devRef .tc main_v0) : S500000.Idx → BitVec 32) (ValueIdx.ix1 r)) := by
      unfold segC; after_results; rfl
    rw [e, h.v17 r hr.1, h.v0]
  have pick : ∀ r b, Scalar.select ((V (Proc.devRef .tc main_v20) : S500000.Idx → BitVec 1) (ValueIdx.ix1 r)) ((after segC V (Proc.devRef .tc main_v27) : S500000.Idx → BitVec 32) (ValueIdx.ix1 r)) b
      = if ok2 (n := 1024) g (x (ValueIdx.ix1 r)) then bin2 (n := 1024) g (x (ValueIdx.ix1 r)) else b := by
    intro r b
    rw [select_prop (h.v20 r)]
    split
    · rename_i hr; exact v27 r hr
    · rfl
  have v28 : ∀ r, (after segC V (Proc.devRef .tc main_v28) : S500000.Idx → BitVec 32) (ValueIdx.ix1 r) = if ok2 (n := 1024) g (x (ValueIdx.ix1 r)) then bin2 (n := 1024) g (x (ValueIdx.ix1 r)) else 4294967295#32 := by
    intro r
    rw [← pick r]
    unfold segC; after_results; rfl
  refine ⟨(segC_keep V main_arg2).trans h.a2, (segC_keep V main_v0).trans h.v0, fun r => (congrFun (segC_keep V main_v4) (ValueIdx.ix1 r)).trans (h.v4 r),
    fun r => by rw [segC_keep V main_v20]; exact h.v20 r, v28, fun r => ?_⟩
  have e : (after segC V (Proc.devRef .tc main_v29) : S500000.Idx → BitVec 32) (ValueIdx.ix1 r)
      = Scalar.select ((V (Proc.devRef .tc main_v20) : S500000.Idx → BitVec 1) (ValueIdx.ix1 r)) ((after segC V (Proc.devRef .tc main_v28) : S500000.Idx → BitVec 32) (ValueIdx.ix1 r)) 0#32 := by
    unfold segC; after_results; rfl
  rw [e, select_prop (h.v20 r), v28 r]
  split <;> rfl

/-- The bins of the second histogram lie in it. -/
theorem bin2_lt (hg : Numbers (n := 1024) g) {w : BitVec 32} (h : ok2 (n := 1024) g w) : (bin2 (n := 1024) g w).toNat < 32768 := by
  have := hg.entry _ h.2
  obtain ⟨e, l⟩ := idx2_lt (w := w) this
  rw [e]; omega

/-- And those of the third. -/
theorem bin3_lt (hg' : Numbers (n := 32768) g') {w : BitVec 32} (h : ok3 (n := 1024) (n' := 32768) g g' w) : (bin3 (n := 1024) (n' := 32768) g g' w).toNat < 2048 := by
  have := hg'.entry _ h.2
  obtain ⟨e, l⟩ := idx3_lt (w := w) this
  rw [e]; omega

/-- What holds after the fourth part. -/
structure AtD (x : S500000.Idx → BitVec 32) (g : S1024.Idx → BitVec 32) (g' : S32768.Idx → BitVec 32) (V : Valuation τ sig (Elt Bits)) : Prop where
  v0 : V (Proc.devRef .tc main_v0) = x
  v4 : ∀ r, (V (Proc.devRef .tc main_v4) : S500000.Idx → BitVec 32) (ValueIdx.ix1 r) = bk (x (ValueIdx.ix1 r))
  v28 : ∀ r, (V (Proc.devRef .tc main_v28) : S500000.Idx → BitVec 32) (ValueIdx.ix1 r) = if ok2 (n := 1024) g (x (ValueIdx.ix1 r)) then bin2 (n := 1024) g (x (ValueIdx.ix1 r)) else 4294967295#32
  v36 : ∀ r, ok2 (n := 1024) g (x (ValueIdx.ix1 r)) → (V (Proc.devRef .tc main_v36) : S500000.Idx → BitVec 32) (ValueIdx.ix1 r) = entry (n := 32768) g' (bin2 (n := 1024) g (x (ValueIdx.ix1 r))).toNat
  v39 : ∀ r, (V (Proc.devRef .tc main_v39) : S500000.Idx → BitVec 1) (ValueIdx.ix1 r) = 1#1 ↔ ok3 (n := 1024) (n' := 32768) g g' (x (ValueIdx.ix1 r))

theorem atD (hg : Numbers (n := 1024) g) (h : AtC x g g' V) : AtD x g g' (after segD V) := by
  have v36 : ∀ r, ok2 (n := 1024) g (x (ValueIdx.ix1 r)) → (after segD V (Proc.devRef .tc main_v36) : S500000.Idx → BitVec 32) (ValueIdx.ix1 r) = entry (n := 32768) g' (bin2 (n := 1024) g (x (ValueIdx.ix1 r))).toNat := by
    intro r hr
    have hv := h.v29 r
    rw [if_pos hr] at hv
    have hw : ∀ e, Scalar.select (IntOp.cmpi .slt ((V (Proc.devRef .tc main_v29) : S500000.Idx → BitVec 32) (ValueIdx.ix1 r)) 0#32) e ((V (Proc.devRef .tc main_v29) : S500000.Idx → BitVec 32) (ValueIdx.ix1 r))
        = bin2 (n := 1024) g (x (ValueIdx.ix1 r)) := fun e => by rw [hv]; exact wrap_small _ _ (by decide) (bin2_lt hg hr)
    unfold segD; after_results; rw [h.a2]
    refine (take_entry gather_S32768_S500000x1_S500000_n_0_n_n_0_1_1 rfl rfl rfl rfl (by decide) g' _ _ r ?_).trans ?_
    · exact lt_of_eq_of_lt (congrArg BitVec.toNat (hw _)) (bin2_lt hg hr)
    · exact congrArg (fun b : BitVec 32 => entry (n := 32768) g' b.toNat) (hw _)
  refine ⟨(segD_keep V main_v0).trans h.v0, fun r => (congrFun (segD_keep V main_v4) (ValueIdx.ix1 r)).trans (h.v4 r), fun r => (congrFun (segD_keep V main_v28) (ValueIdx.ix1 r)).trans (h.v28 r), v36, fun r => ?_⟩
  have e : (after segD V (Proc.devRef .tc main_v39) : S500000.Idx → BitVec 1) (ValueIdx.ix1 r)
      = ((show BitVec 1 from (V (Proc.devRef .tc main_v20) : S500000.Idx → BitVec 1) (ValueIdx.ix1 r)) &&& IntOp.cmpi .sge ((after segD V (Proc.devRef .tc main_v36) : S500000.Idx → BitVec 32) (ValueIdx.ix1 r)) 0#32) := by
    unfold segD; after_results; rfl
  rw [e, and_bit, h.v20 r, sge_zero_iff]
  exact and_congr_right fun hr => by rw [v36 r hr]

/-- What holds after the fifth part: every word's bins, a word that selects none at minus one or above the last. -/
structure AtE (x : S500000.Idx → BitVec 32) (g : S1024.Idx → BitVec 32) (g' : S32768.Idx → BitVec 32) (V : Valuation τ sig (Elt Bits)) : Prop where
  v4 : ∀ r, (V (Proc.devRef .tc main_v4) : S500000.Idx → BitVec 32) (ValueIdx.ix1 r) = bk (x (ValueIdx.ix1 r))
  v28 : ∀ r, (V (Proc.devRef .tc main_v28) : S500000.Idx → BitVec 32) (ValueIdx.ix1 r) = if ok2 (n := 1024) g (x (ValueIdx.ix1 r)) then bin2 (n := 1024) g (x (ValueIdx.ix1 r)) else 4294967295#32
  v45 : ∀ r, (V (Proc.devRef .tc main_v45) : S500000.Idx → BitVec 32) (ValueIdx.ix1 r) = if ok3 (n := 1024) (n' := 32768) g g' (x (ValueIdx.ix1 r)) then bin3 (n := 1024) (n' := 32768) g g' (x (ValueIdx.ix1 r)) else 4294967295#32

theorem atE (h : AtD x g g' V) : AtE x g g' (after segE V) := by
  refine ⟨fun r => (congrFun (segE_keep V main_v4) (ValueIdx.ix1 r)).trans (h.v4 r), fun r => (congrFun (segE_keep V main_v28) (ValueIdx.ix1 r)).trans (h.v28 r), fun r => ?_⟩
  have e : (after segE V (Proc.devRef .tc main_v45) : S500000.Idx → BitVec 32) (ValueIdx.ix1 r)
      = Scalar.select ((V (Proc.devRef .tc main_v39) : S500000.Idx → BitVec 1) (ValueIdx.ix1 r))
          (idx3 ((V (Proc.devRef .tc main_v36) : S500000.Idx → BitVec 32) (ValueIdx.ix1 r)) ((V (Proc.devRef .tc main_v0) : S500000.Idx → BitVec 32) (ValueIdx.ix1 r))) 4294967295#32 := by
    unfold segE; after_results; rfl
  rw [e, select_prop (h.v39 r), h.v0]
  split
  · rename_i hr; rw [h.v36 r hr.1]
  · rfl

/-! ## The counts -/

theorem argWord_ix (r : Fin 500000) : argWord x r.val = x (ValueIdx.ix1 r) := by unfold argWord; exact dif_pos r.isLt

/-- A word against a number: both ways of saying which bin is selected. -/
theorem some_iff {b : BitVec 32} {k : ℕ} (hk : k < 2 ^ 32) : b = BitVec.ofNat 32 k ↔ some b.toNat = some k := by
  constructor
  · intro h; rw [h, BitVec.toNat_ofNat, Nat.mod_eq_of_lt hk]
  · intro h; rw [← Option.some.inj h, BitVec.ofNat_toNat, BitVec.setWidth_eq]

/-- A word that selects nothing, at minus one, matches no bin. -/
theorem pick_iff {p : Prop} [Decidable p] {b : BitVec 32} {k : ℕ} (hk : k < 4294967295) :
    (if p then b else 4294967295#32) = BitVec.ofNat 32 k ↔ (if p then some b.toNat else none) = some k := by
  split
  · exact some_iff (by omega)
  · constructor
    · intro h
      have e : (4294967295#32 : BitVec 32).toNat = (BitVec.ofNat 32 k).toNat := congrArg BitVec.toNat h
      rw [BitVec.toNat_ofNat k, Nat.mod_eq_of_lt (by omega)] at e
      exact absurd e (show (4294967295 : ℕ) ≠ k by omega)
    · intro h; cases h

theorem sel1_iff (w : BitVec 32) {k : ℕ} (hk : k < 1024) : bk w = BitVec.ofNat 32 k ↔ sel1 w = some k := by
  rw [some_iff (by omega)]
  unfold sel1
  constructor
  · intro h; rw [if_pos (by rw [Option.some.inj h]; exact hk), h]
  · intro h
    split at h
    · exact h
    · cases h

/-- The counts of a vector's words by the bin they select. -/
def counts (sel : BitVec 32 → Option ℕ) (nb : ℕ) (x : S500000.Idx → BitVec 32) : (⟨1, ![nb]⟩ : Shape).Idx → BitVec 32 :=
  fun j => BitVec.ofNat 32 (tally sel (argWord x) 0 500000 (j 0).val)

theorem count1 (h : ∀ r, (V (Proc.devRef .tc main_v4) : S500000.Idx → BitVec 32) (ValueIdx.ix1 r) = bk (x (ValueIdx.ix1 r))) : after segF V (Proc.devRef .tc main_v53) = counts sel1 1024 x := by
  funext j
  unfold segF; after_results
  exact sum_matches sel1 (by decide) x (V (Proc.devRef .tc main_v4)) bcast_S500000_S500000x1_0 bcast_S500000x1_S500000x1024_0_1 bcast_S1024_S1x1024_1 bcast_S1x1024_S500000x1024_0_1
    natLt_1_32 reducesTo_S500000x1024_S1024_d0 (by decide) h_S_ _ (fun _ => rfl) (fun r k hk => by rw [h r, argWord_ix]; exact sel1_iff _ hk) j

theorem count2 (h : ∀ r, (V (Proc.devRef .tc main_v28) : S500000.Idx → BitVec 32) (ValueIdx.ix1 r) = if ok2 (n := 1024) g (x (ValueIdx.ix1 r)) then bin2 (n := 1024) g (x (ValueIdx.ix1 r)) else 4294967295#32) :
    after segG V (Proc.devRef .tc main_v61) = counts (sel2 (n := 1024) g) 32768 x := by
  funext j
  unfold segG; after_results
  exact sum_matches (sel2 (n := 1024) g) (by decide) x (V (Proc.devRef .tc main_v28)) bcast_S500000_S500000x1_0 bcast_S500000x1_S500000x32768_0_1 bcast_S32768_S1x32768_1 bcast_S1x32768_S500000x32768_0_1
    natLt_1_32 reducesTo_S500000x32768_S32768_d0 (by decide) h_S_ _ (fun _ => rfl) (fun r k hk => by rw [h r, argWord_ix]; exact pick_iff (by omega)) j

theorem count3 (h : ∀ r, (V (Proc.devRef .tc main_v45) : S500000.Idx → BitVec 32) (ValueIdx.ix1 r)
      = if ok3 (n := 1024) (n' := 32768) g g' (x (ValueIdx.ix1 r)) then bin3 (n := 1024) (n' := 32768) g g' (x (ValueIdx.ix1 r)) else 4294967295#32) :
    after segH V (Proc.devRef .tc main_v69) = counts (sel3 (n := 1024) (n' := 32768) g g') 2048 x := by
  funext j
  unfold segH; after_results
  exact sum_matches (sel3 (n := 1024) (n' := 32768) g g') (by decide) x (V (Proc.devRef .tc main_v45)) bcast_S500000_S500000x1_0 bcast_S500000x1_S500000x2048_0_1 bcast_S2048_S1x2048_1 bcast_S1x2048_S500000x2048_0_1
    natLt_1_32 reducesTo_S500000x2048_S2048_d0 (by decide) h_S_ _ (fun _ => rfl) (fun r k hk => by rw [h r, argWord_ix]; exact pick_iff (by omega)) j

/-- The three results of the reference. -/
theorem results (hg : Numbers (n := 1024) g) (h0 : V (Proc.devRef .tc main_arg0) = x) (h1 : V (Proc.devRef .tc main_arg1) = g) (h2 : V (Proc.devRef .tc main_arg2) = g') :
    after opsR V (Proc.devRef .tc main_v53) = counts sel1 1024 x ∧ after opsR V (Proc.devRef .tc main_v61) = counts (sel2 (n := 1024) g) 32768 x
      ∧ after opsR V (Proc.devRef .tc main_v69) = counts (sel3 (n := 1024) (n' := 32768) g g') 2048 x := by
  have hE : AtE x g g' _ := atE (atD hg (atC (atB (atA x g g' V h0 h1 h2))))
  unfold opsR
  simp only [after_append]
  refine ⟨?_, ?_, ?_⟩
  · rw [segH_keep _ main_v53, segG_keep _ main_v53]
    exact count1 hE.v4
  · rw [segH_keep _ main_v61]
    exact count2 fun r => (congrFun (segF_keep _ main_v28) (ValueIdx.ix1 r)).trans (hE.v28 r)
  · exact count3 fun r => (congrFun (segG_keep _ main_v45) (ValueIdx.ix1 r)).trans ((congrFun (segF_keep _ main_v45) (ValueIdx.ix1 r)).trans (hE.v45 r))

/-- The arguments are unchanged. -/
theorem kept : after opsR V (Proc.devRef .tc main_arg0) = V (Proc.devRef .tc main_arg0) ∧ after opsR V (Proc.devRef .tc main_arg1) = V (Proc.devRef .tc main_arg1)
    ∧ after opsR V (Proc.devRef .tc main_arg2) = V (Proc.devRef .tc main_arg2) := by
  unfold opsR
  simp only [after_append]
  exact ⟨by rw [segH_keep _ main_arg0, segG_keep _ main_arg0, segF_keep _ main_arg0, segE_keep _ main_arg0, segD_keep _ main_arg0, segC_keep _ main_arg0, segB_keep _ main_arg0, segA_keep _ main_arg0],
    by rw [segH_keep _ main_arg1, segG_keep _ main_arg1, segF_keep _ main_arg1, segE_keep _ main_arg1, segD_keep _ main_arg1, segC_keep _ main_arg1, segB_keep _ main_arg1, segA_keep _ main_arg1],
    by rw [segH_keep _ main_arg2, segG_keep _ main_arg2, segF_keep _ main_arg2, segE_keep _ main_arg2, segD_keep _ main_arg2, segC_keep _ main_arg2, segB_keep _ main_arg2, segA_keep _ main_arg2]⟩

end Cert.Proof.Ref

end
-- ==== Proof.Claims.lean ====
/-
  The three claims: the kernel's run and the reference's, each with its arguments unchanged and every counter at zero, and
  the three results of the one equal to those of the other.
-/
module

public import proofs.«01_k».proof.Proof.KernelValue
public import proofs.«01_k».proof.Proof.RefValue
public import proofs.«01_k».proof.Defs
public import Idealize.ShloMosaic.Lib.ReduceAll

@[expose] public section

noncomputable section

namespace Cert.Proof

open Idealize.ShloMosaic Idealize.SL.Sem

/-! ## What the precondition says -/

/-- The precondition's side conditions. -/
theorem preFacts : Cert.Pre_maps_in_range.Facts where
  bcast_S_S1024 := by decide
  reducesTo_S1024_S_d0 := by decide
  h_S_ := by decide
  bcast_S_S32768 := by decide
  reducesTo_S32768_S_d0 := by decide

/-- A word that is below 32 as a signed number and not negative is below 32. -/
theorem lt_32 (w : BitVec 32) (h : IntOp.cmpi .slt w 32#32 = 1#1) (h0 : nonneg w) : w.toNat < 32 :=
  (in_range_iff w 32 (by decide)).1 ((and_bit _ _).2 ⟨(sge_zero_iff w).2 h0, h⟩)

/-- The precondition gives the numbers of both maps. -/
theorem numbers [Cert.Pre_maps_in_range.Facts] (x : Cert.Pre_maps_in_range.S500000.Idx → BitVec 32) (g : Cert.Pre_maps_in_range.S1024.Idx → BitVec 32) (g' : Cert.Pre_maps_in_range.S32768.Idx → BitVec 32)
    (h : Cert.Pre_maps_in_range.fn (F := Bits) x g g' = fun _ => 1#1) : Numbers (n := 1024) g ∧ Numbers (n := 32768) g' := by
  have e := (and_bit _ _).1 (congrFun h (fun a => a.elim0))
  haveI : Subsingleton Cert.Pre_maps_in_range.S_.Idx := ⟨fun a b => funext fun i => i.elim0⟩
  exact ⟨fun j => lt_32 _ (Host.reduce_andi_all _ _ _ _ _ e.1 j), fun j => lt_32 _ (Host.reduce_andi_all _ _ _ _ _ e.2 j)⟩

/-! ## The kernel's run -/

section Kernel
open Cert.Kernel

theorem mem_uc (b : Ref sig .tc) (h : Proc.devRef (τ := τ) .tc b ∈ Pipeline.ucRefs τ sig := by decide) : Proc.devRef (τ := τ) .tc b ∈ Pipeline.ucRefs τ sig := h

variable (m : (ℓ : Loc nD τ sig) → Buf (Elt Bits) ℓ) (ρ : Dev nD → PrngReg)

theorem mapsOk_of [Cert.Pre_maps_in_range.Facts] (h : Cert.Pre_Kernel m) : MapsOk m :=
  mapsOk m (fun d => (numbers _ _ _ (h d)).1) (fun d => (numbers _ _ _ (h d)).2)

/-- The arguments are as at the launch where the run leaves off. -/
theorem args_kept {σ : (ℓ : Loc nD τ sig) → Buf (Elt Bits) ℓ} (h : ∀ d, ∀ b ∈ Pipeline.ucRefs τ sig, σ (d, b) = V4 m d b) (c : Dev nD) :
    σ ((c.tc : Thread nD τ).loc main_arg0) = m ((c.tc : Thread nD τ).loc main_arg0) ∧ σ ((c.tc : Thread nD τ).loc main_arg1) = m ((c.tc : Thread nD τ).loc main_arg1)
      ∧ σ ((c.tc : Thread nD τ).loc main_arg2) = m ((c.tc : Thread nD τ).loc main_arg2) :=
  ⟨(h c _ (mem_uc main_arg0)).trans (V4_arg0 m c), (h c _ (mem_uc main_arg1)).trans (V4_arg1 m c), (h c _ (mem_uc main_arg2)).trans (V4_arg2 m c)⟩

/-- The kernel runs, keeps its arguments, and leaves every semaphore at zero. -/
theorem frame_kernel [Cert.Pre_maps_in_range.Facts] : Cert.quiescent_Kernel := fun m ρ hp =>
  (θ_run defs _ _).mono (fun _ h => ⟨args_kept m h.1, h.2⟩) (run_main (F := Bits) m ρ (mapsOk_of m hp))

end Kernel

/-! ## The reference's run -/

section Reference
open Cert.Reference

variable (m : (ℓ : Loc nD τ sig) → Buf (Elt Bits) ℓ) (ρ : Dev nD → PrngReg)

/-- The reference's run leaves what its lines compute. -/
theorem run_reference : θ_run (defs (F := Bits)) (onTc (τ := τ) (main (F := Bits))) ⟨m, fun _ => 0, ρ⟩ fun r => ∀ (c : Dev nD) (b : Ref sig .tc),
    r.2.mem ((c.tc : Thread nD τ).loc b) = StableHlo.after Ref.opsR (fun b => m (c, b)) (Proc.devRef .tc b) :=
  StableHlo.run_seq Ref.scopedRefsR Ref.scopedSemsR defs main (fun _ => Ref.opsR) Ref.mainR_eq (fun _ => Ref.opsR_sub) m ρ

theorem argsR_kept {σ : (ℓ : Loc nD τ sig) → Buf (Elt Bits) ℓ}
    (h : ∀ (c : Dev nD) (b : Ref sig .tc), σ ((c.tc : Thread nD τ).loc b) = StableHlo.after Ref.opsR (fun b => m (c, b)) (Proc.devRef .tc b)) (c : Dev nD) :
    σ ((c.tc : Thread nD τ).loc main_arg0) = m ((c.tc : Thread nD τ).loc main_arg0) ∧ σ ((c.tc : Thread nD τ).loc main_arg1) = m ((c.tc : Thread nD τ).loc main_arg1)
      ∧ σ ((c.tc : Thread nD τ).loc main_arg2) = m ((c.tc : Thread nD τ).loc main_arg2) :=
  ⟨(h c main_arg0).trans Ref.kept.1, (h c main_arg1).trans Ref.kept.2.1, (h c main_arg2).trans Ref.kept.2.2⟩

/-- The reference runs, keeps its arguments, and has no semaphore. -/
theorem frame_reference [Cert.Pre_maps_in_range.Facts] : Cert.quiescent_Reference := fun m ρ _ =>
  (θ_run defs _ _).mono (fun r h => ⟨argsR_kept m h, sem_eq_zero_of_no_sems (by decide) r.2⟩) (run_reference m ρ)

end Reference

/-! ## The results -/

/-- The kernel's results are the reference's, bit for bit. -/
theorem bitexact [Cert.Pre_maps_in_range.Facts] : Cert.bitexact_Kernel_Reference := by
  intro m ρ m' ρ' hp hm
  refine ⟨fun c => counts sel1 1024 (arg0 m c), fun c => counts (sel2 (n := 1024) (arg1 m c)) 32768 (arg0 m c),
    fun c => counts (sel3 (n := 1024) (n' := 32768) (arg1 m c) (arg2 m c)) 2048 (arg0 m c), ?_, ?_⟩
  · exact (θ_run Cert.Kernel.defs _ _).mono (fun _ h c => ⟨(h.1 c _ (mem_uc Cert.Kernel.main_v4)).trans (result1 m c), (h.1 c _ (mem_uc Cert.Kernel.main_v7)).trans (result2 m c),
      (h.1 c _ (mem_uc Cert.Kernel.main_v10)).trans (result3 m c), args_kept m h.1 c⟩) (run_main (F := Bits) m ρ (mapsOk_of m hp))
  · refine (θ_run Cert.Reference.defs _ _).mono (fun _ h c => ?_) (run_reference m' ρ')
    obtain ⟨e1, e2, e3⟩ := Ref.results (V := fun b => m' (c, b)) (numbers _ _ _ (hp c)).1 (hm c).1 (hm c).2.1 (hm c).2.2
    exact ⟨(h c _).trans e1, (h c _).trans e2, (h c _).trans e3, argsR_kept m' h c⟩

end Cert.Proof

end
-- ==== Proof.EceSteps.lean ====
/-
  What one grid point of the closing call leaves: the three rows of totals the call carries from point to point, and,
  at the last point, its result.
-/
module

public import proofs.«01_k».proof.Proof.Gen.EceIdeal.Value
public import Idealize.ShloMosaic.Lib.Pipeline.Value
public import Idealize.ShloMosaic.Lib.Pipeline.ValueKit.Tiles
public import Idealize.ShloMosaic.Lib.Pipeline.CanonAppend
public import Idealize.ShloMosaic.Lib.Tactic

@[expose] public section

noncomputable section

namespace Cert.EceIdeal.Steps

open Idealize.ShloMosaic Idealize.ShloMosaic.TcCoe Idealize.SL.Sem
open Cert.EceIdeal Cert.EceIdeal.Gen

variable {F : FTy → Type} [FloatOps F]

theorem hz : (![0, 0] : Fin 2 → Nat) = fun _ => 0 := funext fun a => by fin_cases a <;> rfl

/-- Column `j` of a one-row array. -/
abbrev col (j : Fin 16) : S1x16.Idx := fun a => match a with
  | ⟨0, _⟩ => (0 : Fin 1)
  | ⟨1, _⟩ => j

/-- Row `k`, column `j` of the totals. -/
abbrev cell (k : Fin 3) (j : Fin 16) : S3x16.Idx := fun a => match a with
  | ⟨0, _⟩ => k
  | ⟨1, _⟩ => j

/-- Row `k` of the totals, as a one-row array. -/
def rowOf (k : Fin 3) (xs : Vec F S3x16 .f32) : Vec F S1x16 .f32 := fun y => xs (cell k (y 1))

/-- The totals after a block of confidences `x0`, correctness `x1` and edges `x2`, from the totals `xs` before it. -/
def step (x0 x1 : Vec F S4000x1 .f32) (x2 : Vec F S1x16 .f32) (xs : Vec F S3x16 .f32) : Vec F S3x16 .f32 := fun y =>
  match (show Fin 3 from y 0) with
  | 0 => k0_pay4 x0 x2 (rowOf 0 xs) (col (y 1))
  | 1 => k0_pay5 x0 x2 (rowOf 1 xs) (col (y 1))
  | 2 => k0_pay6 x0 x1 x2 (rowOf 2 xs) (col (y 1))

theorem ld_row (k : Fin 3) (off : Fin 2 → Nat) (ho : off = ![k.val, 0]) (inb : ∀ a, off a + S1x16.size a ≤ S3x16.size a)
    (xs : Vec F S3x16 .f32) : (View.ld xs (Rect.unit (s := S3x16) off S1x16.size inb) : Vec F S1x16 .f32) = rowOf k xs := by
  subst ho
  funext y
  refine View.ld_unit_apply_of (S := S3x16) xs _ _ inb y (cell k (y 1)) fun a => ?_
  match a with
  | ⟨0, _⟩ =>
    have h : (y 0 : Fin 1).val < 1 := (y 0 : Fin 1).isLt
    show k.val = k.val + (y 0 : Fin 1).val
    omega
  | ⟨1, _⟩ => exact (Nat.zero_add _).symm

theorem step_emb (k : Fin 3) (off : Fin 2 → Nat) (ho : off = ![k.val, 0]) (inb : ∀ a, off a + S1x16.size a ≤ S3x16.size a)
    (y : S1x16.Idx) : (Rect.unit (s := S3x16) off S1x16.size inb).emb y = cell k (y 1) := by
  subst ho
  funext a
  apply Fin.ext
  refine (Rect.idx_unit_val _ _ inb y a).trans ?_
  match a with
  | ⟨0, _⟩ =>
    have h : (y 0 : Fin 1).val < 1 := (y 0 : Fin 1).isLt
    show k.val + (y 0 : Fin 1).val = k.val
    omega
  | ⟨1, _⟩ => exact Nat.zero_add _

theorem col_eq (y : S1x16.Idx) : col (y 1) = y := by
  funext a
  match a with
  | ⟨0, _⟩ => exact Subsingleton.elim (α := Fin 1) _ _
  | ⟨1, _⟩ => rfl

/-- Rows stored one after another, each the next step's row, agree with the next step. -/
theorem pieces_step (x0 x1 : Vec F S4000x1 .f32) (x2 : Vec F S1x16 .f32) (xs : Vec F S3x16 .f32)
    (i0 : ∀ a, (![0, 0] : Fin 2 → Nat) a + S1x16.size a ≤ S3x16.size a)
    (i1 : ∀ a, (![1, 0] : Fin 2 → Nat) a + S1x16.size a ≤ S3x16.size a)
    (i2 : ∀ a, (![2, 0] : Fin 2 → Nat) a + S1x16.size a ≤ S3x16.size a)
    (u0 u1 : Vec F S4000x1 .f32) (u2 : Vec F S1x16 .f32) (r0 r1 r2 : Vec F S1x16 .f32)
    (e0 : u0 = x0) (e1 : u1 = x1) (e2 : u2 = x2) (s0 : r0 = rowOf 0 xs) (s1 : r1 = rowOf 1 xs) (s2 : r2 = rowOf 2 xs) :
    ∀ p ∈ [(⟨Rect.unit (s := S3x16) ![2, 0] S1x16.size i2, k0_pay6 u0 u1 u2 r2⟩ : View.Piece (Elt F) S3x16 .f32),
        ⟨Rect.unit (s := S3x16) ![1, 0] S1x16.size i1, k0_pay5 u0 u2 r1⟩,
        ⟨Rect.unit (s := S3x16) ![0, 0] S1x16.size i0, k0_pay4 u0 u2 r0⟩],
      ∀ x : p.1.shape.Idx, p.2 x = step x0 x1 x2 xs (p.1.emb x) := by
  subst e0 e1 e2 s0 s1 s2
  intro p hp
  rw [List.mem_cons, List.mem_cons, List.mem_singleton] at hp
  rcases hp with rfl | rfl | rfl
  · exact fun y => (congrArg _ (col_eq y).symm).trans (congrArg (step u0 u1 u2 xs) (step_emb 2 _ rfl i2 y).symm)
  · exact fun y => (congrArg _ (col_eq y).symm).trans (congrArg (step u0 u1 u2 xs) (step_emb 1 _ rfl i1 y).symm)
  · exact fun y => (congrArg _ (col_eq y).symm).trans (congrArg (step u0 u1 u2 xs) (step_emb 0 _ rfl i0 y).symm)

/-- Row `k`'s cell lies in a row's rectangle exactly when the row is `k`. -/
theorem cell_mem (k k' : Fin 3) (j : Fin 16) (off : Fin 2 → Nat) (ho : off = ![k'.val, 0])
    (inb : ∀ a, off a + S1x16.size a ≤ S3x16.size a) :
    cell k j ∈ (Rect.unit (s := S3x16) off S1x16.size inb).set ↔ k = k' := by
  subst ho
  rw [Rect.mem_set_unit]
  constructor
  · intro h
    have h0 : k'.val ≤ k.val ∧ k.val < k'.val + 1 := h 0
    exact Fin.ext (by omega)
  · rintro rfl a
    match a with
    | ⟨0, _⟩ => exact ⟨le_refl k.val, Nat.lt_succ_self k.val⟩
    | ⟨1, _⟩ => exact ⟨Nat.zero_le _, (Nat.zero_add _).symm ▸ j.isLt⟩

theorem cell_eq (y : S3x16.Idx) : cell (y 0) (y 1) = y := by
  funext a
  match a with
  | ⟨0, _⟩ => rfl
  | ⟨1, _⟩ => rfl

/-- The three rows cover the totals. -/
theorem rows_cover (i0 : ∀ a, (![0, 0] : Fin 2 → Nat) a + S1x16.size a ≤ S3x16.size a)
    (i1 : ∀ a, (![1, 0] : Fin 2 → Nat) a + S1x16.size a ≤ S3x16.size a)
    (i2 : ∀ a, (![2, 0] : Fin 2 → Nat) a + S1x16.size a ≤ S3x16.size a) (w0 w1 w2 : Vec F S1x16 .f32) :
    ∀ y : S3x16.Idx,
    ∃ p ∈ [(⟨Rect.unit (s := S3x16) ![2, 0] S1x16.size i2, w2⟩ : View.Piece (Elt F) S3x16 .f32),
        ⟨Rect.unit (s := S3x16) ![1, 0] S1x16.size i1, w1⟩, ⟨Rect.unit (s := S3x16) ![0, 0] S1x16.size i0, w0⟩],
      y ∈ p.1.set := by
  intro y
  rw [← cell_eq y]
  generalize h0 : (y 0 : S3x16.Coord 0) = k
  generalize (y 1 : S3x16.Coord 1) = j
  match k with
  | (0 : Fin 3) => exact ⟨_, List.mem_cons_of_mem _ (List.mem_cons_of_mem _ List.mem_cons_self), (cell_mem 0 0 j _ rfl i0).mpr rfl⟩
  | (1 : Fin 3) => exact ⟨_, List.mem_cons_of_mem _ List.mem_cons_self, (cell_mem 1 1 j _ rfl i1).mpr rfl⟩
  | (2 : Fin 3) => exact ⟨_, List.mem_cons_self, (cell_mem 2 2 j _ rfl i2).mpr rfl⟩

/-- A row read back after stores to other rows. -/
theorem readCov_row {sp : Space} (v : View sig .tc sp S3x16 .f32) (L : List (View.Piece (Elt F) S3x16 .f32)) (k : Fin 3)
    (off : Fin 2 → Nat) (ho : off = ![k.val, 0]) (inb : ∀ a, off a + S1x16.size a ≤ S3x16.size a) (G : Vec F S3x16 .f32)
    (hG : ∀ j, View.canon L (cell k j) = G (cell k j)) :
    (v.readCov L (Rect.unit (s := S3x16) off S1x16.size inb).toLoadRect : Vec F S1x16 .f32) = rowOf k G := by
  rw [View.readCov_eq_canon']
  funext y
  exact (congrArg (View.canon L) (step_emb k off ho inb y)).trans (hG (y 1))

theorem canon_skip (L : List (View.Piece (Elt F) S3x16 .f32)) (k k' : Fin 3) (h : k ≠ k') (j : Fin 16) (off : Fin 2 → Nat)
    (ho : off = ![k'.val, 0]) (inb : ∀ a, off a + S1x16.size a ≤ S3x16.size a) (w : Vec F S1x16 .f32) :
    View.canon ((⟨Rect.unit (s := S3x16) off S1x16.size inb, w⟩ : View.Piece (Elt F) S3x16 .f32) :: L) (cell k j)
      = View.canon L (cell k j) :=
  View.canon_cons_of_not_mem _ _ fun hm => h ((cell_mem k k' j off ho inb).mp hm)

/-- A middle point adds its block to the totals. -/
theorem sout_B (c : Dev nD) (i : grid0.Coords)
    (a1 : Memref sig .tc .vmem S4000x1 .f32) (h1 : a1.IsWhole) (a2 : Memref sig .tc .vmem S4000x1 .f32) (h2 : a2.IsWhole)
    (a3 : Memref sig .tc .vmem S1x16 .f32) (h3 : a3.IsWhole) (a4 : Memref sig .tc .vmem S1x1 .f32) (h4 : a4.IsWhole)
    (a5 : Memref sig .tc .vmem S3x16 .f32) (h5 : a5.IsWhole) (hc0 : ¬cond0_0 i) (hc1 : ¬cond0_1 i)
    (x0 x1 : Vec F S4000x1 .f32) (x2 : Vec F S1x16 .f32) (xs : Vec F S3x16 .f32) :
    sout0_B_0 c i a1 h1 a2 h2 a3 h3 a4 h4 a5 h5 hc0 hc1 x0 x1 x2 xs = step x0 x1 x2 xs := by
  funext y
  unfold sout0_B_0
  rw [View.read_writes_eq_canon _ _ _ (scover0_B_0 c i a1 h1 a2 h2 a3 h3 a4 h4 a5 h5 hc0 hc1 x0 x1 x2 xs)]
  refine View.canon_apply_of_pieces (step x0 x1 x2 xs) _ ?_ y (scover0_B_0 c i a1 h1 a2 h2 a3 h3 a4 h4 a5 h5 hc0 hc1 x0 x1 x2 xs y)
  unfold kernelRun0_B
  dsimp only
  sl_unfold_words
  simp only [View.readAt_eq_ld, h1.read_unread, h2.read_unread, h3.read_unread, h5.read_unread]
  exact pieces_step x0 x1 x2 xs _ _ _ _ _ _ _ _ _ (View.ld_unit_zero (S := S4000x1) hz _ x0) (View.ld_unit_zero (S := S4000x1) hz _ x1)
    (View.ld_unit_zero (S := S1x16) hz _ x2) (ld_row 0 _ rfl _ xs) (ld_row 1 _ rfl _ xs) (ld_row 2 _ rfl _ xs)

/-- The first point sets the totals to zero and adds its block to them. -/
theorem sout_A (c : Dev nD) (i : grid0.Coords)
    (a1 : Memref sig .tc .vmem S4000x1 .f32) (h1 : a1.IsWhole) (a2 : Memref sig .tc .vmem S4000x1 .f32) (h2 : a2.IsWhole)
    (a3 : Memref sig .tc .vmem S1x16 .f32) (h3 : a3.IsWhole) (a4 : Memref sig .tc .vmem S1x1 .f32) (h4 : a4.IsWhole)
    (a5 : Memref sig .tc .vmem S3x16 .f32) (h5 : a5.IsWhole) (hc0 : cond0_0 i) (hc1 : ¬cond0_1 i)
    (x0 x1 : Vec F S4000x1 .f32) (x2 : Vec F S1x16 .f32) :
    sout0_A_0 c i a1 h1 a2 h2 a3 h3 a4 h4 a5 h5 hc0 hc1 x0 x1 x2 = step x0 x1 x2 (k0_pay2 (F := F)) := by
  funext y
  unfold sout0_A_0
  rw [View.read_writes_eq_canon _ _ _ (scover0_A_0 c i a1 h1 a2 h2 a3 h3 a4 h4 a5 h5 hc0 hc1 x0 x1 x2)]
  unfold kernelRun0_A
  dsimp only
  sl_unfold_words
  simp only [View.readAt_eq_ld, h1.read_unread, h2.read_unread, h3.read_unread]
  refine View.canon_append_of_pieces (step x0 x1 x2 (k0_pay2 (F := F))) [⟨Rect.unit (s := S3x16) ![0, 0] S3x16.size inb_S3x16_S3x16_0_0, k0_pay2⟩] [_, _, _]
    (pieces_step x0 x1 x2 (k0_pay2 (F := F)) _ _ _ _ _ _ _ _ _
      (View.ld_unit_zero (S := S4000x1) hz _ x0) (View.ld_unit_zero (S := S4000x1) hz _ x1) (View.ld_unit_zero (S := S1x16) hz _ x2)
      (readCov_row _ _ 0 _ rfl _ _ fun j => ?_) (readCov_row _ _ 1 _ rfl _ _ fun j => ?_) (readCov_row _ _ 2 _ rfl _ _ fun j => ?_))
    y (rows_cover _ _ _ _ _ _ y)
  · rw [View.canon_unit_zero (S := S3x16) hz]
  · exact (canon_skip _ 1 0 (by decide) j _ rfl _ _).trans (congrFun (View.canon_unit_zero (S := S3x16) hz _ _) _)
  · exact (canon_skip _ 2 1 (by decide) j _ rfl _ _).trans
      ((canon_skip _ 2 0 (by decide) j _ rfl _ _).trans (congrFun (View.canon_unit_zero (S := S3x16) hz _ _) _))

/-- The last point's result, from the totals before it. -/
theorem out_C (c : Dev nD) (i : grid0.Coords)
    (a1 : Memref sig .tc .vmem S4000x1 .f32) (h1 : a1.IsWhole) (a2 : Memref sig .tc .vmem S4000x1 .f32) (h2 : a2.IsWhole)
    (a3 : Memref sig .tc .vmem S1x16 .f32) (h3 : a3.IsWhole) (a4 : Memref sig .tc .vmem S1x1 .f32) (h4 : a4.IsWhole)
    (a5 : Memref sig .tc .vmem S3x16 .f32) (h5 : a5.IsWhole) (hc0 : ¬cond0_0 i) (hc1 : cond0_1 i)
    (x0 x1 : Vec F S4000x1 .f32) (x2 : Vec F S1x16 .f32) (xs : Vec F S3x16 .f32) :
    out0_C_3 c i a1 h1 a2 h2 a3 h3 a4 h4 a5 h5 hc0 hc1 x0 x1 x2 xs = k0_pay1 (step x0 x1 x2 xs) := by
  unfold out0_C_3
  rw [View.read_writes_eq_canon _ _ _ (cover0_C_3 c i a1 h1 a2 h2 a3 h3 a4 h4 a5 h5 hc0 hc1 x0 x1 x2 xs)]
  unfold kernelRun0_C
  dsimp only
  sl_unfold_words
  simp only [View.readAt_eq_ld, h1.read_unread, h2.read_unread, h3.read_unread, h5.read_unread]
  refine (View.canon_unit_zero (S := S1x1) hz _ _).trans (congrArg k0_pay1 ?_)
  rw [View.readCov_eq_canon']
  refine (View.ld_unit_zero (S := S3x16) hz _ _).trans ?_
  funext y
  exact View.canon_apply_of_pieces (step x0 x1 x2 xs) _
    (pieces_step x0 x1 x2 xs _ _ _ _ _ _ _ _ _ (View.ld_unit_zero (S := S4000x1) hz _ x0) (View.ld_unit_zero (S := S4000x1) hz _ x1)
      (View.ld_unit_zero (S := S1x16) hz _ x2) (ld_row 0 _ rfl _ xs) (ld_row 1 _ rfl _ xs) (ld_row 2 _ rfl _ xs))
    y (rows_cover _ _ _ _ _ _ y)

end Cert.EceIdeal.Steps

end
-- ==== Proof.EceFold.lean ====
/-
  What the closing call leaves, over the extended reals: the three totals of every bin edge, summed over all 125 blocks,
  and the result read off them.
-/
module

public import proofs.«01_k».proof.Proof.EceSteps
public import Idealize.ShloMosaic.Lib.Pointwise

@[expose] public section

set_option maxRecDepth 16384

noncomputable section

namespace Cert.EceIdeal.Fold

open Idealize.ShloMosaic Idealize.ShloMosaic.TcCoe Idealize.SL.Sem
open Cert.EceIdeal Cert.EceIdeal.Gen

/-- One where the condition holds, zero elsewhere. -/
def ind (p : Prop) [Decidable p] : EReal := if p then 1 else 0

theorem sitofp_ind (p : Prop) [Decidable p] :
    (FloatOps.sitofp .f32 (BitVec.setWidth 32 (BitVec.ofBool (decide p))) : Ideal .f32) = ind p := by
  unfold ind
  by_cases h : p
  · simp only [h, decide_true, if_true]
    exact (congrArg (fun z : ℤ => ((z : ℝ) : EReal)) (by decide : (BitVec.setWidth 32 (BitVec.ofBool true)).toInt = 1)).trans (by simp)
  · simp only [h, decide_false, if_false]
    exact (congrArg (fun z : ℤ => ((z : ℝ) : EReal)) (by decide : (BitVec.setWidth 32 (BitVec.ofBool false)).toInt = 0)).trans (by simp)

theorem uitofp_ind (p q : Prop) [Decidable p] [Decidable q] :
    (FloatOps.uitofp .f32 (IntOp.andi (BitVec.ofBool (decide p)) (BitVec.ofBool (decide q))) : Ideal .f32) = ind (p ∧ q) := by
  unfold ind
  have e : ∀ (b : BitVec 1) (n : ℕ), b.toNat = n → (FloatOps.uitofp .f32 b : Ideal .f32) = ((n : ℝ) : EReal) := by
    rintro b _ rfl
    rfl
  by_cases h : p <;> by_cases h' : q <;> simp only [h, h', decide_true, decide_false, and_self, and_true, and_false, if_true, if_false]
  · exact (e _ 1 (by decide)).trans (by simp)
  all_goals exact (e _ 0 (by decide)).trans (by simp)

section Block

variable (x0 x1 : Vec Ideal S4000x1 .f32) (x2 v : Vec Ideal S1x16 .f32) (j : Fin 16)

theorem pay4_at : k0_pay4 (F := Ideal) x0 x2 v (ix2 0 j) = v (ix2 0 j) + ∑ r : Fin 4000, ind (x2 (ix2 0 j) < x0 (ix2 r 0)) := by
  pointwise [k0_pay4, k0_pay3]
  simp only [sitofp_ind]

theorem pay5_at : k0_pay5 (F := Ideal) x0 x2 v (ix2 0 j)
    = v (ix2 0 j) + ∑ r : Fin 4000, x0 (ix2 r 0) * ind (x2 (ix2 0 j) < x0 (ix2 r 0)) := by
  pointwise [k0_pay5, k0_pay3]
  simp only [sitofp_ind]

theorem pay6_at : k0_pay6 (F := Ideal) x0 x1 x2 v (ix2 0 j)
    = v (ix2 0 j) + ∑ r : Fin 4000, x1 (ix2 r 0) * ind (x2 (ix2 0 j) < x0 (ix2 r 0)) := by
  pointwise [k0_pay6, k0_pay3]
  simp only [sitofp_ind]

theorem pay2_at (k : Fin 3) : k0_pay2 (F := Ideal) (ix2 k j) = 0 := by
  pointwise [k0_pay2]

end Block

/-- One bin's share of the result, from its count `n`, its sum of confidences `s` and its number of correct entries `a`. -/
def share (n s a : EReal) : EReal :=
  if 0 < Ideal.div n (Ideal.ofBits .f32 0x48F42400#32) then
    FloatOps.absf (F := Ideal) (φ := .f32) (Ideal.div s (max n 1) - min (Ideal.ofBits .f32 0x3F7D70A4#32)
        (max (Ideal.ofBits .f32 0x3C23D70A#32) (Ideal.div a (max n 1))))
      * Ideal.div n (Ideal.ofBits .f32 0x48F42400#32)
  else 0

theorem pay1_at (x : Vec Ideal S3x16 .f32) (j : S1x1.Idx) : k0_pay1 (F := Ideal) x j
    = ∑ b : Fin 15, share (x (ix2 0 b.castSucc) - x (ix2 0 b.succ)) (x (ix2 1 b.castSucc) - x (ix2 1 b.succ))
        (x (ix2 2 b.castSucc) - x (ix2 2 b.succ)) := by
  have hs : ∀ (b : Fin 15) (h : 1 + b.val < 16), (⟨1 + b.val, h⟩ : Fin 16) = b.succ := fun b _ => Fin.ext (Nat.add_comm _ _)
  pointwise [k0_pay1]
  rw [Fin.sum_univ_one]
  refine Finset.sum_congr rfl fun b _ => ?_
  simp only [hs]
  rfl

/-! ### The totals, point by point -/

variable (m : (ℓ : Loc nD τ sig) → Buf (Elt Ideal) ℓ) (c : Dev nD)

/-- The totals after point `n`. -/
def tot : (n : ℕ) → n < cfg0.N → Vec Ideal S3x16 .f32
  | 0, h => Steps.step (iblk m c 0 ⟨0, h⟩) (iblk m c 1 ⟨0, h⟩) (iblk m c 2 ⟨0, h⟩) (k0_pay2 (F := Ideal))
  | n + 1, h => Steps.step (iblk m c 0 ⟨n + 1, h⟩) (iblk m c 1 ⟨n + 1, h⟩) (iblk m c 2 ⟨n + 1, h⟩) (tot n (Nat.lt_of_succ_lt h))

/-- Up to the last point but one, the carried totals are these. -/
theorem carried_eq : ∀ (n : ℕ) (h : n < cfg0.N), n < 124 → (outsAt0 m c n h).2 = tot m c n h
  | 0, h, _ => by
    rw [outsAt0_A m c ⟨0, h⟩ rfl (by dsimp only; omega)]
    dsimp only
    exact Steps.sout_A (F := Ideal) ..
  | n + 1, h, hn => by
    rw [outsAt0_B m c ⟨n + 1, h⟩ (by dsimp only; omega) (by dsimp only; omega)]
    dsimp only
    refine (Steps.sout_B ..).trans ?_
    exact congrArg (Steps.step _ _ _) (carried_eq n _ (Nat.lt_of_succ_lt hn))

/-- The call's result is read off the totals after the last point. -/
theorem G3_eq : Value.G3 m c = k0_pay1 (F := Ideal) (tot m c 124 (by rw [show cfg0.N = 125 from N_0]; decide)) := by
  have h : 124 < cfg0.N := by rw [show cfg0.N = 125 from N_0]; decide
  rw [Value.G3_last]
  refine (congrArg Prod.fst (Value.outsAt0_sweep m c 124 h).symm).trans ?_
  rw [outsAt0_C m c ⟨124, h⟩ (by dsimp only; omega) (by dsimp only)]
  dsimp only
  refine (Steps.out_C ..).trans ?_
  exact congrArg (fun z => k0_pay1 (Steps.step _ _ _ z)) (carried_eq m c 123 _ (by decide))

/-! ### A block read off the argument arrays -/

/-- Entry `n` of a column of 500000 entries. -/
def nth (x : Vec Ideal S500000x1 .f32) (n : ℕ) : EReal := if h : n < 500000 then x (ix2 ⟨n, h⟩ 0) else 0

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 := by decide +kernel

theorem block0_at (t : Fin cfg0.N) (r : Fin 4000) :
    (show Vec Ideal S4000x1 .f32 from iblk m c 0 t) (ix2 r 0) = nth (m ((c : Thread nD τ).loc main_arg0)) (4000 * t.val + r.val) := by
  have ht : t.val < 125 := lt_of_lt_of_eq t.isLt N_0
  have hi := index0 t
  unfold nth
  rw [dif_pos (by omega)]
  show View.read (Elt Ideal) ((cfg0.win 0).blk t).view (V m c main_arg0) (ix2 r 0) = _
  rw [View.read_apply, V_main_arg0]
  refine congrArg (m ((c : Thread nD τ).loc main_arg0)) (funext fun a => Fin.ext ?_)
  match a with
  | ⟨0, _⟩ => show win0_0.index t 0 * 4000 + 1 * r.val = 4000 * t.val + r.val; rw [hi.1]; omega
  | ⟨1, _⟩ => show win0_0.index t 1 * 1 + 1 * 0 = 0; rw [hi.2]

theorem block1_at (t : Fin cfg0.N) (r : Fin 4000) :
    (show Vec Ideal S4000x1 .f32 from iblk m c 1 t) (ix2 r 0) = nth (m ((c : Thread nD τ).loc main_arg1)) (4000 * t.val + r.val) := by
  have ht : t.val < 125 := lt_of_lt_of_eq t.isLt N_0
  have hi := index1 t
  unfold nth
  rw [dif_pos (by omega)]
  show View.read (Elt Ideal) ((cfg0.win 1).blk t).view (V m c main_arg1) (ix2 r 0) = _
  rw [View.read_apply, V_main_arg1]
  refine congrArg (m ((c : Thread nD τ).loc main_arg1)) (funext fun a => Fin.ext ?_)
  match a with
  | ⟨0, _⟩ => show win0_1.index t 0 * 4000 + 1 * r.val = 4000 * t.val + r.val; rw [hi.1]; omega
  | ⟨1, _⟩ => show win0_1.index t 1 * 1 + 1 * 0 = 0; rw [hi.2]

/-- The call is handed the edges as one row. -/
theorem edges_row : V m c main_v0 = shapeCast S1x16 (show Vec Ideal S16 .f32 from m ((c : Thread nD τ).loc main_arg2)) shapeCasts_S16_S1x16 := by
  unfold V hostOps0
  after_results
  rfl

theorem block2_at (t : Fin cfg0.N) (j : Fin 16) :
    (show Vec Ideal S1x16 .f32 from iblk m c 2 t) (ix2 0 j) = (show Vec Ideal S16 .f32 from m ((c : Thread nD τ).loc main_arg2)) (ix1 j) := by
  have hi := index2 t
  show View.read (Elt Ideal) ((cfg0.win 2).blk t).view (V m c main_v0) (ix2 0 j) = _
  rw [View.read_apply, edges_row]
  refine Eq.trans (congrArg (shapeCast S1x16 (show Vec Ideal S16 .f32 from m ((c : Thread nD τ).loc main_arg2)) shapeCasts_S16_S1x16)
    (show _ = ix2 0 j from funext fun a => Fin.ext ?_)) ?_
  · match a with
    | ⟨0, _⟩ => show win0_2.index t 0 * 1 + 1 * 0 = 0; rw [hi.1]
    | ⟨1, _⟩ => show win0_2.index t 1 * 16 + 1 * j.val = j.val; rw [hi.2]; omega
  · pointwise

/-! ### The totals as sums -/

/-- What an entry weighs in each of the three totals: one, its confidence, its correctness. -/
def weight (x y : Vec Ideal S500000x1 .f32) : Fin 3 → ℕ → EReal
  | 0, _ => 1
  | 1, n => nth x n
  | 2, n => nth y n

/-- Block `t`'s part of total `k` at edge `e`. -/
def part (x y : Vec Ideal S500000x1 .f32) (e : EReal) (k : Fin 3) (t : ℕ) : EReal :=
  ∑ r : Fin 4000, weight x y k (4000 * t + r.val) * ind (e < nth x (4000 * t + r.val))

theorem col_eq (j : Fin 16) : Steps.col j = ix2 0 j := by
  funext a
  match a with
  | ⟨0, _⟩ => rfl
  | ⟨1, _⟩ => rfl

theorem cell_eq (k : Fin 3) (j : Fin 16) : Steps.cell k j = ix2 k j := by
  funext a
  match a with
  | ⟨0, _⟩ => rfl
  | ⟨1, _⟩ => rfl

theorem rowOf_at (k : Fin 3) (xs : Vec Ideal S3x16 .f32) (j : Fin 16) : Steps.rowOf k xs (ix2 0 j) = xs (ix2 k j) :=
  congrArg xs (cell_eq k j)

theorem ind_lt {a a' b b' : EReal} (h : a = a') (h' : b = b') : ind (a < b) = ind (a' < b') := by
  subst h; subst h'; rfl

theorem step_at (t : Fin cfg0.N) (xs : Vec Ideal S3x16 .f32) (k : Fin 3) (j : Fin 16) :
    Steps.step (iblk m c 0 t) (iblk m c 1 t) (iblk m c 2 t) xs (ix2 k j)
      = xs (ix2 k j) + part (m ((c : Thread nD τ).loc main_arg0)) (m ((c : Thread nD τ).loc main_arg1))
          ((show Vec Ideal S16 .f32 from m ((c : Thread nD τ).loc main_arg2)) (ix1 j)) k t.val := by
  have h0 := block0_at m c t
  have h1 := block1_at m c t
  have h2 := block2_at m c t j
  unfold part weight
  match k with
  | 0 =>
    refine (congrArg (k0_pay4 (F := Ideal) _ _ _) (col_eq j)).trans ?_
    refine (pay4_at ..).trans ?_
    rw [rowOf_at]
    simp only [one_mul]
    exact congrArg _ (Finset.sum_congr rfl fun r _ => ind_lt h2 (h0 r))
  | 1 =>
    refine (congrArg (k0_pay5 (F := Ideal) _ _ _) (col_eq j)).trans ?_
    refine (pay5_at ..).trans ?_
    rw [rowOf_at]
    exact congrArg _ (Finset.sum_congr rfl fun r _ => congrArg₂ (· * ·) (h0 r) (ind_lt h2 (h0 r)))
  | 2 =>
    refine (congrArg (k0_pay6 (F := Ideal) _ _ _ _) (col_eq j)).trans ?_
    refine (pay6_at ..).trans ?_
    rw [rowOf_at]
    exact congrArg _ (Finset.sum_congr rfl fun r _ => congrArg₂ (· * ·) (h1 r) (ind_lt h2 (h0 r)))

theorem tot_at (k : Fin 3) (j : Fin 16) : ∀ (n : ℕ) (h : n < cfg0.N), tot m c n h (ix2 k j)
    = ∑ t ∈ Finset.range (n + 1), part (m ((c : Thread nD τ).loc main_arg0)) (m ((c : Thread nD τ).loc main_arg1))
          ((show Vec Ideal S16 .f32 from m ((c : Thread nD τ).loc main_arg2)) (ix1 j)) k t
  | 0, h => by
    refine (step_at m c ⟨0, h⟩ _ k j).trans ?_
    rw [pay2_at, zero_add, Finset.sum_range_one]
  | n + 1, h => by
    refine (step_at m c ⟨n + 1, h⟩ _ k j).trans ?_
    rw [tot_at k j n, Finset.sum_range_succ _ (n + 1)]

/-- After the last point a total is the sum over all entries. -/
theorem tot_last (k : Fin 3) (j : Fin 16) (h : 124 < cfg0.N) : tot m c 124 h (ix2 k j)
    = ∑ r : Fin 500000, weight (m ((c : Thread nD τ).loc main_arg0)) (m ((c : Thread nD τ).loc main_arg1)) k r.val
        * ind ((show Vec Ideal S16 .f32 from m ((c : Thread nD τ).loc main_arg2)) (ix1 j) < nth (m ((c : Thread nD τ).loc main_arg0)) r.val) := by
  rw [tot_at, Finset.sum_range, Fin.sum_univ_tiles 125 4000 rfl]
  exact Finset.sum_congr rfl fun t _ => Finset.sum_congr rfl fun r _ => by rw [Nat.mul_comm]

end Cert.EceIdeal.Fold

end
-- ==== Proof.EceBins.lean ====
/-
  The calibration error's call against its reference: differences of totals over neighbouring edges are the bins' own sums,
  and the reference adds the bins' shares of those.
-/
module

public import proofs.«01_k».proof.Proof.EceFold
public import proofs.«01_k».proof.Proof.Gen.EceReferenceIdeal.Run
public import proofs.«01_k».proof.Pre_edges_ascend
public import Idealize.ShloMosaic.Lib.Tactic.CleanTypes
public import Idealize.ShloMosaic.Lib.ReduceAll

@[expose] public section

noncomputable section

namespace Cert.EceIdeal.Bins

open Idealize.ShloMosaic Idealize.ShloMosaic.TcCoe Idealize.SL.Sem
open Cert.EceIdeal Cert.EceIdeal.Gen Cert.EceIdeal.Fold

/-! ### Sums over a bin -/

/-- A finite extended real. -/
def Finite (x : EReal) : Prop := ∃ q : ℝ, x = q

theorem finite_of_lt {x b : EReal} (h : max x (-x) < b) : Finite x := by
  have h' := max_lt_iff.1 (lt_top_of_lt h)
  refine ⟨x.toReal, (EReal.coe_toReal h'.1.ne ?_).symm⟩
  rintro rfl
  exact absurd h'.2 (by simp)

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem ind_coe (p : Prop) [Decidable p] : ind p = ((if p then 1 else 0 : ℝ) : EReal) := by
  unfold ind
  split <;> simp

/-- What lies above an edge, less what lies above the next one, lies in the bin between them. -/
theorem over_sub {n : ℕ} (w x : Fin n → EReal) (hw : ∀ r, Finite (w r)) (e e' : EReal) (h : e ≤ e') :
    (∑ r, w r * ind (e < x r)) - (∑ r, w r * ind (e' < x r)) = ∑ r, w r * ind (e < x r ∧ x r ≤ e') := by
  choose q hq using hw
  simp only [hq, ind_coe, ← EReal.coe_mul, ← coe_sum, ← EReal.coe_sub, ← Finset.sum_sub_distrib]
  refine congrArg _ (Finset.sum_congr rfl fun r _ => ?_)
  by_cases h1 : e < x r
  · by_cases h2 : x r ≤ e'
    · simp [h1, h2, not_lt.2 h2]
    · simp [h1, h2, not_le.1 h2]
  · have h2 : ¬ e' < x r := fun g => h1 (lt_of_le_of_lt h g)
    simp [h1, h2]

/-- The calibration error over 15 bins, of confidences `x`, correctness `y` and edges `e`. -/
def binned (x y : Vec Ideal S500000x1 .f32) (e : Vec Ideal S16 .f32) : EReal :=
  ∑ b : Fin 15, share (∑ r : Fin 500000, ind (e (ix1 b.castSucc) < x (ix2 r 0) ∧ x (ix2 r 0) ≤ e (ix1 b.succ)))
    (∑ r : Fin 500000, x (ix2 r 0) * ind (e (ix1 b.castSucc) < x (ix2 r 0) ∧ x (ix2 r 0) ≤ e (ix1 b.succ)))
    (∑ r : Fin 500000, y (ix2 r 0) * ind (e (ix1 b.castSucc) < x (ix2 r 0) ∧ x (ix2 r 0) ≤ e (ix1 b.succ)))

theorem nth_at (x : Vec Ideal S500000x1 .f32) (r : Fin 500000) : nth x r.val = x (ix2 r 0) := dif_pos r.isLt

/-- What the precondition says. -/
structure Fit (x y : Vec Ideal S500000x1 .f32) (e : Vec Ideal S16 .f32) : Prop where
  conf : ∀ r : Fin 500000, Finite (x (ix2 r 0))
  corr : ∀ r : Fin 500000, Finite (y (ix2 r 0))
  edges : ∀ b : Fin 15, e (ix1 b.castSucc) ≤ e (ix1 b.succ)

/-- The call's result. -/
theorem G3_at (m : (ℓ : Loc nD τ sig) → Buf (Elt Ideal) ℓ) (c : Dev nD) (x y : Vec Ideal S500000x1 .f32) (e : Vec Ideal S16 .f32)
    (hx : m ((c : Thread nD τ).loc main_arg0) = x) (hy : m ((c : Thread nD τ).loc main_arg1) = y) (he : m ((c : Thread nD τ).loc main_arg2) = e)
    (hf : Fit x y e) (j : S1x1.Idx) : (show Vec Ideal S1x1 .f32 from Value.G3 m c) j = binned x y e := by
  rw [G3_eq]
  refine (pay1_at _ j).trans ?_
  unfold binned
  refine Finset.sum_congr rfl fun b _ => ?_
  simp only [tot_last, hx, hy, he, nth_at]
  have h1 : ∀ r : Fin 500000, weight x y 0 r.val = 1 := fun _ => rfl
  have h2 : ∀ r : Fin 500000, weight x y 1 r.val = x (ix2 r 0) := nth_at x
  have h3 : ∀ r : Fin 500000, weight x y 2 r.val = y (ix2 r 0) := nth_at y
  simp only [h1, h2, h3]
  rw [over_sub (fun _ => 1) (fun r => x (ix2 r 0)) (fun _ => ⟨1, by simp⟩) _ _ (hf.edges b),
    over_sub (fun r => x (ix2 r 0)) (fun r => x (ix2 r 0)) hf.conf _ _ (hf.edges b),
    over_sub (fun r => y (ix2 r 0)) (fun r => x (ix2 r 0)) hf.corr _ _ (hf.edges b)]
  simp only [one_mul]

/-! ### What the precondition gives -/

theorem preFacts : Cert.Pre_edges_ascend.Facts where
  bcast_S_S500000x1 := by decide
  reducesTo_S500000x1_S_d0_1 := by decide
  h_S_ := by decide
  slices_S16_S15_0 := by decide
  slices_S16_S15_1 := by decide
  reducesTo_S15_S_d0 := by decide

theorem both (a b : BitVec 1) (h : IntOp.andi a b = 1#1) : a = 1#1 ∧ b = 1#1 := by
  revert a b; decide

theorem holds_of (p : Prop) [Decidable p] (h : BitVec.ofBool (decide p) = 1#1) : p := by
  by_contra h'
  simp [h'] at h

theorem fit [Cert.Pre_edges_ascend.Facts] (x y : Vec Ideal S500000x1 .f32) (e : Vec Ideal S16 .f32)
    (h : Cert.Pre_edges_ascend.fn (F := Ideal) x y e = fun _ => 1#1) : Fit x y e := by
  have g := both _ _ (congrFun h (fun a => a.elim0))
  have g' := both _ _ g.1
  haveI : Subsingleton Cert.Pre_edges_ascend.S_.Idx := ⟨fun a b => funext fun i => i.elim0⟩
  refine ⟨fun r => ?_, fun r => ?_, fun b => ?_⟩
  · exact finite_of_lt (holds_of _ (Host.reduce_andi_all _ _ _ _ _ g'.1 (ix2 r 0)))
  · exact finite_of_lt (holds_of _ (Host.reduce_andi_all _ _ _ _ _ g'.2 (ix2 r 0)))
  · have k := holds_of _ (Host.reduce_andi_all _ _ _ _ _ g.2 (ix1 b))
    refine le_of_eq_of_le ?_ (k.trans_eq ?_)
    · refine congrArg e (funext fun a => Fin.ext ?_)
      match a with
      | ⟨0, _⟩ => exact (Nat.zero_add b.val).symm
    · refine congrArg e (funext fun a => Fin.ext ?_)
      match a with
      | ⟨0, _⟩ => exact Nat.add_comm 1 b.val

end Cert.EceIdeal.Bins

namespace Cert.EceReferenceIdeal.Value

open Cert.EceReferenceIdeal Cert.EceReferenceIdeal.Gen Idealize.ShloMosaic.StableHlo
open Idealize.ShloMosaic Idealize.ShloMosaic.TcCoe Idealize.SL.Sem

set_option maxRecDepth 16384

open Cert.EceIdeal.Fold in
/-- The reference's result. -/
theorem result_at (m : (ℓ : Loc nD τ sig) → Buf (Elt Ideal) ℓ) (c : Dev nD) (x y : Vec Ideal S500000x1 .f32) (e : Vec Ideal S16 .f32)
    (hx : m ((c.tc : Thread nD τ).loc main_arg0) = x) (hy : m ((c.tc : Thread nD τ).loc main_arg1) = y) (he : m ((c.tc : Thread nD τ).loc main_arg2) = e)
    (j : S1x1.Idx) : (show Vec Ideal S1x1 .f32 from res_main_v34 m c) j = Cert.EceIdeal.Bins.binned x y e := by
  have hs : ∀ (b : Fin 15) (h : 1 + b.val < 16), (⟨1 + b.val, h⟩ : Fin 16) = b.succ := fun b _ => Fin.ext (Nat.add_comm _ _)
  have hc : ∀ (b : Fin 15) (h : b.val < 16), (⟨b.val, h⟩ : Fin 16) = b.castSucc := fun b _ => rfl
  unfold res_main_v34
  rw [hx, hy, he]
  clean_types
  pointwise
  unfold Cert.EceIdeal.Bins.binned
  refine Finset.sum_congr rfl fun b _ => ?_
  simp only [uitofp_ind, hs, hc]
  have hz : id (constant (F := Ideal) S_ .f32 0#32) ix0 = (0 : EReal) := Ideal.ofBits_zero .f32
  rw [hz]
  rfl

end Cert.EceReferenceIdeal.Value

end
-- ==== Proof.EceClaims.lean ====
/-
  The claims of the calibration error's call: its runs and its reference's keep the arguments and leave every counter at
  zero, and the two results are equal.
-/
module

public import proofs.«01_k».proof.Proof.EceBins
public import proofs.«01_k».proof.Proof.Gen.Ece.Frame
public import proofs.«01_k».proof.Proof.Gen.EceIdeal.Frame
public import proofs.«01_k».proof.Defs

@[expose] public section

noncomputable section

namespace Cert.Proof.EceCall

open Idealize.ShloMosaic Idealize.SL.Sem

theorem frame_ece : Cert.quiescent_Ece := fun m ρ _ => Cert.Ece.Gen.frame m ρ

theorem frame_ideal : Cert.quiescent_EceIdeal := fun m ρ _ => Cert.EceIdeal.Gen.frame m ρ

theorem frame_ideal_pre [Cert.Pre_edges_ascend.Facts] : Cert.quiescent_EceIdeal_pre_edges_ascend :=
  fun m ρ _ => Cert.EceIdeal.Gen.frame m ρ

theorem frame_reference : Cert.quiescent_EceReferenceIdeal := fun m ρ _ =>
  (θ_run Cert.EceReferenceIdeal.defs _ _).mono (fun r h => ⟨fun c => (h c).2, sem_eq_zero_of_no_sems (by decide) r.2⟩)
    (Cert.EceReferenceIdeal.Value.run m ρ)

theorem frame_reference_pre [Cert.Pre_edges_ascend.Facts] : Cert.quiescent_EceReferenceIdeal_pre_edges_ascend :=
  fun m ρ _ => frame_reference m ρ trivial

theorem preserves : Cert.preserves_Ece_EceIdeal := trivial

open Cert.EceIdeal.Bins in
/-- The call's result is its reference's. -/
theorem algebraic [Cert.Pre_edges_ascend.Facts] : Cert.algebraic_EceIdeal_EceReferenceIdeal_pre_edges_ascend := by
  intro m ρ m' ρ' hp hm
  refine ⟨fun c => Cert.EceIdeal.Value.G3 m c, Cert.EceIdeal.Value.run m ρ, ?_⟩
  refine (θ_run Cert.EceReferenceIdeal.defs _ _).mono (fun _ h c => ⟨(h c).1.trans ?_, (h c).2⟩) (Cert.EceReferenceIdeal.Value.run m' ρ')
  funext j
  exact (Cert.EceReferenceIdeal.Value.result_at m' c _ _ _ (hm c).1 (hm c).2.1 (hm c).2.2 j).trans
    (G3_at m c _ _ _ rfl rfl rfl (fit _ _ _ (hp c)) j).symm

end Cert.Proof.EceCall

end
-- ==== Proof.ConfRun.lean ====
/-
  The reference of the confidences and the correctness as a list of lines, and its run: the two results as terms of the
  arguments.
-/
module

public import proofs.«01_k».proof.Proof.Gen.ConfReferenceIdeal
public import Idealize.ShloMosaic.Lib.StableHlo.Run

@[expose] public section

noncomputable section

namespace Cert.ConfReferenceIdeal.Lines

open Cert.ConfReferenceIdeal Cert.ConfReferenceIdeal.Gen Idealize.ShloMosaic Idealize.ShloMosaic.TcCoe Idealize.SL.Sem Idealize.ShloMosaic.StableHlo

variable {F : FTy → Type} [FloatOps F]

/-- The reference's lines; those of the function it calls stand where it calls them. -/
abbrev lines : List (HloOp τ sig (Elt F)) :=
  [ nullary main_cst (constant S_ .f32 0xFF800000#32),
    binary main_arg0 main_cst main_v0 ((fun x v => Host.reduce FloatOps.maximumf x v reducesTo_S500000x100_S500000_d1 h_S_) : (⟨S500000x100, .f32⟩ : BufTy).Contents (Elt F) → (⟨S_, .f32⟩ : BufTy).Contents (Elt F) → (⟨S500000, .f32⟩ : BufTy).Contents (Elt F)),
    nullary main_cst_0 (constant S_ .f32 0xFF800000#32),
    unary main_cst_0 main_v1 (broadcastInDim S500000 ![] bcast_S_S500000 : (⟨S_, .f32⟩ : BufTy).Contents (Elt F) → (⟨S500000, .f32⟩ : BufTy).Contents (Elt F)),
    binary main_v1 main_v0 main_v2 (maximumf : (⟨S500000, .f32⟩ : BufTy).Contents (Elt F) → (⟨S500000, .f32⟩ : BufTy).Contents (Elt F) → (⟨S500000, .f32⟩ : BufTy).Contents (Elt F)),
    unary main_v2 main_v3 (broadcastInDim S500000x1 ![0] bcast_S500000_S500000x1_0 : (⟨S500000, .f32⟩ : BufTy).Contents (Elt F) → (⟨S500000x1, .f32⟩ : BufTy).Contents (Elt F)),
    unary main_v3 main_v4 (broadcastInDim S500000x100 ![0, 1] bcast_S500000x1_S500000x100_0_1 : (⟨S500000x1, .f32⟩ : BufTy).Contents (Elt F) → (⟨S500000x100, .f32⟩ : BufTy).Contents (Elt F)),
    binary main_arg0 main_v4 main_v5 (subf : (⟨S500000x100, .f32⟩ : BufTy).Contents (Elt F) → (⟨S500000x100, .f32⟩ : BufTy).Contents (Elt F) → (⟨S500000x100, .f32⟩ : BufTy).Contents (Elt F)),
    unary main_v5 main_v6 (Host.exp : (⟨S500000x100, .f32⟩ : BufTy).Contents (Elt F) → (⟨S500000x100, .f32⟩ : BufTy).Contents (Elt F)),
    nullary main_cst_1 (constant S_ .f32 0x00000000#32),
    binary main_v6 main_cst_1 main_v7 ((fun x v => Host.reduceAdd x v reducesTo_S500000x100_S500000_d1 h_S_) : (⟨S500000x100, .f32⟩ : BufTy).Contents (Elt F) → (⟨S_, .f32⟩ : BufTy).Contents (Elt F) → (⟨S500000, .f32⟩ : BufTy).Contents (Elt F)),
    unary main_v7 main_v8 (broadcastInDim S500000x1 ![0] bcast_S500000_S500000x1_0 : (⟨S500000, .f32⟩ : BufTy).Contents (Elt F) → (⟨S500000x1, .f32⟩ : BufTy).Contents (Elt F)),
    unary main_v8 main_v9 (broadcastInDim S500000x100 ![0, 1] bcast_S500000x1_S500000x100_0_1 : (⟨S500000x1, .f32⟩ : BufTy).Contents (Elt F) → (⟨S500000x100, .f32⟩ : BufTy).Contents (Elt F)),
    binary main_v6 main_v9 main_v10 (Host.divf : (⟨S500000x100, .f32⟩ : BufTy).Contents (Elt F) → (⟨S500000x100, .f32⟩ : BufTy).Contents (Elt F) → (⟨S500000x100, .f32⟩ : BufTy).Contents (Elt F)),
    nullary main_cst_2 (constant S_ .f32 0xFF800000#32),
    binary main_v10 main_cst_2 main_v11 ((fun x v => Host.reduce FloatOps.maximumf x v reducesTo_S500000x100_S500000_d1 h_S_) : (⟨S500000x100, .f32⟩ : BufTy).Contents (Elt F) → (⟨S_, .f32⟩ : BufTy).Contents (Elt F) → (⟨S500000, .f32⟩ : BufTy).Contents (Elt F)),
    TRef.nullary (TRef.of (T := ⟨S500000x100, .i32⟩) main_call0_v0) (iotaInDim S500000x100 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S500000x100, .f32⟩) main_v10) (TRef.of (T := ⟨S500000x100, .i32⟩) main_call0_v0) (TRef.of (T := ⟨S_, .f32⟩) main_call0_cst) (TRef.of (T := ⟨S_, .i32⟩) main_call0_c) (TRef.of (T := ⟨S500000, .f32⟩) main_call0_v1_0)
      (fun x y u v j => (Host.argReduce reducer_argmax_f32_i32 x y u v reducesTo_S500000x100_S500000_d1 h_S_ j).1),
    TRef.quaternary (TRef.of (T := ⟨S500000x100, .f32⟩) main_v10) (TRef.of (T := ⟨S500000x100, .i32⟩) main_call0_v0) (TRef.of (T := ⟨S_, .f32⟩) main_call0_cst) (TRef.of (T := ⟨S_, .i32⟩) main_call0_c) (TRef.of (T := ⟨S500000, .i32⟩) main_v12)
      (fun x y u v j => (Host.argReduce reducer_argmax_f32_i32 x y u v reducesTo_S500000x100_S500000_d1 h_S_ j).2),
    binary main_v12 main_arg1 main_v13 (cmpi .eq : (⟨S500000, .i32⟩ : BufTy).Contents (Elt F) → (⟨S500000, .i32⟩ : BufTy).Contents (Elt F) → (⟨S500000, .i1⟩ : BufTy).Contents (Elt F)),
    unary main_v13 main_v14 (uitofp .f32 : (⟨S500000, .i1⟩ : BufTy).Contents (Elt F) → (⟨S500000, .f32⟩ : BufTy).Contents (Elt F)),
    nullary main_cst_3 (constant S_ .f32 0x3F800000#32),
    unary main_cst_3 main_v15 (broadcastInDim S500000 ![] bcast_S_S500000 : (⟨S_, .f32⟩ : BufTy).Contents (Elt F) → (⟨S500000, .f32⟩ : BufTy).Contents (Elt F)),
    binary main_v11 main_v15 main_v16 (cmpf .oeq : (⟨S500000, .f32⟩ : BufTy).Contents (Elt F) → (⟨S500000, .f32⟩ : BufTy).Contents (Elt F) → (⟨S500000, .i1⟩ : BufTy).Contents (Elt F)),
    nullary main_cst_4 (constant S_ .f32 0x3F7FFFEF#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S500000, .f32⟩) main_call1_v1) (broadcastInDim S500000 ![] bcast_S_S500000),
    TRef.ternary (TRef.of (T := ⟨S500000, .i1⟩) main_v16) (TRef.of (T := ⟨S500000, .f32⟩) main_call1_v1) (TRef.of (T := ⟨S500000, .f32⟩) main_v11) (TRef.of (T := ⟨S500000, .f32⟩) main_v17) select,
    reshape main_v17 main_v18 (rfl : (.f32 : EltTy) = .f32) shapeCasts_S500000_S125x1x4000,
    reshape main_v14 main_v19 (rfl : (.f32 : EltTy) = .f32) shapeCasts_S500000_S125x1x4000 ]

set_option maxRecDepth 8192 in
theorem main_lines (c : Dev nD) : main (F := F) c = seq lines := rfl

theorem no_refs : (Finset.univ.filter fun b : Ref sig .tc => b.isScoped) = ∅ := by decide

theorem no_sems : (Finset.univ.filter fun s : SemLoc sig => s.isScoped .tc) = ∅ := by decide

set_option maxRecDepth 8192 in
theorem lines_bufs : (lines : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., nullary_bufs_sub .., nullary_bufs_sub .., quaternary_bufs_sub .., quaternary_bufs_sub .., binary_bufs_sub .., unary_bufs_sub .., nullary_bufs_sub .., unary_bufs_sub .., binary_bufs_sub .., nullary_bufs_sub .., unary_bufs_sub .., unary_bufs_sub .., ternary_bufs_sub .., reshape_bufs_sub .., reshape_bufs_sub ..⟩

/-- A number for every row, along the row. -/
def along (v : FVec F S500000 .f32) : FVec F S500000x100 .f32 :=
  broadcastInDim S500000x100 ![0, 1] bcast_S500000x1_S500000x100_0_1 (broadcastInDim S500000x1 ![0] bcast_S500000_S500000x1_0 v)

/-- The same number for every row. -/
def flat (v : FVec F S_ .f32) : FVec F S500000 .f32 := broadcastInDim S500000 ![] bcast_S_S500000 v

/-- The maximum of every row. -/
def top (x : FVec F S500000x100 .f32) : FVec F S500000 .f32 :=
  Host.reduce FloatOps.maximumf x (constant S_ .f32 0xFF800000#32) reducesTo_S500000x100_S500000_d1 h_S_

/-- Every row less its maximum, exponentiated. -/
def powers (x : FVec F S500000x100 .f32) : FVec F S500000x100 .f32 :=
  Host.exp (subf x (along (maximumf (flat (constant S_ .f32 0xFF800000#32)) (top x))))

/-- The sum of every row. -/
def total (x : FVec F S500000x100 .f32) : FVec F S500000 .f32 :=
  Host.reduceAdd x (constant S_ .f32 0x00000000#32) reducesTo_S500000x100_S500000_d1 h_S_

/-- The softmax of every row. -/
def soft (x : FVec F S500000x100 .f32) : FVec F S500000x100 .f32 := Host.divf (powers x) (along (total (powers x)))

/-- The confidence of every row. -/
def conf (x : FVec F S500000x100 .f32) : FVec F S500000 .f32 :=
  select (cmpf .oeq (top (soft x)) (flat (constant S_ .f32 0x3F800000#32))) (flat (id (constant S_ .f32 0x3F7FFFEF#32))) (top (soft x))

/-- The confidences. -/
def confs (x : FVec F S500000x100 .f32) : FVec F S125x1x4000 .f32 := shapeCast S125x1x4000 (conf x) shapeCasts_S500000_S125x1x4000

/-- The places of the largest entries. -/
def places {s t u : Shape} {axes : List (Fin s.rank)} (h : s.ReducesTo axes t) (hu : 0 < u.numel) (v : FVec F s .f32) (p : IVec s 32)
    (b : FVec F u .f32) (q : IVec u 32) : IVec t 32 := fun j => (Host.argReduce reducer_argmax_f32_i32 v p b q h hu j).2

/-- The class of the largest softmax of every row. -/
def predicted (x : FVec F S500000x100 .f32) : IVec S500000 32 :=
  places reducesTo_S500000x100_S500000_d1 h_S_ (soft x) (iotaInDim S500000x100 32 1) (constant S_ .f32 0xFF800000#32) (constantI S_ 32 0#32)

/-- Which predictions are the labels. -/
def corrs (x : FVec F S500000x100 .f32) (l : IVec S500000 32) : FVec F S125x1x4000 .f32 :=
  shapeCast S125x1x4000 (uitofp .f32 (cmpi .eq (predicted x) l)) shapeCasts_S500000_S125x1x4000

set_option maxRecDepth 8192 in
set_option maxHeartbeats 2000000 in
/-- Every run of the reference ends with the confidences and the correctness of its arguments, which are as before. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = confs (m ((c.tc : Thread nD τ).loc main_arg0))
      ∧ r.2.mem ((c.tc : Thread nD τ).loc main_v19) = corrs (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c main_v18).trans ?_, (h c main_v19).trans ?_, (h c main_arg0).trans ?_, (h c main_arg1).trans ?_⟩)
    (run_seq no_refs no_sems defs main (fun _ => lines) main_lines (fun _ => lines_bufs) m ρ)
  all_goals simp only [lines, TRef.nullary, TRef.binary, TRef.ternary, TRef.unary, TRef.quaternary, TRef.toBuf, TRef.ofBuf, cast_eq]
  all_goals after_results_simp
  all_goals rfl

end Cert.ConfReferenceIdeal.Lines

end
-- ==== Proof.ConfRow.lean ====
/-
  One row of finite logits with one maximum, over the extended reals: its softmax, the largest softmax, and where that is.
-/
module

public import proofs.«01_k».proof.Proof.ConfRun
public import Idealize.ShloMosaic.Lib.Pointwise

@[expose] public section

noncomputable section

namespace Cert.ConfIdeal.Row

open Idealize.ShloMosaic

/-- A row of finite numbers `x`, of which the one at `k` is above all others. -/
structure Peak (X : Fin 100 → EReal) (x : Fin 100 → ℝ) (k : Fin 100) : Prop where
  real : ∀ c, X c = x c
  top : ∀ c, c ≠ k → x c < x k

theorem neg_inf : Ideal.ofBits .f32 0xFF800000#32 = ⊥ := by simp [Ideal.ofBits, Ideal.ieee]

/-- A maximum of a row is an entry that no other exceeds. -/
theorem fold_max {f : Fin 100 → EReal} (k : Fin 100) (h : ∀ c, f c ≤ f k) :
    Finset.univ.fold max (Ideal.ofBits .f32 0xFF800000#32) f = f k := by
  rw [neg_inf]
  exact le_antisymm (Finset.fold_max_le _ |>.2 ⟨bot_le, fun c _ => h c⟩) (Finset.le_fold_max _ |>.2 (Or.inr ⟨k, Finset.mem_univ _, le_rfl⟩))

variable {X : Fin 100 → EReal} {x : Fin 100 → ℝ} {k : Fin 100}

theorem Peak.le (h : Peak X x k) (c : Fin 100) : x c ≤ x k := by
  by_cases e : c = k
  · rw [e]
  · exact (h.top c e).le

theorem Peak.max_eq (h : Peak X x k) : Finset.univ.fold max (Ideal.ofBits .f32 0xFF800000#32) X = X k :=
  fold_max k fun c => by rw [h.real, h.real]; exact EReal.coe_le_coe_iff.2 (h.le c)

/-- The sum of the row's powers. -/
def norm (x : Fin 100 → ℝ) (k : Fin 100) : ℝ := ∑ c, Real.exp (x c - x k)

theorem norm_pos (x : Fin 100 → ℝ) (k : Fin 100) : 0 < norm x k :=
  Finset.sum_pos (fun c _ => Real.exp_pos _) ⟨k, Finset.mem_univ k⟩

theorem coe_sum (f : Fin 100 → ℝ) : ((∑ i, f i : ℝ) : EReal) = ∑ i, (f i : EReal) := by
  have h : ∀ s : Finset (Fin 100), ((∑ i ∈ s, f i : ℝ) : EReal) = ∑ i ∈ s, (f i : EReal) := by
    intro s
    induction s using Finset.induction_on with
    | empty => simp
    | insert a s h ih => rw [Finset.sum_insert h, Finset.sum_insert h, EReal.coe_add, ih]
  exact h _

theorem Peak.power (h : Peak X x k) (c : Fin 100) : Ideal.exp (X c - X k) = (Real.exp (x c - x k) : ℝ) := by
  rw [h.real, h.real, ← EReal.coe_sub]
  rfl

theorem Peak.sum (h : Peak X x k) : ∑ c, Ideal.exp (X c - X k) = (norm x k : ℝ) := by
  unfold norm
  rw [coe_sum]
  exact Finset.sum_congr rfl fun c _ => h.power c

/-- The softmax at `c`. -/
theorem Peak.soft (h : Peak X x k) (c : Fin 100) :
    Ideal.div (Ideal.exp (X c - X k)) (∑ c, Ideal.exp (X c - X k)) = ((Real.exp (x c - x k) * (1 / norm x k) : ℝ) : EReal) := by
  rw [h.sum, h.power, Ideal.div_coe (norm_pos x k).ne', ← EReal.coe_mul]

theorem Peak.soft_lt (h : Peak X x k) (c : Fin 100) (hc : c ≠ k) :
    Ideal.div (Ideal.exp (X c - X k)) (∑ c, Ideal.exp (X c - X k)) < Ideal.div (Ideal.exp (X k - X k)) (∑ c, Ideal.exp (X c - X k)) := by
  rw [h.soft, h.soft]
  refine EReal.coe_lt_coe_iff.2 (mul_lt_mul_of_pos_right (Real.exp_lt_exp.2 (sub_lt_sub_right (h.top c hc) _)) ?_)
  exact one_div_pos.2 (norm_pos x k)

/-- The softmax at the maximum is one over the sum. -/
theorem Peak.soft_top (h : Peak X x k) :
    Ideal.div (Ideal.exp (X k - X k)) (∑ c, Ideal.exp (X c - X k)) = Ideal.div 1 (∑ c, Ideal.exp (X c - X k)) := by
  rw [h.power, sub_self, Real.exp_zero, EReal.coe_one]

/-! ### The place of the largest -/

section
open Cert.ConfReferenceIdeal

theorem step_self (b : EReal × BitVec 32) : reducer_argmax_f32_i32 (F := Ideal) b b = b := by
  refine Prod.ext ?_ ?_ <;> simp only [reducer_argmax_f32_i32, Scalar.select] <;> split <;> rfl

theorem step_lt (a b : EReal × BitVec 32) (h : a.1 < b.1) : reducer_argmax_f32_i32 (F := Ideal) a b = b := by
  have h1 : FloatOps.cmpf (F := Ideal) (φ := .f32) .ogt a.1 b.1 = 0#1 := by simp [Ideal.cmpf_def, Ideal.cmp, not_lt.2 h.le]
  have h2 : FloatOps.cmpf (F := Ideal) (φ := .f32) .une a.1 a.1 = 0#1 := by simp [Ideal.cmpf_def, Ideal.cmp]
  have h3 : FloatOps.cmpf (F := Ideal) (φ := .f32) .oeq a.1 b.1 = 0#1 := by simp [Ideal.cmpf_def, Ideal.cmp, h.ne]
  simp only [reducer_argmax_f32_i32, h1, h2, h3]
  simp [Scalar.select, IntOp.ori, IntOp.andi]

theorem step_gt (a b : EReal × BitVec 32) (h : b.1 < a.1) : reducer_argmax_f32_i32 (F := Ideal) a b = a := by
  have h1 : FloatOps.cmpf (F := Ideal) (φ := .f32) .ogt a.1 b.1 = 1#1 := by simp [Ideal.cmpf_def, Ideal.cmp, h]
  have h2 : FloatOps.cmpf (F := Ideal) (φ := .f32) .une a.1 a.1 = 0#1 := by simp [Ideal.cmpf_def, Ideal.cmp]
  have h3 : FloatOps.cmpf (F := Ideal) (φ := .f32) .oeq a.1 b.1 = 0#1 := by simp [Ideal.cmpf_def, Ideal.cmp, h.ne']
  simp only [reducer_argmax_f32_i32, h1, h2, h3]
  simp [Scalar.select, IntOp.ori, IntOp.andi]

theorem step_fst (a b : EReal × BitVec 32) :
    (reducer_argmax_f32_i32 (F := Ideal) a b).1 = a.1 ∨ (reducer_argmax_f32_i32 (F := Ideal) a b).1 = b.1 := by
  simp only [reducer_argmax_f32_i32, Scalar.select]
  split
  · exact Or.inl rfl
  · exact Or.inr rfl

/-- Going through a list of numbers with their places, the reference's step keeps the largest and its place. -/
theorem place {ι : Type} [DecidableEq ι] (v : ι → EReal) (p : ι → BitVec 32) (n : ι) :
    ∀ (l : List ι) (a : EReal × BitVec 32), (∀ i ∈ l, i ≠ n → v i < v n) → (a = (v n, p n) ∨ (a.1 < v n ∧ n ∈ l)) →
      l.foldl (fun r i => reducer_argmax_f32_i32 (F := Ideal) r (v i, p i)) a = (v n, p n)
  | [], a, _, h => by
    rcases h with h | h
    · exact h
    · exact absurd h.2 (List.not_mem_nil)
  | i :: l, a, hl, h => by
    refine place v p n l _ (fun j hj => hl j (List.mem_cons_of_mem _ hj)) ?_
    by_cases e : i = n
    · subst e
      refine Or.inl ?_
      rcases h with h | h
      · subst h
        exact step_self _
      · exact step_lt _ _ h.1
    · have hi := hl i List.mem_cons_self e
      rcases h with h | h
      · subst h
        exact Or.inl (step_gt _ _ hi)
      · refine Or.inr ⟨?_, (List.mem_cons.1 h.2).resolve_left fun g => e g.symm⟩
        rcases step_fst a (v i, p i) with g | g
        · rw [g]; exact h.1
        · rw [g]; exact hi

end

/-! ### The kernel's flag -/

/-- One where the word is the place of the maximum, zero elsewhere. -/
theorem Peak.flag (h : Peak X x k) (l : BitVec 32) :
    Finset.univ.fold max (Ideal.ofBits .f32 0xFF800000#32) (fun c => (FloatOps.sitofp .f32 (BitVec.setWidth 32
      (IntOp.andi (IntOp.cmpi .eq (BitVec.ofNat 32 c.val) l) (BitVec.ofBool (decide (X c = X k))))) : Ideal .f32))
      = FloatOps.uitofp (F := Ideal) .f32 (IntOp.cmpi .eq (BitVec.ofNat 32 k.val) l) := by
  have hs : ∀ c, c ≠ k → decide (X c = X k) = false := fun c hc =>
    decide_eq_false fun g => (h.top c hc).ne (EReal.coe_eq_coe_iff.1 (by rw [← h.real, ← h.real, g]))
  have zero : (FloatOps.sitofp .f32 (0#32) : Ideal .f32) = 0 := by
    show (((0#32).toInt : ℝ) : EReal) = 0
    simp
  have one : (FloatOps.sitofp .f32 (1#32) : Ideal .f32) = 1 := by
    show (((1#32).toInt : ℝ) : EReal) = 1
    rw [show (1#32).toInt = 1 from by decide]
    simp
  have off : ∀ c, c ≠ k → (FloatOps.sitofp .f32 (BitVec.setWidth 32
      (IntOp.andi (IntOp.cmpi .eq (BitVec.ofNat 32 c.val) l) (BitVec.ofBool (decide (X c = X k))))) : Ideal .f32) = 0 := by
    intro c hc
    rw [hs c hc, show IntOp.andi (IntOp.cmpi .eq (BitVec.ofNat 32 c.val) l) (BitVec.ofBool false) = 0#1 from
      (by intro b; revert b; decide : ∀ b : BitVec 1, IntOp.andi b (BitVec.ofBool false) = 0#1) _]
    exact zero
  have on : (FloatOps.sitofp .f32 (BitVec.setWidth 32
      (IntOp.andi (IntOp.cmpi .eq (BitVec.ofNat 32 k.val) l) (BitVec.ofBool (decide (X k = X k))))) : Ideal .f32)
      = FloatOps.uitofp (F := Ideal) .f32 (IntOp.cmpi .eq (BitVec.ofNat 32 k.val) l) := by
    rw [decide_eq_true rfl]
    generalize IntOp.cmpi .eq (BitVec.ofNat 32 k.val) l = b
    have hb : b = 0#1 ∨ b = 1#1 := by revert b; decide
    rcases hb with rfl | rfl
    · refine Eq.trans zero ?_
      show (0 : EReal) = (((0#1).toNat : ℝ) : EReal)
      simp
    · refine Eq.trans one ?_
      show (1 : EReal) = (((1#1).toNat : ℝ) : EReal)
      simp
  refine (fold_max k fun c => ?_).trans on
  by_cases hc : c = k
  · rw [hc]
  · refine (off c hc).trans_le (le_of_le_of_eq ?_ on.symm)
    show (0 : EReal) ≤ (((IntOp.cmpi .eq (BitVec.ofNat 32 k.val) l).toNat : ℝ) : EReal)
    exact EReal.coe_nonneg.2 (Nat.cast_nonneg _)

end Cert.ConfIdeal.Row

end
-- ==== Proof.ConfRef.lean ====
/-
  The reference's confidences and correctness, entry by entry, and what the precondition says of a row.
-/
module

public import proofs.«01_k».proof.Proof.ConfRow
public import proofs.«01_k».proof.Pre_one_maximum
public import Idealize.ShloMosaic.Lib.ReduceAll

@[expose] public section

noncomputable section

namespace Cert.ConfReferenceIdeal.Lines

open Cert.ConfReferenceIdeal Cert.ConfReferenceIdeal.Gen Idealize.ShloMosaic Idealize.ShloMosaic.TcCoe Idealize.ShloMosaic.StableHlo
open Cert.ConfIdeal.Row

set_option maxRecDepth 16384

theorem flat_at (v : FVec Ideal S_ .f32) (j : S500000.Idx) : flat v j = v ix0 :=
  congrArg v (funext fun a => a.elim0)

theorem along_at (v : FVec Ideal S500000 .f32) (r : Fin 500000) (c : Fin 100) : along v (ix2 r c) = v (ix1 r) := by
  pointwise [along]

theorem top_at (x : FVec Ideal S500000x100 .f32) (r : Fin 500000) :
    top x (ix1 r) = Finset.univ.fold max (Ideal.ofBits .f32 0xFF800000#32) (fun c => x (ix2 r c)) := by
  pointwise [top]

theorem total_at (x : FVec Ideal S500000x100 .f32) (r : Fin 500000) : total x (ix1 r) = ∑ c, x (ix2 r c) := by
  pointwise [total]

/-- The row of an entry of block `t`. -/
abbrev rowAt (t : Fin 125) (j : Fin 4000) : Fin 500000 := ⟨t.val * 4000 + j.val, by omega⟩

theorem confs_at (x : FVec Ideal S500000x100 .f32) (t : Fin 125) (j : Fin 4000) : confs x (ix3 t 0 j) = conf x (ix1 (rowAt t j)) := by
  pointwise [confs]

theorem corrs_at (x : FVec Ideal S500000x100 .f32) (l : IVec S500000 32) (t : Fin 125) (j : Fin 4000) : corrs x l (ix3 t 0 j)
    = FloatOps.uitofp (F := Ideal) .f32 (IntOp.cmpi .eq (predicted x (ix1 (rowAt t j))) (l (ix1 (rowAt t j)))) := by
  pointwise [corrs]

/-- One over the sum of a row's powers, unless that is one. -/
def confOf (X : Fin 100 → EReal) (k : Fin 100) : EReal :=
  if Ideal.div 1 (∑ c, Ideal.exp (X c - X k)) = 1 then Ideal.ofBits .f32 0x3F7FFFEF#32 else Ideal.div 1 (∑ c, Ideal.exp (X c - X k))

variable {x : FVec Ideal S500000x100 .f32} {r : Fin 500000} {y : Fin 100 → ℝ} {k : Fin 100}

section
variable {S : Shape} (u v : FVec Ideal S .f32) (i : S.Idx)

theorem exp_at : Host.exp u i = Ideal.exp (u i) := rfl
theorem sub_at : subf u v i = u i - v i := rfl
theorem max_at : maximumf u v i = max (u i) (v i) := rfl
theorem div_at : Host.divf u v i = Ideal.div (u i) (v i) := rfl
theorem constant_at (w : BitVec 32) : (constant (F := Ideal) S .f32 w) i = Ideal.ofBits .f32 w := rfl
theorem select_at (p : IVec S 1) : select p u v i = if p i = 1#1 then u i else v i := rfl
theorem eq_at : cmpf .oeq u v i = BitVec.ofBool (decide (u i = v i)) := rfl

end

theorem powers_at (h : Peak (fun c => x (ix2 r c)) y k) (c : Fin 100) : powers x (ix2 r c) = Ideal.exp (x (ix2 r c) - x (ix2 r k)) := by
  unfold powers
  rw [exp_at, sub_at, along_at, max_at, top_at, h.max_eq, flat_at, constant_at, neg_inf, max_eq_right bot_le]

theorem soft_at (h : Peak (fun c => x (ix2 r c)) y k) (c : Fin 100) : soft x (ix2 r c)
    = Ideal.div (Ideal.exp (x (ix2 r c) - x (ix2 r k))) (∑ c, Ideal.exp (x (ix2 r c) - x (ix2 r k))) := by
  unfold soft
  rw [div_at, along_at, total_at, powers_at h]
  exact congrArg _ (Finset.sum_congr rfl fun c _ => powers_at h c)

theorem soft_lt (h : Peak (fun c => x (ix2 r c)) y k) (c : Fin 100) (hc : c ≠ k) : soft x (ix2 r c) < soft x (ix2 r k) := by
  rw [soft_at h, soft_at h]
  exact h.soft_lt c hc

/-- The reference's confidence of a row. -/
theorem conf_at (h : Peak (fun c => x (ix2 r c)) y k) : conf x (ix1 r) = confOf (fun c => x (ix2 r c)) k := by
  have e : top (soft x) (ix1 r) = Ideal.div 1 (∑ c, Ideal.exp (x (ix2 r c) - x (ix2 r k))) := by
    rw [top_at, fold_max k fun c => ?_, soft_at h]
    · exact h.soft_top
    · by_cases hc : c = k
      · rw [hc]
      · exact (soft_lt h c hc).le
  unfold conf
  rw [select_at, eq_at, e, flat_at, flat_at, constant_at, Ideal.ofBits_one_f32, id_eq, constant_at]
  unfold confOf
  by_cases g : Ideal.div 1 (∑ c, Ideal.exp (x (ix2 r c) - x (ix2 r k))) = 1
  · simp [g]
  · simp [g]

/-- The reduction that keeps the largest and its place, where one entry is above the others that it goes through. -/
theorem place_of {s t u : Shape} {axes : List (Fin s.rank)} (v : FVec Ideal s .f32) (p : IVec s 32) (b : FVec Ideal u .f32) (q : IVec u 32)
    (h : s.ReducesTo axes t) (hu : 0 < u.numel) (j : t.Idx) (n : s.Idx) (hn : h.drop n = j) (hv : ∀ i, h.drop i = j → i ≠ n → v i < v n)
    (hb : b (Shape.Idx.first hu) < v n) : (Host.argReduce reducer_argmax_f32_i32 v p b q h hu j).2 = p n := by
  rw [Ideal.argReduce_eq_reduce2]
  have key := place (fun i => v (s.rowMajor.symm i)) (fun i => p (s.rowMajor.symm i)) (s.rowMajor n)
    ((List.finRange s.numel).filter fun i => h.drop (s.rowMajor.symm i) = j) (b (Shape.Idx.first hu), q (Shape.Idx.first hu))
    (fun i hi hne => by
      rw [Equiv.symm_apply_apply]
      exact hv _ (of_decide_eq_true (List.mem_filter.1 hi).2) fun g => hne ((Equiv.symm_apply_eq _).1 g))
    (Or.inr ⟨by rw [Equiv.symm_apply_apply]; exact hb,
      List.mem_filter.2 ⟨List.mem_finRange _, decide_eq_true (by rw [Equiv.symm_apply_apply]; exact hn)⟩⟩)
  unfold Host.reduce2
  refine (congrArg Prod.snd key).trans ?_
  rw [Equiv.symm_apply_apply]

/-- The same of the rows of a matrix, with the columns' numbers as the places. -/
theorem place_row {N : ℕ} {u : Shape} (v : FVec Ideal ⟨2, ![N, 100]⟩ .f32) (b : FVec Ideal u .f32) (q : IVec u 32)
    (h : Shape.ReducesTo ⟨2, ![N, 100]⟩ [1] ⟨1, ![N]⟩) (hu : 0 < u.numel) (r : Fin N) (k : Fin 100)
    (hv : ∀ c, c ≠ k → v (ix2 r c) < v (ix2 r k)) (hb : b (Shape.Idx.first hu) < v (ix2 r k)) :
    places h hu v (iotaInDim ⟨2, ![N, 100]⟩ 32 1) b q (ix1 r) = BitVec.ofNat 32 k.val := by
  unfold places
  rw [place_of v (iotaInDim ⟨2, ![N, 100]⟩ 32 1) b q h hu (ix1 r) (ix2 r k) ((h.fiber_r2_a1 (ix1 r) _).2 ⟨k, rfl⟩) ?_ hb]
  · rfl
  · intro i hi hne
    obtain ⟨c, hc⟩ := (h.fiber_r2_a1 (ix1 r) i).1 hi
    have hc' : i = ix2 r c := hc.symm
    subst hc'
    exact hv c fun g => hne (by rw [g])

/-- The reference's prediction of a row. -/
theorem predicted_at (h : Peak (fun c => x (ix2 r c)) y k) : predicted x (ix1 r) = BitVec.ofNat 32 k.val := by
  have low : (constant (F := Ideal) S_ .f32 0xFF800000#32) (Shape.Idx.first h_S_) < soft x (ix2 r k) := by
    rw [constant_at, soft_at h, h.soft, neg_inf]
    exact EReal.bot_lt_coe _
  unfold predicted
  have above := fun c => soft_lt h c
  generalize soft x = v at low above ⊢
  exact place_row v (constant S_ .f32 0xFF800000#32) (constantI S_ 32 0#32) reducesTo_S500000x100_S500000_d1 h_S_ r k above low

end Cert.ConfReferenceIdeal.Lines

end
-- ==== Proof.ConfPre.lean ====
/-
  What the precondition of the confidences says: every row of logits is finite, and one class of it lies above the others.
-/
module

public import proofs.«01_k».proof.Proof.ConfRow
public import proofs.«01_k».proof.Pre_one_maximum
public import Idealize.ShloMosaic.Lib.ReduceAll

@[expose] public section

noncomputable section

namespace Cert.ConfIdeal.Row

open Idealize.ShloMosaic

set_option maxRecDepth 16384

/-- A sum of flags that is one has one flag. -/
theorem one_flag (f : Fin 100 → Bool)
    (h : Finset.univ.fold IntOp.addi 0#32 (fun c => BitVec.setWidth 32 (BitVec.ofBool (f c))) = 1#32) :
    ∃ k, f k = true ∧ ∀ c, f c = true → c = k := by
  have count : ∀ s : Finset (Fin 100), s.fold IntOp.addi 0#32 (fun c => BitVec.setWidth 32 (BitVec.ofBool (f c)))
      = BitVec.ofNat 32 (s.filter fun c => f c = true).card := by
    intro s
    induction s using Finset.induction_on with
    | empty => rfl
    | insert a s ha ih =>
      rw [Finset.fold_insert ha, ih, Finset.filter_insert]
      cases e : f a
      · rw [if_neg (by decide)]
        exact BitVec.zero_add _
      · rw [if_pos rfl, Finset.card_insert_of_notMem (fun g => ha (Finset.mem_filter.1 g).1), Nat.add_comm, BitVec.ofNat_add]
        rfl
  rw [count] at h
  have small : (Finset.univ.filter fun c => f c = true).card ≤ 100 := (Finset.card_le_univ _).trans (by simp)
  have one : (Finset.univ.filter fun c => f c = true).card = 1 := by
    have := congrArg BitVec.toNat h
    rwa [BitVec.toNat_ofNat, BitVec.toNat_ofNat, Nat.mod_eq_of_lt (by omega)] at this
  obtain ⟨k, hk⟩ := Finset.card_eq_one.1 one
  have mem : ∀ c, f c = true ↔ c = k := fun c => by
    have g := congrArg (fun s => c ∈ s) hk
    simpa using g
  exact ⟨k, (mem k).2 rfl, fun c => (mem c).1⟩

theorem finite_of {x b : EReal} (h : max x (-x) < b) : ∃ q : ℝ, x = q := by
  have h' := max_lt_iff.1 (lt_top_of_lt h)
  refine ⟨x.toReal, (EReal.coe_toReal h'.1.ne fun e => ?_).symm⟩
  exact absurd h'.2 (by simp [e])

/-- A row of finite entries, one of which equals their maximum, has that one above the others. -/
theorem Peak.of (X : Fin 100 → EReal) (hX : ∀ c, ∃ q : ℝ, X c = q)
    (h : ∃ k, X k = Finset.univ.fold max (Ideal.ofBits .f32 0xFF800000#32) X ∧
      ∀ c, X c = Finset.univ.fold max (Ideal.ofBits .f32 0xFF800000#32) X → c = k) : ∃ x k, Peak X x k := by
  choose x hx using hX
  obtain ⟨k, hk, hu⟩ := h
  refine ⟨x, k, hx, fun c hc => ?_⟩
  have le : X c ≤ X k := hk ▸ (Finset.le_fold_max _).2 (Or.inr ⟨c, Finset.mem_univ c, le_rfl⟩)
  have lt : X c < X k := lt_of_le_of_ne le fun e => hc (hu c (e.trans hk))
  rw [hx, hx] at lt
  exact EReal.coe_lt_coe_iff.1 lt

/-- A count of a row's entries equal to another array's. -/
theorem count_row {N : ℕ} (x b : FVec Ideal ⟨2, ![N, 100]⟩ .f32) (h : Shape.ReducesTo ⟨2, ![N, 100]⟩ [1] ⟨1, ![N]⟩)
    (hu : 0 < (⟨0, ![]⟩ : Shape).numel) (w : 1 < 32) (r : Fin N) :
    Host.reduce IntOp.addi (extui 32 (cmpf .oeq x b) w) (constantI ⟨0, ![]⟩ 32 0#32) h hu (ix1 r)
    = Finset.univ.fold IntOp.addi 0#32 (fun c => BitVec.setWidth 32 (BitVec.ofBool (decide (x (ix2 r c) = b (ix2 r c))))) := by
  pointwise

/-- A row's maximum. -/
theorem max_row {N : ℕ} (x : FVec Ideal ⟨2, ![N, 100]⟩ .f32) (h : Shape.ReducesTo ⟨2, ![N, 100]⟩ [1] ⟨1, ![N]⟩)
    (hu : 0 < (⟨0, ![]⟩ : Shape).numel) (r : Fin N) :
    Host.reduce FloatOps.maximumf x (constant (F := Ideal) ⟨0, ![]⟩ .f32 0xFF800000#32) h hu (ix1 r)
    = Finset.univ.fold max (Ideal.ofBits .f32 0xFF800000#32) (fun c => x (ix2 r c)) := by
  pointwise

open Cert.Pre_one_maximum Cert.Pre_one_maximum.Facts in
/-- A number for every row, along the row. -/
theorem along_row [Cert.Pre_one_maximum.Facts] (v : FVec Ideal Cert.Pre_one_maximum.S500000 .f32) (r : Fin 500000) (c : Fin 100) :
    broadcastInDim Cert.Pre_one_maximum.S500000x100 ![0, 1] bcast_S500000x1_S500000x100_0_1
      (broadcastInDim Cert.Pre_one_maximum.S500000x1 ![0] bcast_S500000_S500000x1_0 v) (ix2 r c) = v (ix1 r) := by
  pointwise

theorem preFacts : Cert.Pre_one_maximum.Facts where
  bcast_S_S500000x100 := by decide
  reducesTo_S500000x100_S_d0_1 := by decide
  h_S_ := by decide
  reducesTo_S500000x100_S500000_d1 := by decide
  bcast_S500000_S500000x1_0 := by decide
  bcast_S500000x1_S500000x100_0_1 := by decide
  natLt_1_32 := by decide
  bcast_S_S500000 := by decide
  reducesTo_S500000_S_d0 := by decide

theorem both (a b : BitVec 1) (h : IntOp.andi a b = 1#1) : a = 1#1 ∧ b = 1#1 := by
  revert a b; decide

theorem holds_of (p : Prop) [Decidable p] (h : BitVec.ofBool (decide p) = 1#1) : p := by
  by_contra h'
  simp [h'] at h

theorem same_of (a b : BitVec 32) (h : IntOp.cmpi .eq a b = 1#1) : a = b := by
  have h' := beq_iff_eq (a := a) (b := b)
  revert h
  simp only [IntOp.cmpi]
  cases e : (a == b)
  · exact fun h => absurd h (by decide)
  · exact fun _ => h'.1 e

open Cert.Pre_one_maximum Cert.Pre_one_maximum.Facts in
/-- What the precondition says of a row. -/
theorem peak [Cert.Pre_one_maximum.Facts] (x : FVec Ideal Cert.Pre_one_maximum.S500000x100 .f32) (l : IVec Cert.Pre_one_maximum.S500000 32)
    (h : Cert.Pre_one_maximum.fn (F := Ideal) x l = fun _ => 1#1) (r : Fin 500000) : ∃ y k, Peak (fun c => x (ix2 r c)) y k := by
  have g := both _ _ (congrFun h (fun a => a.elim0))
  haveI : Subsingleton Cert.Pre_one_maximum.S_.Idx := ⟨fun a b => funext fun i => i.elim0⟩
  refine Peak.of _ (fun c => finite_of (holds_of _ (Host.reduce_andi_all _ _ _ _ _ g.1 (ix2 r c)))) ?_
  have e := same_of _ _ (Host.reduce_andi_all _ _ _ _ _ g.2 (ix1 r))
  have e' := (count_row x _ reducesTo_S500000x100_S500000_d1 h_S_ natLt_1_32 r).symm.trans e
  obtain ⟨k, hk, hu⟩ := one_flag _ e'
  have top : ∀ c, broadcastInDim Cert.Pre_one_maximum.S500000x100 ![0, 1] bcast_S500000x1_S500000x100_0_1
      (broadcastInDim Cert.Pre_one_maximum.S500000x1 ![0] bcast_S500000_S500000x1_0 (Host.reduce FloatOps.maximumf x
        (constant (F := Ideal) Cert.Pre_one_maximum.S_ .f32 0xFF800000#32) reducesTo_S500000x100_S500000_d1 h_S_)) (ix2 r c)
      = Finset.univ.fold max (Ideal.ofBits .f32 0xFF800000#32) (fun c => x (ix2 r c)) := fun c =>
    (along_row _ r c).trans (max_row x reducesTo_S500000x100_S500000_d1 h_S_ r)
  exact ⟨k, (of_decide_eq_true hk).trans (top k), fun c hc => hu c (decide_eq_true (hc.trans (top c).symm))⟩

end Cert.ConfIdeal.Row

end
-- ==== Proof.ConfCall.lean ====
/-
  The confidences' call: each point's two blocks off its block of logits and labels, and the two whole results set beside
  the reference's.
-/
module

public import proofs.«01_k».proof.Proof.Gen.ConfIdeal.Value
public import proofs.«01_k».proof.Proof.ConfRef
public import proofs.«01_k».proof.Proof.ConfPre
public import Idealize.ShloMosaic.Lib.Pipeline.Value
public import Idealize.ShloMosaic.Lib.Pipeline.ValueKit.Tiles
public import Idealize.ShloMosaic.Lib.Tactic

@[expose] public section

noncomputable section

namespace Cert.ConfIdeal.Call

open Idealize.ShloMosaic Idealize.ShloMosaic.TcCoe Idealize.SL.Sem
open Cert.ConfIdeal Cert.ConfIdeal.Gen Cert.ConfIdeal.Row
open Cert.ConfReferenceIdeal.Lines (confOf rowAt)

set_option maxRecDepth 16384

theorem hz : (![0, 0, 0] : Fin 3 → Nat) = fun _ => 0 := funext fun a => by fin_cases a <;> rfl

/-! ### One column of a block -/

section
variable {x : Vec Ideal S1x100x4000 .f32} {j : Fin 4000} {y : Fin 100 → ℝ} {k : Fin 100}

/-- The confidence that the kernel stores for a column. -/
theorem pay3_at (h : Peak (fun c => x (ix3 0 c j)) y k) : k0_pay3 (F := Ideal) x (ix3 0 0 j) = confOf (fun c => x (ix3 0 c j)) k := by
  have e := h.max_eq
  unfold confOf
  pointwise [k0_pay3, k0_pay2, k0_pay1]
  rw [e]

/-- The correctness that the kernel stores for a column. -/
theorem pay4_at (h : Peak (fun c => x (ix3 0 c j)) y k) (l : Vec Ideal S1x1x4000 .i32) : k0_pay4 (F := Ideal) x l (ix3 0 0 j)
    = FloatOps.uitofp (F := Ideal) .f32 (IntOp.cmpi .eq (BitVec.ofNat 32 k.val) (l (ix3 0 0 j))) := by
  have e := h.max_eq
  refine Eq.trans ?_ (h.flag (l (ix3 0 0 j)))
  pointwise [k0_pay4, k0_pay2, k0_pay1]
  rw [e]

end

variable (m : (ℓ : Loc nD τ sig) → Buf (Elt Ideal) ℓ) (c : Dev nD)

/-! ### A block read off the argument arrays -/

/-- The logits and the labels that the call is given. -/
abbrev logits : FVec Ideal S500000x100 .f32 := m ((c : Thread nD τ).loc main_arg0)
abbrev labels : IVec S500000 32 := m ((c : Thread nD τ).loc main_arg1)

theorem index0 : ∀ t : Fin grid0.N, win0_0.index t 0 = t.val ∧ win0_0.index t 1 = 0 ∧ win0_0.index t 2 = 0 := by decide +kernel
theorem index1 : ∀ t : Fin grid0.N, win0_1.index t 0 = t.val ∧ win0_1.index t 1 = 0 ∧ win0_1.index t 2 = 0 := by decide +kernel
theorem index2 : ∀ t : Fin grid0.N, win0_2.index t 0 = t.val ∧ win0_2.index t 1 = 0 ∧ win0_2.index t 2 = 0 := by decide +kernel
theorem index3 : ∀ t : Fin grid0.N, win0_3.index t 0 = t.val ∧ win0_3.index t 1 = 0 ∧ win0_3.index t 2 = 0 := by decide +kernel
theorem flush2 : ∀ t : Fin grid0.N, win0_2.flush t = true := by decide +kernel
theorem flush3 : ∀ t : Fin grid0.N, win0_3.flush t = true := by decide +kernel

/-- A grid point of a block's number. -/
abbrev point (t : Fin 125) : Fin cfg0.N := ⟨t.val, lt_of_lt_of_eq t.isLt N_0.symm⟩

/-- The logits as the call reads them: 125 blocks, each with its rows as columns. -/
theorem logits_in : V m c main_v1 = transpose S125x100x4000 [0, 2, 1]
    (shapeCast S125x4000x100 (logits m c) shapeCasts_S500000x100_S125x4000x100) transposes_S125x4000x100_S125x100x4000_0_2_1 := by
  unfold V hostOps0
  after_results
  rfl

theorem labels_in : V m c main_v2 = shapeCast S125x1x4000 (labels m c) shapeCasts_S500000_S125x1x4000 := by
  unfold V hostOps0
  after_results
  rfl

theorem blocked (x : FVec Ideal S500000x100 .f32) (t : Fin 125) (k : Fin 100) (j : Fin 4000) : transpose S125x100x4000 [0, 2, 1]
    (shapeCast S125x4000x100 x shapeCasts_S500000x100_S125x4000x100) transposes_S125x4000x100_S125x100x4000_0_2_1 (ix3 t k j)
    = x (ix2 (rowAt t j) k) := by
  pointwise

theorem blocked_row (l : IVec S500000 32) (t : Fin 125) (j : Fin 4000) :
    shapeCast S125x1x4000 l shapeCasts_S500000_S125x1x4000 (ix3 t 0 j) = l (ix1 (rowAt t j)) := by
  pointwise

theorem block0_at (t : Fin 125) (k : Fin 100) (j : Fin 4000) :
    (show Vec Ideal S1x100x4000 .f32 from iblk m c 0 (point t)) (ix3 0 k j) = logits m c (ix2 (rowAt t j) k) := by
  have hi := index0 (point t)
  show View.read (Elt Ideal) ((cfg0.win 0).blk (point t)).view (V m c main_v1) (ix3 0 k j) = _
  rw [View.read_apply, logits_in]
  refine Eq.trans (congrArg (transpose S125x100x4000 [0, 2, 1]
    (shapeCast S125x4000x100 (logits m c) shapeCasts_S500000x100_S125x4000x100) transposes_S125x4000x100_S125x100x4000_0_2_1)
    (show _ = ix3 t k j from funext fun a => Fin.ext ?_)) (blocked _ t k j)
  match a with
  | ⟨0, _⟩ => show win0_0.index (point t) 0 * 1 + 1 * 0 = t.val; rw [hi.1]; simp
  | ⟨1, _⟩ => show win0_0.index (point t) 1 * 100 + 1 * k.val = k.val; rw [hi.2.1]; omega
  | ⟨2, _⟩ => show win0_0.index (point t) 2 * 4000 + 1 * j.val = j.val; rw [hi.2.2]; omega

theorem block1_at (t : Fin 125) (j : Fin 4000) :
    (show Vec Ideal S1x1x4000 .i32 from iblk m c 1 (point t)) (ix3 0 0 j) = labels m c (ix1 (rowAt t j)) := by
  have hi := index1 (point t)
  show View.read (Elt Ideal) ((cfg0.win 1).blk (point t)).view (V m c main_v2) (ix3 0 0 j) = _
  rw [View.read_apply, labels_in]
  refine Eq.trans (congrArg (shapeCast S125x1x4000 (labels m c) shapeCasts_S500000_S125x1x4000)
    (show _ = ix3 t 0 j from funext fun a => Fin.ext ?_)) (blocked_row _ t j)
  match a with
  | ⟨0, _⟩ => show win0_1.index (point t) 0 * 1 + 1 * 0 = t.val; rw [hi.1]; simp
  | ⟨1, _⟩ => show win0_1.index (point t) 1 * 1 + 1 * 0 = 0; rw [hi.2.1]
  | ⟨2, _⟩ => show win0_1.index (point t) 2 * 4000 + 1 * j.val = j.val; rw [hi.2.2]; omega

/-! ### The two results -/

theorem result2_at (t : Fin 125) (j : Fin 4000) : (show Vec Ideal S125x1x4000 .f32 from (dats m 0 c).arrAt 2 cfg0.N) (ix3 t 0 j)
    = k0_pay3 (F := Ideal) (iblk m c 0 (point t)) (ix3 0 0 j) := by
  have hi := index2 (point t)
  have b := congrFun ((Value.blocks2 m c (point t) (flush2 _)).trans (Value.flushed2 m c (point t))) (ix3 0 0 j)
  rw [View.read_apply] at b
  refine Eq.trans (congrArg ((dats m 0 c).arrAt 2 cfg0.N) (show ix3 t 0 j = _ from funext fun a => Fin.ext ?_)) (b.trans ?_)
  · match a with
    | ⟨0, _⟩ => show t.val = win0_2.index (point t) 0 * 1 + 1 * 0; rw [hi.1]; simp
    | ⟨1, _⟩ => show 0 = win0_2.index (point t) 1 * 1 + 1 * 0; rw [hi.2.1]
    | ⟨2, _⟩ => show j.val = win0_2.index (point t) 2 * 4000 + 1 * j.val; rw [hi.2.2]; omega
  · show out0_2 (iblk m c 0 (point t)) (iblk m c 1 (point t)) (ix3 0 0 j) = _
    unfold out0_2
    rw [View.canon_unit_zero (S := S1x1x4000) hz, View.ld_unit_zero (S := S1x100x4000) hz]

theorem result3_at (t : Fin 125) (j : Fin 4000) : (show Vec Ideal S125x1x4000 .f32 from (dats m 0 c).arrAt 3 cfg0.N) (ix3 t 0 j)
    = k0_pay4 (F := Ideal) (iblk m c 0 (point t)) (iblk m c 1 (point t)) (ix3 0 0 j) := by
  have hi := index3 (point t)
  have b := congrFun ((Value.blocks3 m c (point t) (flush3 _)).trans (Value.flushed3 m c (point t))) (ix3 0 0 j)
  rw [View.read_apply] at b
  refine Eq.trans (congrArg ((dats m 0 c).arrAt 3 cfg0.N) (show ix3 t 0 j = _ from funext fun a => Fin.ext ?_)) (b.trans ?_)
  · match a with
    | ⟨0, _⟩ => show t.val = win0_3.index (point t) 0 * 1 + 1 * 0; rw [hi.1]; simp
    | ⟨1, _⟩ => show 0 = win0_3.index (point t) 1 * 1 + 1 * 0; rw [hi.2.1]
    | ⟨2, _⟩ => show j.val = win0_3.index (point t) 2 * 4000 + 1 * j.val; rw [hi.2.2]; omega
  · show out0_3 (iblk m c 0 (point t)) (iblk m c 1 (point t)) (ix3 0 0 j) = _
    unfold out0_3
    rw [View.canon_unit_zero (S := S1x1x4000) hz, View.ld_unit_zero (S := S1x100x4000) hz, View.ld_unit_zero (S := S1x1x4000) hz]

variable (h : ∀ r : Fin 500000, ∃ y k, Peak (fun i => logits m c (ix2 r i)) y k)

theorem column (t : Fin 125) (j : Fin 4000) :
    (fun i => (show Vec Ideal S1x100x4000 .f32 from iblk m c 0 (point t)) (ix3 0 i j)) = fun i => logits m c (ix2 (rowAt t j) i) :=
  funext fun i => block0_at m c t i j

theorem split (i : S125x1x4000.Idx) : ∃ (t : Fin 125) (j : Fin 4000), i = ix3 t 0 j :=
  ⟨i 0, i 2, funext fun a => match a with
    | ⟨0, _⟩ => rfl
    | ⟨1, _⟩ => Fin.ext (Nat.lt_one_iff.1 (i 1).isLt)
    | ⟨2, _⟩ => rfl⟩

include h in
/-- The call's confidences are the reference's. -/
theorem confs_eq : (show Vec Ideal S125x1x4000 .f32 from (dats m 0 c).arrAt 2 cfg0.N) = Cert.ConfReferenceIdeal.Lines.confs (logits m c) := by
  funext i
  obtain ⟨t, j, rfl⟩ := split i
  obtain ⟨y, k, hk⟩ := h (rowAt t j)
  have e := column m c t j
  refine (result2_at m c t j).trans ((pay3_at (y := y) (k := k) (e ▸ hk)).trans ?_)
  refine Eq.trans (congrArg (fun X => confOf X k) e) ?_
  exact ((Cert.ConfReferenceIdeal.Lines.confs_at _ t j).trans (Cert.ConfReferenceIdeal.Lines.conf_at hk)).symm

include h in
/-- The call's correctness is the reference's. -/
theorem corrs_eq : (show Vec Ideal S125x1x4000 .f32 from (dats m 0 c).arrAt 3 cfg0.N)
    = Cert.ConfReferenceIdeal.Lines.corrs (logits m c) (labels m c) := by
  funext i
  obtain ⟨t, j, rfl⟩ := split i
  obtain ⟨y, k, hk⟩ := h (rowAt t j)
  have e := column m c t j
  refine (result3_at m c t j).trans ((pay4_at (y := y) (k := k) (e ▸ hk) _).trans ?_)
  rw [Cert.ConfReferenceIdeal.Lines.corrs_at, Cert.ConfReferenceIdeal.Lines.predicted_at hk]
  exact congrArg (fun l => FloatOps.uitofp (F := Ideal) .f32 (IntOp.cmpi .eq (BitVec.ofNat 32 k.val) l)) (block1_at m c t j)

end Cert.ConfIdeal.Call

end
-- ==== Proof.ConfClaims.lean ====
/-
  The claims of the confidences' call: its runs and its reference's keep the arguments and leave every counter at zero, and
  the two results of each are equal.
-/
module

public import proofs.«01_k».proof.Proof.ConfCall
public import proofs.«01_k».proof.Proof.Gen.Conf.Frame
public import proofs.«01_k».proof.Proof.Gen.ConfIdeal.Frame
public import proofs.«01_k».proof.Defs

@[expose] public section

noncomputable section

namespace Cert.Proof.ConfCall

open Idealize.ShloMosaic Idealize.SL.Sem

theorem frame_conf : Cert.quiescent_Conf := fun m ρ _ => Cert.Conf.Gen.frame m ρ

theorem frame_ideal : Cert.quiescent_ConfIdeal := fun m ρ _ => Cert.ConfIdeal.Gen.frame m ρ

theorem frame_ideal_pre [Cert.Pre_one_maximum.Facts] : Cert.quiescent_ConfIdeal_pre_one_maximum :=
  fun m ρ _ => Cert.ConfIdeal.Gen.frame m ρ

theorem frame_reference : Cert.quiescent_ConfReferenceIdeal := fun m ρ _ =>
  (θ_run Cert.ConfReferenceIdeal.defs _ _).mono (fun r h => ⟨fun c => (h c).2.2, sem_eq_zero_of_no_sems (by decide) r.2⟩)
    (Cert.ConfReferenceIdeal.Lines.run m ρ)

theorem frame_reference_pre [Cert.Pre_one_maximum.Facts] : Cert.quiescent_ConfReferenceIdeal_pre_one_maximum :=
  fun m ρ _ => frame_reference m ρ trivial

theorem preserves : Cert.preserves_Conf_ConfIdeal := trivial

open Cert.ConfReferenceIdeal.Lines in
/-- The call's confidences and correctness are its reference's. -/
theorem algebraic [Cert.Pre_one_maximum.Facts] : Cert.algebraic_ConfIdeal_ConfReferenceIdeal_pre_one_maximum := by
  intro m ρ m' ρ' hp hm
  refine ⟨fun c => confs (Cert.ConfIdeal.Call.logits m c), fun c => corrs (Cert.ConfIdeal.Call.logits m c) (Cert.ConfIdeal.Call.labels m c),
    ?_, ?_⟩
  · refine (θ_run Cert.ConfIdeal.defs _ _).mono (fun _ h c => ⟨(h c).1.trans ?_, (h c).2.1.trans ?_, (h c).2.2⟩)
      (Cert.ConfIdeal.Value.run_blocks m ρ)
    · exact Cert.ConfIdeal.Call.confs_eq m c (Cert.ConfIdeal.Row.peak _ _ (hp c))
    · exact Cert.ConfIdeal.Call.corrs_eq m c (Cert.ConfIdeal.Row.peak _ _ (hp c))
  · refine (θ_run Cert.ConfReferenceIdeal.defs _ _).mono (fun _ h c => ⟨(h c).1.trans ?_, (h c).2.1.trans ?_, (h c).2.2⟩) (run m' ρ')
    · rw [(hm c).1]
    · rw [(hm c).1, (hm c).2]

end Cert.Proof.ConfCall

end
-- ==== Proof.lean ====
module

public import proofs.«01_k».proof.Proof.Claims
public import proofs.«01_k».proof.Proof.EceClaims
public import proofs.«01_k».proof.Proof.ConfClaims
public import proofs.«01_k».proof.Proof.Gen.Ece.Frame
public import proofs.«01_k».proof.Proof.Gen.EceIdeal.Frame
public import proofs.«01_k».proof.Proof.Gen.EceIdeal.Value
public import proofs.«01_k».proof.Proof.Gen.EceReferenceIdeal.Run
public import proofs.«01_k».proof.Proof.Gen.Conf.Frame
public import proofs.«01_k».proof.Proof.Gen.ConfIdeal.Frame
public import proofs.«01_k».proof.Proof.Gen.ConfIdeal.Value
public import proofs.«01_k».proof.Proof.Gen.ConfReferenceIdeal

@[expose] public section

noncomputable section

namespace Cert.Proof

/-- Everything the certificate claims. -/
theorem claim : Cert.Claim :=
  ⟨Cert.Kernel.Gen.facts, Cert.Reference.Gen.facts, Cert.Ece.Gen.facts, Cert.EceIdeal.Gen.facts, Cert.EceReferenceIdeal.Gen.facts,
    Cert.Conf.Gen.facts, Cert.ConfIdeal.Gen.facts, Cert.ConfReferenceIdeal.Gen.facts,
    preFacts, Cert.EceIdeal.Bins.preFacts, Cert.ConfIdeal.Row.preFacts, @frame_kernel preFacts, @frame_reference preFacts,
    EceCall.frame_ece, EceCall.frame_ideal, @EceCall.frame_ideal_pre Cert.EceIdeal.Bins.preFacts, EceCall.frame_reference,
    @EceCall.frame_reference_pre Cert.EceIdeal.Bins.preFacts,
    ConfCall.frame_conf, ConfCall.frame_ideal, @ConfCall.frame_ideal_pre Cert.ConfIdeal.Row.preFacts, ConfCall.frame_reference,
    @ConfCall.frame_reference_pre Cert.ConfIdeal.Row.preFacts,
    @bitexact preFacts, EceCall.preserves, @EceCall.algebraic Cert.EceIdeal.Bins.preFacts,
    ConfCall.preserves, @ConfCall.algebraic Cert.ConfIdeal.Row.preFacts⟩

end Cert.Proof

end
